-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 512, 64, 64]⟩ ⟨4, ![2, 4096, 64, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 64, 64]⟩ ⟨4, ![2, 4096, 64, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x512x768 : Shape := ⟨3, ![2, 512, 768]⟩
abbrev S768x512 : Shape := ⟨2, ![768, 512]⟩
abbrev S2x512x64x64 : Shape := ⟨4, ![2, 512, 64, 64]⟩
abbrev S512x768 : Shape := ⟨2, ![512, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  bcast_S_S768x512 : S_.BroadcastsInDim S768x512 (![] : Fin 0 → Fin S768x512.rank)
  bcast_S_S2x512x64x64 : S_.BroadcastsInDim S2x512x64x64 (![] : Fin 0 → Fin S2x512x64x64.rank)

variable [Facts]

def fn {F : FTy → Type} [FloatOps F] (main_arg0 : FVec F S2x512x768 .bf16) (main_arg1 : FVec F S768x512 .bf16) (main_arg2 : FVec F S2x512x64x64 .bf16) (main_arg3 : FVec F S2x512x64x64 .bf16) (main_arg4 : FVec F S512x768 .bf16) : IVec S2x512x768 1 × IVec S768x512 1 × IVec S2x512x64x64 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_v4 : FVec F S768x512 .f32 := (extf .f32 · bitsLt_bf16_f32) main_arg1
  let main_v5 : FVec F S768x512 .f32 := Host.absf main_v4
  let main_cst_0 : FVec F S_ .f32 := constant S_ .f32 0x7F800000#32
  let main_v6 : FVec F S768x512 .f32 := broadcastInDim S768x512 ![] bcast_S_S768x512 main_cst_0
  let main_v7 : IVec S768x512 1 := cmpf .olt main_v5 main_v6
  let main_v8 : FVec F S2x512x64x64 .f32 := (extf .f32 · bitsLt_bf16_f32) main_arg2
  let main_v9 : FVec F S2x512x64x64 .f32 := Host.absf main_v8
  let main_cst_1 : FVec F S_ .f32 := constant S_ .f32 0x7F800000#32
  let main_v10 : FVec F S2x512x64x64 .f32 := broadcastInDim S2x512x64x64 ![] bcast_S_S2x512x64x64 main_cst_1
  let main_v11 : IVec S2x512x64x64 1 := cmpf .olt main_v9 main_v10
  (main_v3, main_v7, main_v11)
-- ==== Pre_finite_scores_ReferenceIdeal.lean ====
abbrev S2x512x768 : Shape := ⟨3, ![2, 512, 768]⟩
abbrev S768x4096 : Shape := ⟨2, ![768, 4096]⟩
abbrev S2x4096x64x64 : Shape := ⟨4, ![2, 4096, 64, 64]⟩
abbrev S4096x768 : Shape := ⟨2, ![4096, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  bcast_S_S768x4096 : S_.BroadcastsInDim S768x4096 (![] : Fin 0 → Fin S768x4096.rank)
  bcast_S_S2x4096x64x64 : S_.BroadcastsInDim S2x4096x64x64 (![] : Fin 0 → Fin S2x4096x64x64.rank)

variable [Facts]

def fn {F : FTy → Type} [FloatOps F] (main_arg0 : FVec F S2x512x768 .bf16) (main_arg1 : FVec F S768x4096 .bf16) (main_arg2 : FVec F S2x4096x64x64 .bf16) (main_arg3 : FVec F S2x4096x64x64 .bf16) (main_arg4 : FVec F S4096x768 .bf16) : IVec S2x512x768 1 × IVec S768x4096 1 × IVec S2x4096x64x64 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_v4 : FVec F S768x4096 .f32 := (extf .f32 · bitsLt_bf16_f32) main_arg1
  let main_v5 : FVec F S768x4096 .f32 := Host.absf main_v4
  let main_cst_0 : FVec F S_ .f32 := constant S_ .f32 0x7F800000#32
  let main_v6 : FVec F S768x4096 .f32 := broadcastInDim S768x4096 ![] bcast_S_S768x4096 main_cst_0
  let main_v7 : IVec S768x4096 1 := cmpf .olt main_v5 main_v6
  let main_v8 : FVec F S2x4096x64x64 .f32 := (extf .f32 · bitsLt_bf16_f32) main_arg2
  let main_v9 : FVec F S2x4096x64x64 .f32 := Host.absf main_v8
  let main_cst_1 : FVec F S_ .f32 := constant S_ .f32 0x7F800000#32
  let main_v10 : FVec F S2x4096x64x64 .f32 := broadcastInDim S2x4096x64x64 ![] bcast_S_S2x4096x64x64 main_cst_1
  let main_v11 : IVec S2x4096x64x64 1 := cmpf .olt main_v9 main_v10
  (main_v3, main_v7, main_v11)
-- ==== Kernel.lean ====
abbrev S2x512x768 : Shape := ⟨3, ![2, 512, 768]⟩
abbrev S768x512 : Shape := ⟨2, ![768, 512]⟩
abbrev S2x512x64x64 : Shape := ⟨4, ![2, 512, 64, 64]⟩
abbrev S512x768 : Shape := ⟨2, ![512, 768]⟩
abbrev S2x2x4x64x64x64 : Shape := ⟨6, ![2, 2, 4, 64, 64, 64]⟩
abbrev S2x64x4x2x64x64 : Shape := ⟨6, ![2, 64, 4, 2, 64, 64]⟩
abbrev S2x64x4x128x64 : Shape := ⟨5, ![2, 64, 4, 128, 64]⟩
abbrev S8x2x8x4x128x64 : Shape := ⟨6, ![8, 2, 8, 4, 128, 64]⟩
abbrev S16x512x64 : Shape := ⟨3, ![16, 512, 64]⟩
abbrev S3x2x256x768 : Shape := ⟨4, ![3, 2, 256, 768]⟩
abbrev S7 : Shape := ⟨1, ![7]⟩
abbrev S3 : Shape := ⟨1, ![3]⟩
abbrev S2 : Shape := ⟨1, ![2]⟩
abbrev S_ : Shape := ⟨0, ![]⟩
abbrev S1 : Shape := ⟨1, ![1]⟩
abbrev S1x2x8x4x128x64 : Shape := ⟨6, ![1, 2, 8, 4, 128, 64]⟩
abbrev S2x8x4x128x64 : Shape := ⟨5, ![2, 8, 4, 128, 64]⟩
abbrev S1x512x768 : Shape := ⟨3, ![1, 512, 768]⟩
abbrev S512x512 : Shape := ⟨2, ![512, 512]⟩
abbrev S512x64 : Shape := ⟨2, ![512, 64]⟩
abbrev S1x512x64 : Shape := ⟨3, ![1, 512, 64]⟩
abbrev S64x768 : Shape := ⟨2, ![64, 768]⟩
abbrev S64x64 : Shape := ⟨2, ![64, 64]⟩
abbrev S128x64 : Shape := ⟨2, ![128, 64]⟩
abbrev S1x1x1x1x128x64 : Shape := ⟨6, ![1, 1, 1, 1, 128, 64]⟩
abbrev S1024x64 : Shape := ⟨2, ![1024, 64]⟩
abbrev S128x1024 : Shape := ⟨2, ![128, 1024]⟩
abbrev S128 : Shape := ⟨1, ![128]⟩
abbrev S128x1 : Shape := ⟨2, ![128, 1]⟩
abbrev S128x768 : Shape := ⟨2, ![128, 768]⟩
abbrev S1x64x768 : Shape := ⟨3, ![1, 64, 768]⟩
abbrev S2x256x768 : Shape := ⟨3, ![2, 256, 768]⟩
abbrev S1x2x256x768 : Shape := ⟨4, ![1, 2, 256, 768]⟩
abbrev S2x128x768 : Shape := ⟨3, ![2, 128, 768]⟩
abbrev S1x2x128x768 : Shape := ⟨4, ![1, 2, 128, 768]⟩
abbrev S2x64x768 : Shape := ⟨3, ![2, 64, 768]⟩
abbrev S1x2x64x768 : Shape := ⟨4, ![1, 2, 64, 768]⟩

abbrev nBuf : Space → Nat
  | .hbm => 12
  | .vmem => 11
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x64x64, .bf16⟩
  | .hbm, ⟨3, _⟩ => ⟨S2x512x64x64, .bf16⟩
  | .hbm, ⟨4, _⟩ => ⟨S512x768, .bf16⟩
  | .hbm, ⟨5, _⟩ => ⟨S2x2x4x64x64x64, .bf16⟩
  | .hbm, ⟨6, _⟩ => ⟨S2x64x4x2x64x64, .bf16⟩
  | .hbm, ⟨7, _⟩ => ⟨S2x64x4x128x64, .bf16⟩
  | .hbm, ⟨8, _⟩ => ⟨S2x2x4x64x64x64, .bf16⟩
  | .hbm, ⟨9, _⟩ => ⟨S2x64x4x2x64x64, .bf16⟩
  | .hbm, ⟨10, _⟩ => ⟨S2x64x4x128x64, .bf16⟩
  | .hbm, ⟨11, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S512x768, .bf16⟩
  | .local _ .vmem, ⟨3, _⟩ => ⟨S2x512x768, .f32⟩
  | .local _ .vmem, ⟨4, _⟩ => ⟨S8x2x8x4x128x64, .bf16⟩
  | .local _ .vmem, ⟨5, _⟩ => ⟨S8x2x8x4x128x64, .bf16⟩
  | .local _ .vmem, ⟨6, _⟩ => ⟨S16x512x64, .bf16⟩
  | .local _ .vmem, ⟨7, _⟩ => ⟨S3x2x256x768, .bf16⟩
  | .local _ .vmem, ⟨8, _⟩ => ⟨S3x2x256x768, .bf16⟩
  | .local _ .vmem, ⟨9, _⟩ => ⟨S3x2x256x768, .bf16⟩
  | .local _ .vmem, ⟨10, _⟩ => ⟨S3x2x256x768, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 1 46 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 6 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_76 : BitVec 32 := 0#32
  let c0_i32_77 : BitVec 32 := 0#32
  let c0_i32_78 : BitVec 32 := 0#32
  let c0_i32_79 : BitVec 32 := 0#32
  let c0_i32_80 : BitVec 32 := 0#32
  ![v2.toNat, 0, 0, 0, 0, 0]
def k0_off2 (d0 : Dev nD) (c1_i32_64 : BitVec 32) : Fin 5 → Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c8_i32_71 : BitVec 32 := 8#32
  let v106 : BitVec 32 := Scalar.muli v105 c8_i32_71
  let c0_i32_82 : BitVec 32 := 0#32
  let c0_i32_83 : BitVec 32 := 0#32
  let c0_i32_84 : BitVec 32 := 0#32
  ![0, v106.toNat, 0, 0, 0]
def k0_dev8 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_64 : BitVec 32 := 1#32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c1_i32_74 : BitVec 32 := 1#32
  let v107 : BitVec 32 := Scalar.muli v105 c1_i32_74
  let v108 : BitVec 32 := Scalar.addi c0_i32_75 v107
  v108.toNat
def k0_dev9 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_64 : BitVec 32 := 1#32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c1_i32_88 : BitVec 32 := 1#32
  let v117 : BitVec 32 := Scalar.muli v105 c1_i32_88
  let v118 : BitVec 32 := Scalar.addi c0_i32_89 v117
  v118.toNat
def k0_dev10 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_99 : BitVec 32 := 2#32
  let v126 : BitVec 32 := Scalar.addi v2 c2_i32_99
  let c8_i32_100 : BitVec 32 := 8#32
  let c0_i32_101 : BitVec 32 := 0#32
  let v127 : BitVec 1 := Scalar.cmpi .eq c8_i32_100 c0_i32_101
  let c1_i32_102 : BitVec 32 := 1#32
  let v128 : BitVec 32 := Scalar.select v127 c1_i32_102 c8_i32_100
  let v129 : BitVec 32 := Scalar.remsi v126 v128
  let c0_i32_104 : BitVec 32 := 0#32
  let v131 : BitVec 1 := Scalar.cmpi .slt v129 c0_i32_104
  let c0_i32_105 : BitVec 32 := 0#32
  let v132 : BitVec 1 := Scalar.cmpi .slt v128 c0_i32_105
  let v133 : BitVec 1 := Scalar.xori v131 v132
  let c0_i32_103 : BitVec 32 := 0#32
  let v130 : BitVec 1 := Scalar.cmpi .ne v129 c0_i32_103
  let v134 : BitVec 1 := Scalar.andi v133 v130
  let v135 : BitVec 32 := Scalar.addi v129 v128
  let v136 : BitVec 32 := Scalar.select v134 v135 v129
  let c1_i32_109 : BitVec 32 := 1#32
  let v138 : BitVec 32 := Scalar.muli v136 c1_i32_109
  let v139 : BitVec 32 := Scalar.addi c0_i32_110 v138
  v139.toNat
def k0_dev11 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_99 : BitVec 32 := 2#32
  let v126 : BitVec 32 := Scalar.addi v2 c2_i32_99
  let c8_i32_100 : BitVec 32 := 8#32
  let c0_i32_101 : BitVec 32 := 0#32
  let v127 : BitVec 1 := Scalar.cmpi .eq c8_i32_100 c0_i32_101
  let c1_i32_102 : BitVec 32 := 1#32
  let v128 : BitVec 32 := Scalar.select v127 c1_i32_102 c8_i32_100
  let v129 : BitVec 32 := Scalar.remsi v126 v128
  let c0_i32_104 : BitVec 32 := 0#32
  let v131 : BitVec 1 := Scalar.cmpi .slt v129 c0_i32_104
  let c0_i32_105 : BitVec 32 := 0#32
  let v132 : BitVec 1 := Scalar.cmpi .slt v128 c0_i32_105
  let v133 : BitVec 1 := Scalar.xori v131 v132
  let c0_i32_103 : BitVec 32 := 0#32
  let v130 : BitVec 1 := Scalar.cmpi .ne v129 c0_i32_103
  let v134 : BitVec 1 := Scalar.andi v133 v130
  let v135 : BitVec 32 := Scalar.addi v129 v128
  let v136 : BitVec 32 := Scalar.select v134 v135 v129
  let c1_i32_123 : BitVec 32 := 1#32
  let v148 : BitVec 32 := Scalar.muli v136 c1_i32_123
  let v149 : BitVec 32 := Scalar.addi c0_i32_124 v148
  v149.toNat
def k0_dev12 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_134 : BitVec 32 := 3#32
  let v157 : BitVec 32 := Scalar.addi v2 c3_i32_134
  let c8_i32_135 : BitVec 32 := 8#32
  let c0_i32_136 : BitVec 32 := 0#32
  let v158 : BitVec 1 := Scalar.cmpi .eq c8_i32_135 c0_i32_136
  let c1_i32_137 : BitVec 32 := 1#32
  let v159 : BitVec 32 := Scalar.select v158 c1_i32_137 c8_i32_135
  let v160 : BitVec 32 := Scalar.remsi v157 v159
  let c0_i32_139 : BitVec 32 := 0#32
  let v162 : BitVec 1 := Scalar.cmpi .slt v160 c0_i32_139
  let c0_i32_140 : BitVec 32 := 0#32
  let v163 : BitVec 1 := Scalar.cmpi .slt v159 c0_i32_140
  let v164 : BitVec 1 := Scalar.xori v162 v163
  let c0_i32_138 : BitVec 32 := 0#32
  let v161 : BitVec 1 := Scalar.cmpi .ne v160 c0_i32_138
  let v165 : BitVec 1 := Scalar.andi v164 v161
  let v166 : BitVec 32 := Scalar.addi v160 v159
  let v167 : BitVec 32 := Scalar.select v165 v166 v160
  let c1_i32_144 : BitVec 32 := 1#32
  let v169 : BitVec 32 := Scalar.muli v167 c1_i32_144
  let v170 : BitVec 32 := Scalar.addi c0_i32_145 v169
  v170.toNat
def k0_dev13 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_134 : BitVec 32 := 3#32
  let v157 : BitVec 32 := Scalar.addi v2 c3_i32_134
  let c8_i32_135 : BitVec 32 := 8#32
  let c0_i32_136 : BitVec 32 := 0#32
  let v158 : BitVec 1 := Scalar.cmpi .eq c8_i32_135 c0_i32_136
  let c1_i32_137 : BitVec 32 := 1#32
  let v159 : BitVec 32 := Scalar.select v158 c1_i32_137 c8_i32_135
  let v160 : BitVec 32 := Scalar.remsi v157 v159
  let c0_i32_139 : BitVec 32 := 0#32
  let v162 : BitVec 1 := Scalar.cmpi .slt v160 c0_i32_139
  let c0_i32_140 : BitVec 32 := 0#32
  let v163 : BitVec 1 := Scalar.cmpi .slt v159 c0_i32_140
  let v164 : BitVec 1 := Scalar.xori v162 v163
  let c0_i32_138 : BitVec 32 := 0#32
  let v161 : BitVec 1 := Scalar.cmpi .ne v160 c0_i32_138
  let v165 : BitVec 1 := Scalar.andi v164 v161
  let v166 : BitVec 32 := Scalar.addi v160 v159
  let v167 : BitVec 32 := Scalar.select v165 v166 v160
  let c1_i32_158 : BitVec 32 := 1#32
  let v179 : BitVec 32 := Scalar.muli v167 c1_i32_158
  let v180 : BitVec 32 := Scalar.addi c0_i32_159 v179
  v180.toNat
def k0_dev14 (d0 : Dev nD) : Nat :=
  let c0_i32_180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_169 : BitVec 32 := 4#32
  let v188 : BitVec 32 := Scalar.addi v2 c4_i32_169
  let c8_i32_170 : BitVec 32 := 8#32
  let c0_i32_171 : BitVec 32 := 0#32
  let v189 : BitVec 1 := Scalar.cmpi .eq c8_i32_170 c0_i32_171
  let c1_i32_172 : BitVec 32 := 1#32
  let v190 : BitVec 32 := Scalar.select v189 c1_i32_172 c8_i32_170
  let v191 : BitVec 32 := Scalar.remsi v188 v190
  let c0_i32_174 : BitVec 32 := 0#32
  let v193 : BitVec 1 := Scalar.cmpi .slt v191 c0_i32_174
  let c0_i32_175 : BitVec 32 := 0#32
  let v194 : BitVec 1 := Scalar.cmpi .slt v190 c0_i32_175
  let v195 : BitVec 1 := Scalar.xori v193 v194
  let c0_i32_173 : BitVec 32 := 0#32
  let v192 : BitVec 1 := Scalar.cmpi .ne v191 c0_i32_173
  let v196 : BitVec 1 := Scalar.andi v195 v192
  let v197 : BitVec 32 := Scalar.addi v191 v190
  let v198 : BitVec 32 := Scalar.select v196 v197 v191
  let c1_i32_179 : BitVec 32 := 1#32
  let v200 : BitVec 32 := Scalar.muli v198 c1_i32_179
  let v201 : BitVec 32 := Scalar.addi c0_i32_180 v200
  v201.toNat
def k0_dev15 (d0 : Dev nD) : Nat :=
  let c0_i32_194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_169 : BitVec 32 := 4#32
  let v188 : BitVec 32 := Scalar.addi v2 c4_i32_169
  let c8_i32_170 : BitVec 32 := 8#32
  let c0_i32_171 : BitVec 32 := 0#32
  let v189 : BitVec 1 := Scalar.cmpi .eq c8_i32_170 c0_i32_171
  let c1_i32_172 : BitVec 32 := 1#32
  let v190 : BitVec 32 := Scalar.select v189 c1_i32_172 c8_i32_170
  let v191 : BitVec 32 := Scalar.remsi v188 v190
  let c0_i32_174 : BitVec 32 := 0#32
  let v193 : BitVec 1 := Scalar.cmpi .slt v191 c0_i32_174
  let c0_i32_175 : BitVec 32 := 0#32
  let v194 : BitVec 1 := Scalar.cmpi .slt v190 c0_i32_175
  let v195 : BitVec 1 := Scalar.xori v193 v194
  let c0_i32_173 : BitVec 32 := 0#32
  let v192 : BitVec 1 := Scalar.cmpi .ne v191 c0_i32_173
  let v196 : BitVec 1 := Scalar.andi v195 v192
  let v197 : BitVec 32 := Scalar.addi v191 v190
  let v198 : BitVec 32 := Scalar.select v196 v197 v191
  let c1_i32_193 : BitVec 32 := 1#32
  let v210 : BitVec 32 := Scalar.muli v198 c1_i32_193
  let v211 : BitVec 32 := Scalar.addi c0_i32_194 v210
  v211.toNat
def k0_dev16 (d0 : Dev nD) : Nat :=
  let c0_i32_215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_204 : BitVec 32 := 5#32
  let v219 : BitVec 32 := Scalar.addi v2 c5_i32_204
  let c8_i32_205 : BitVec 32 := 8#32
  let c0_i32_206 : BitVec 32 := 0#32
  let v220 : BitVec 1 := Scalar.cmpi .eq c8_i32_205 c0_i32_206
  let c1_i32_207 : BitVec 32 := 1#32
  let v221 : BitVec 32 := Scalar.select v220 c1_i32_207 c8_i32_205
  let v222 : BitVec 32 := Scalar.remsi v219 v221
  let c0_i32_209 : BitVec 32 := 0#32
  let v224 : BitVec 1 := Scalar.cmpi .slt v222 c0_i32_209
  let c0_i32_210 : BitVec 32 := 0#32
  let v225 : BitVec 1 := Scalar.cmpi .slt v221 c0_i32_210
  let v226 : BitVec 1 := Scalar.xori v224 v225
  let c0_i32_208 : BitVec 32 := 0#32
  let v223 : BitVec 1 := Scalar.cmpi .ne v222 c0_i32_208
  let v227 : BitVec 1 := Scalar.andi v226 v223
  let v228 : BitVec 32 := Scalar.addi v222 v221
  let v229 : BitVec 32 := Scalar.select v227 v228 v222
  let c1_i32_214 : BitVec 32 := 1#32
  let v231 : BitVec 32 := Scalar.muli v229 c1_i32_214
  let v232 : BitVec 32 := Scalar.addi c0_i32_215 v231
  v232.toNat
def k0_dev17 (d0 : Dev nD) : Nat :=
  let c0_i32_229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_204 : BitVec 32 := 5#32
  let v219 : BitVec 32 := Scalar.addi v2 c5_i32_204
  let c8_i32_205 : BitVec 32 := 8#32
  let c0_i32_206 : BitVec 32 := 0#32
  let v220 : BitVec 1 := Scalar.cmpi .eq c8_i32_205 c0_i32_206
  let c1_i32_207 : BitVec 32 := 1#32
  let v221 : BitVec 32 := Scalar.select v220 c1_i32_207 c8_i32_205
  let v222 : BitVec 32 := Scalar.remsi v219 v221
  let c0_i32_209 : BitVec 32 := 0#32
  let v224 : BitVec 1 := Scalar.cmpi .slt v222 c0_i32_209
  let c0_i32_210 : BitVec 32 := 0#32
  let v225 : BitVec 1 := Scalar.cmpi .slt v221 c0_i32_210
  let v226 : BitVec 1 := Scalar.xori v224 v225
  let c0_i32_208 : BitVec 32 := 0#32
  let v223 : BitVec 1 := Scalar.cmpi .ne v222 c0_i32_208
  let v227 : BitVec 1 := Scalar.andi v226 v223
  let v228 : BitVec 32 := Scalar.addi v222 v221
  let v229 : BitVec 32 := Scalar.select v227 v228 v222
  let c1_i32_228 : BitVec 32 := 1#32
  let v241 : BitVec 32 := Scalar.muli v229 c1_i32_228
  let v242 : BitVec 32 := Scalar.addi c0_i32_229 v241
  v242.toNat
def k0_dev18 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_239 : BitVec 32 := 6#32
  let v250 : BitVec 32 := Scalar.addi v2 c6_i32_239
  let c8_i32_240 : BitVec 32 := 8#32
  let c0_i32_241 : BitVec 32 := 0#32
  let v251 : BitVec 1 := Scalar.cmpi .eq c8_i32_240 c0_i32_241
  let c1_i32_242 : BitVec 32 := 1#32
  let v252 : BitVec 32 := Scalar.select v251 c1_i32_242 c8_i32_240
  let v253 : BitVec 32 := Scalar.remsi v250 v252
  let c0_i32_244 : BitVec 32 := 0#32
  let v255 : BitVec 1 := Scalar.cmpi .slt v253 c0_i32_244
  let c0_i32_245 : BitVec 32 := 0#32
  let v256 : BitVec 1 := Scalar.cmpi .slt v252 c0_i32_245
  let v257 : BitVec 1 := Scalar.xori v255 v256
  let c0_i32_243 : BitVec 32 := 0#32
  let v254 : BitVec 1 := Scalar.cmpi .ne v253 c0_i32_243
  let v258 : BitVec 1 := Scalar.andi v257 v254
  let v259 : BitVec 32 := Scalar.addi v253 v252
  let v260 : BitVec 32 := Scalar.select v258 v259 v253
  let c1_i32_249 : BitVec 32 := 1#32
  let v262 : BitVec 32 := Scalar.muli v260 c1_i32_249
  let v263 : BitVec 32 := Scalar.addi c0_i32_250 v262
  v263.toNat
def k0_dev19 (d0 : Dev nD) : Nat :=
  let c0_i32_264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_239 : BitVec 32 := 6#32
  let v250 : BitVec 32 := Scalar.addi v2 c6_i32_239
  let c8_i32_240 : BitVec 32 := 8#32
  let c0_i32_241 : BitVec 32 := 0#32
  let v251 : BitVec 1 := Scalar.cmpi .eq c8_i32_240 c0_i32_241
  let c1_i32_242 : BitVec 32 := 1#32
  let v252 : BitVec 32 := Scalar.select v251 c1_i32_242 c8_i32_240
  let v253 : BitVec 32 := Scalar.remsi v250 v252
  let c0_i32_244 : BitVec 32 := 0#32
  let v255 : BitVec 1 := Scalar.cmpi .slt v253 c0_i32_244
  let c0_i32_245 : BitVec 32 := 0#32
  let v256 : BitVec 1 := Scalar.cmpi .slt v252 c0_i32_245
  let v257 : BitVec 1 := Scalar.xori v255 v256
  let c0_i32_243 : BitVec 32 := 0#32
  let v254 : BitVec 1 := Scalar.cmpi .ne v253 c0_i32_243
  let v258 : BitVec 1 := Scalar.andi v257 v254
  let v259 : BitVec 32 := Scalar.addi v253 v252
  let v260 : BitVec 32 := Scalar.select v258 v259 v253
  let c1_i32_263 : BitVec 32 := 1#32
  let v272 : BitVec 32 := Scalar.muli v260 c1_i32_263
  let v273 : BitVec 32 := Scalar.addi c0_i32_264 v272
  v273.toNat
def k0_dev20 (d0 : Dev nD) : Nat :=
  let c0_i32_285 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_274 : BitVec 32 := 7#32
  let v281 : BitVec 32 := Scalar.addi v2 c7_i32_274
  let c8_i32_275 : BitVec 32 := 8#32
  let c0_i32_276 : BitVec 32 := 0#32
  let v282 : BitVec 1 := Scalar.cmpi .eq c8_i32_275 c0_i32_276
  let c1_i32_277 : BitVec 32 := 1#32
  let v283 : BitVec 32 := Scalar.select v282 c1_i32_277 c8_i32_275
  let v284 : BitVec 32 := Scalar.remsi v281 v283
  let c0_i32_279 : BitVec 32 := 0#32
  let v286 : BitVec 1 := Scalar.cmpi .slt v284 c0_i32_279
  let c0_i32_280 : BitVec 32 := 0#32
  let v287 : BitVec 1 := Scalar.cmpi .slt v283 c0_i32_280
  let v288 : BitVec 1 := Scalar.xori v286 v287
  let c0_i32_278 : BitVec 32 := 0#32
  let v285 : BitVec 1 := Scalar.cmpi .ne v284 c0_i32_278
  let v289 : BitVec 1 := Scalar.andi v288 v285
  let v290 : BitVec 32 := Scalar.addi v284 v283
  let v291 : BitVec 32 := Scalar.select v289 v290 v284
  let c1_i32_284 : BitVec 32 := 1#32
  let v293 : BitVec 32 := Scalar.muli v291 c1_i32_284
  let v294 : BitVec 32 := Scalar.addi c0_i32_285 v293
  v294.toNat
def k0_dev21 (d0 : Dev nD) : Nat :=
  let c0_i32_299 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_274 : BitVec 32 := 7#32
  let v281 : BitVec 32 := Scalar.addi v2 c7_i32_274
  let c8_i32_275 : BitVec 32 := 8#32
  let c0_i32_276 : BitVec 32 := 0#32
  let v282 : BitVec 1 := Scalar.cmpi .eq c8_i32_275 c0_i32_276
  let c1_i32_277 : BitVec 32 := 1#32
  let v283 : BitVec 32 := Scalar.select v282 c1_i32_277 c8_i32_275
  let v284 : BitVec 32 := Scalar.remsi v281 v283
  let c0_i32_279 : BitVec 32 := 0#32
  let v286 : BitVec 1 := Scalar.cmpi .slt v284 c0_i32_279
  let c0_i32_280 : BitVec 32 := 0#32
  let v287 : BitVec 1 := Scalar.cmpi .slt v283 c0_i32_280
  let v288 : BitVec 1 := Scalar.xori v286 v287
  let c0_i32_278 : BitVec 32 := 0#32
  let v285 : BitVec 1 := Scalar.cmpi .ne v284 c0_i32_278
  let v289 : BitVec 1 := Scalar.andi v288 v285
  let v290 : BitVec 32 := Scalar.addi v284 v283
  let v291 : BitVec 32 := Scalar.select v289 v290 v284
  let c1_i32_298 : BitVec 32 := 1#32
  let v303 : BitVec 32 := Scalar.muli v291 c1_i32_298
  let v304 : BitVec 32 := Scalar.addi c0_i32_299 v303
  v304.toNat
def k0_off3 (d0 : Dev nD) : Fin 5 → Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_309 : BitVec 32 := 8#32
  let v312 : BitVec 32 := Scalar.muli v2 c8_i32_309
  let c0_i32_317 : BitVec 32 := 0#32
  let c0_i32_318 : BitVec 32 := 0#32
  let c0_i32_319 : BitVec 32 := 0#32
  ![0, v312.toNat, 0, 0, 0]
@[reducible] def k0_t1_loop : Scf.Loop 32 :=
  let c0_i32_748 : BitVec 32 := 0#32
  let c16_i32 : BitVec 32 := 16#32
  let v582 : BitVec 32 := Scalar.addi c0_i32_748 c16_i32
  let c1_i32_749 : BitVec 32 := 1#32
  ⟨c0_i32_748, v582, c1_i32_749⟩
def k0_off4 (k0_t1 : Fin k0_t1_loop.trips) : Fin 3 → Nat :=
  let c0_i32_748 : BitVec 32 := 0#32
  let c1_i32_749 : BitVec 32 := 1#32
  let arg22 : BitVec 32 := Scf.iv c0_i32_748 c1_i32_749 k0_t1
  let v899 : Index := Scalar.indexCast arg22
  let c0_1100 : Index := 0#32
  let c0_1101 : Index := 0#32
  ![v899.toNat, 0, 0]
def k0_off5 (k0_t1 : Fin k0_t1_loop.trips) : Fin 2 → Nat :=
  let c0_i32_748 : BitVec 32 := 0#32
  let c1_i32_749 : BitVec 32 := 1#32
  let arg22 : BitVec 32 := Scf.iv c0_i32_748 c1_i32_749 k0_t1
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let c64_i32_1102 : BitVec 32 := 64#32
  let v902 : BitVec 32 := Scalar.muli v898 c64_i32_1102
  let v903 : Index := Scalar.indexCast v902
  let c0_1103 : Index := 0#32
  ![v903.toNat, 0]
def k0_off6 (k0_t1 : Fin k0_t1_loop.trips) : Fin 6 → Nat :=
  let c0_1104 : Index := 0#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v909 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v910 : Index := Scalar.indexCast v898
  let c0_1105 : Index := 0#32
  let c0_1106 : Index := 0#32
  let c0_1107 : Index := 0#32
  ![0, v909.toNat, v910.toNat, 0, 0, 0]
def k0_off7 (k0_t1 : Fin k0_t1_loop.trips) : Fin 6 → Nat :=
  let c1_1108 : Index := 1#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v913 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v914 : Index := Scalar.indexCast v898
  let c0_1109 : Index := 0#32
  let c0_1110 : Index := 0#32
  let c0_1111 : Index := 0#32
  ![1, v913.toNat, v914.toNat, 0, 0, 0]
def k0_off8 (k0_t1 : Fin k0_t1_loop.trips) : Fin 6 → Nat :=
  let c2_1112 : Index := 2#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v917 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v918 : Index := Scalar.indexCast v898
  let c0_1113 : Index := 0#32
  let c0_1114 : Index := 0#32
  let c0_1115 : Index := 0#32
  ![2, v917.toNat, v918.toNat, 0, 0, 0]
def k0_off9 (k0_t1 : Fin k0_t1_loop.trips) : Fin 6 → Nat :=
  let c3_1116 : Index := 3#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v921 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v922 : Index := Scalar.indexCast v898
  let c0_1117 : Index := 0#32
  let c0_1118 : Index := 0#32
  let c0_1119 : Index := 0#32
  ![3, v921.toNat, v922.toNat, 0, 0, 0]
def k0_off10 (k0_t1 : Fin k0_t1_loop.trips) : Fin 6 → Nat :=
  let c4_1120 : Index := 4#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v925 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v926 : Index := Scalar.indexCast v898
  let c0_1121 : Index := 0#32
  let c0_1122 : Index := 0#32
  let c0_1123 : Index := 0#32
  ![4, v925.toNat, v926.toNat, 0, 0, 0]
def k0_off11 (k0_t1 : Fin k0_t1_loop.trips) : Fin 6 → Nat :=
  let c5_1124 : Index := 5#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v929 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v930 : Index := Scalar.indexCast v898
  let c0_1125 : Index := 0#32
  let c0_1126 : Index := 0#32
  let c0_1127 : Index := 0#32
  ![5, v929.toNat, v930.toNat, 0, 0, 0]
def k0_off12 (k0_t1 : Fin k0_t1_loop.trips) : Fin 6 → Nat :=
  let c6_1128 : Index := 6#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v933 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v934 : Index := Scalar.indexCast v898
  let c0_1129 : Index := 0#32
  let c0_1130 : Index := 0#32
  let c0_1131 : Index := 0#32
  ![6, v933.toNat, v934.toNat, 0, 0, 0]
def k0_off13 (k0_t1 : Fin k0_t1_loop.trips) : Fin 6 → Nat :=
  let c7_1132 : Index := 7#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v937 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v938 : Index := Scalar.indexCast v898
  let c0_1133 : Index := 0#32
  let c0_1134 : Index := 0#32
  let c0_1135 : Index := 0#32
  ![7, v937.toNat, v938.toNat, 0, 0, 0]
def k0_off14 (k0_t1 : Fin k0_t1_loop.trips) : Fin 3 → Nat :=
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v989 : Index := Scalar.indexCast v888
  let c0_1173 : Index := 0#32
  let c0_1174 : Index := 0#32
  ![v989.toNat, 0, 0]
def k0_off15 (k0_t1 : Fin k0_t1_loop.trips) : Fin 3 → Nat :=
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v998 : Index := Scalar.indexCast v888
  let c256 : Index := 256#32
  let c0_1177 : Index := 0#32
  ![v998.toNat, 256, 0]
def k0_off16 (k0_t1 : Fin k0_t1_loop.trips) : Fin 6 → Nat :=
  let c0_1180 : Index := 0#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1010 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v1011 : Index := Scalar.indexCast v898
  let c1_1181 : Index := 1#32
  let c0_1182 : Index := 0#32
  let c0_1183 : Index := 0#32
  ![0, v1010.toNat, v1011.toNat, 1, 0, 0]
def k0_off17 (k0_t1 : Fin k0_t1_loop.trips) : Fin 6 → Nat :=
  let c1_1184 : Index := 1#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1014 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v1015 : Index := Scalar.indexCast v898
  let c1_1185 : Index := 1#32
  let c0_1186 : Index := 0#32
  let c0_1187 : Index := 0#32
  ![1, v1014.toNat, v1015.toNat, 1, 0, 0]
def k0_off18 (k0_t1 : Fin k0_t1_loop.trips) : Fin 6 → Nat :=
  let c2_1188 : Index := 2#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1018 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v1019 : Index := Scalar.indexCast v898
  let c1_1189 : Index := 1#32
  let c0_1190 : Index := 0#32
  let c0_1191 : Index := 0#32
  ![2, v1018.toNat, v1019.toNat, 1, 0, 0]
def k0_off19 (k0_t1 : Fin k0_t1_loop.trips) : Fin 6 → Nat :=
  let c3_1192 : Index := 3#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1022 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v1023 : Index := Scalar.indexCast v898
  let c1_1193 : Index := 1#32
  let c0_1194 : Index := 0#32
  let c0_1195 : Index := 0#32
  ![3, v1022.toNat, v1023.toNat, 1, 0, 0]
def k0_off20 (k0_t1 : Fin k0_t1_loop.trips) : Fin 6 → Nat :=
  let c4_1196 : Index := 4#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1026 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v1027 : Index := Scalar.indexCast v898
  let c1_1197 : Index := 1#32
  let c0_1198 : Index := 0#32
  let c0_1199 : Index := 0#32
  ![4, v1026.toNat, v1027.toNat, 1, 0, 0]
def k0_off21 (k0_t1 : Fin k0_t1_loop.trips) : Fin 6 → Nat :=
  let c5_1200 : Index := 5#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1030 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v1031 : Index := Scalar.indexCast v898
  let c1_1201 : Index := 1#32
  let c0_1202 : Index := 0#32
  let c0_1203 : Index := 0#32
  ![5, v1030.toNat, v1031.toNat, 1, 0, 0]
def k0_off22 (k0_t1 : Fin k0_t1_loop.trips) : Fin 6 → Nat :=
  let c6_1204 : Index := 6#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1034 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v1035 : Index := Scalar.indexCast v898
  let c1_1205 : Index := 1#32
  let c0_1206 : Index := 0#32
  let c0_1207 : Index := 0#32
  ![6, v1034.toNat, v1035.toNat, 1, 0, 0]
def k0_off23 (k0_t1 : Fin k0_t1_loop.trips) : Fin 6 → Nat :=
  let c7_1208 : Index := 7#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1038 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v1039 : Index := Scalar.indexCast v898
  let c1_1209 : Index := 1#32
  let c0_1210 : Index := 0#32
  let c0_1211 : Index := 0#32
  ![7, v1038.toNat, v1039.toNat, 1, 0, 0]
def k0_off24 (k0_t1 : Fin k0_t1_loop.trips) : Fin 3 → Nat :=
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1090 : Index := Scalar.indexCast v888
  let c64 : Index := 64#32
  let c0_1249 : Index := 0#32
  ![v1090.toNat, 64, 0]
def k0_off25 (k0_t1 : Fin k0_t1_loop.trips) : Fin 3 → Nat :=
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1099 : Index := Scalar.indexCast v888
  let c320 : Index := 320#32
  let c0_1252 : Index := 0#32
  ![v1099.toNat, 320, 0]
def k0_off26 (k0_t1 : Fin k0_t1_loop.trips) : Fin 6 → Nat :=
  let c0_1255 : Index := 0#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1111 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v1112 : Index := Scalar.indexCast v898
  let c2_1256 : Index := 2#32
  let c0_1257 : Index := 0#32
  let c0_1258 : Index := 0#32
  ![0, v1111.toNat, v1112.toNat, 2, 0, 0]
def k0_off27 (k0_t1 : Fin k0_t1_loop.trips) : Fin 6 → Nat :=
  let c1_1259 : Index := 1#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1115 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v1116 : Index := Scalar.indexCast v898
  let c2_1260 : Index := 2#32
  let c0_1261 : Index := 0#32
  let c0_1262 : Index := 0#32
  ![1, v1115.toNat, v1116.toNat, 2, 0, 0]
def k0_off28 (k0_t1 : Fin k0_t1_loop.trips) : Fin 6 → Nat :=
  let c2_1263 : Index := 2#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1119 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v1120 : Index := Scalar.indexCast v898
  let c2_1264 : Index := 2#32
  let c0_1265 : Index := 0#32
  let c0_1266 : Index := 0#32
  ![2, v1119.toNat, v1120.toNat, 2, 0, 0]
def k0_off29 (k0_t1 : Fin k0_t1_loop.trips) : Fin 6 → Nat :=
  let c3_1267 : Index := 3#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1123 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v1124 : Index := Scalar.indexCast v898
  let c2_1268 : Index := 2#32
  let c0_1269 : Index := 0#32
  let c0_1270 : Index := 0#32
  ![3, v1123.toNat, v1124.toNat, 2, 0, 0]
def k0_off30 (k0_t1 : Fin k0_t1_loop.trips) : Fin 6 → Nat :=
  let c4_1271 : Index := 4#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1127 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v1128 : Index := Scalar.indexCast v898
  let c2_1272 : Index := 2#32
  let c0_1273 : Index := 0#32
  let c0_1274 : Index := 0#32
  ![4, v1127.toNat, v1128.toNat, 2, 0, 0]
def k0_off31 (k0_t1 : Fin k0_t1_loop.trips) : Fin 6 → Nat :=
  let c5_1275 : Index := 5#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1131 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v1132 : Index := Scalar.indexCast v898
  let c2_1276 : Index := 2#32
  let c0_1277 : Index := 0#32
  let c0_1278 : Index := 0#32
  ![5, v1131.toNat, v1132.toNat, 2, 0, 0]
def k0_off32 (k0_t1 : Fin k0_t1_loop.trips) : Fin 6 → Nat :=
  let c6_1279 : Index := 6#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1135 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v1136 : Index := Scalar.indexCast v898
  let c2_1280 : Index := 2#32
  let c0_1281 : Index := 0#32
  let c0_1282 : Index := 0#32
  ![6, v1135.toNat, v1136.toNat, 2, 0, 0]
def k0_off33 (k0_t1 : Fin k0_t1_loop.trips) : Fin 6 → Nat :=
  let c7_1283 : Index := 7#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1139 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v1140 : Index := Scalar.indexCast v898
  let c2_1284 : Index := 2#32
  let c0_1285 : Index := 0#32
  let c0_1286 : Index := 0#32
  ![7, v1139.toNat, v1140.toNat, 2, 0, 0]
def k0_off34 (k0_t1 : Fin k0_t1_loop.trips) : Fin 3 → Nat :=
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1191 : Index := Scalar.indexCast v888
  let c128 : Index := 128#32
  let c0_1324 : Index := 0#32
  ![v1191.toNat, 128, 0]
def k0_off35 (k0_t1 : Fin k0_t1_loop.trips) : Fin 3 → Nat :=
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1200 : Index := Scalar.indexCast v888
  let c384 : Index := 384#32
  let c0_1327 : Index := 0#32
  ![v1200.toNat, 384, 0]
def k0_off36 (k0_t1 : Fin k0_t1_loop.trips) : Fin 6 → Nat :=
  let c0_1330 : Index := 0#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1212 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v1213 : Index := Scalar.indexCast v898
  let c3_1331 : Index := 3#32
  let c0_1332 : Index := 0#32
  let c0_1333 : Index := 0#32
  ![0, v1212.toNat, v1213.toNat, 3, 0, 0]
def k0_off37 (k0_t1 : Fin k0_t1_loop.trips) : Fin 6 → Nat :=
  let c1_1334 : Index := 1#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1216 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v1217 : Index := Scalar.indexCast v898
  let c3_1335 : Index := 3#32
  let c0_1336 : Index := 0#32
  let c0_1337 : Index := 0#32
  ![1, v1216.toNat, v1217.toNat, 3, 0, 0]
def k0_off38 (k0_t1 : Fin k0_t1_loop.trips) : Fin 6 → Nat :=
  let c2_1338 : Index := 2#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1220 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v1221 : Index := Scalar.indexCast v898
  let c3_1339 : Index := 3#32
  let c0_1340 : Index := 0#32
  let c0_1341 : Index := 0#32
  ![2, v1220.toNat, v1221.toNat, 3, 0, 0]
def k0_off39 (k0_t1 : Fin k0_t1_loop.trips) : Fin 6 → Nat :=
  let c3_1342 : Index := 3#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1224 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v1225 : Index := Scalar.indexCast v898
  let c3_1343 : Index := 3#32
  let c0_1344 : Index := 0#32
  let c0_1345 : Index := 0#32
  ![3, v1224.toNat, v1225.toNat, 3, 0, 0]
def k0_off40 (k0_t1 : Fin k0_t1_loop.trips) : Fin 6 → Nat :=
  let c4_1346 : Index := 4#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1228 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v1229 : Index := Scalar.indexCast v898
  let c3_1347 : Index := 3#32
  let c0_1348 : Index := 0#32
  let c0_1349 : Index := 0#32
  ![4, v1228.toNat, v1229.toNat, 3, 0, 0]
def k0_off41 (k0_t1 : Fin k0_t1_loop.trips) : Fin 6 → Nat :=
  let c5_1350 : Index := 5#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1232 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v1233 : Index := Scalar.indexCast v898
  let c3_1351 : Index := 3#32
  let c0_1352 : Index := 0#32
  let c0_1353 : Index := 0#32
  ![5, v1232.toNat, v1233.toNat, 3, 0, 0]
def k0_off42 (k0_t1 : Fin k0_t1_loop.trips) : Fin 6 → Nat :=
  let c6_1354 : Index := 6#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1236 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v1237 : Index := Scalar.indexCast v898
  let c3_1355 : Index := 3#32
  let c0_1356 : Index := 0#32
  let c0_1357 : Index := 0#32
  ![6, v1236.toNat, v1237.toNat, 3, 0, 0]
def k0_off43 (k0_t1 : Fin k0_t1_loop.trips) : Fin 6 → Nat :=
  let c7_1358 : Index := 7#32
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1240 : Index := Scalar.indexCast v888
  let c8_i32_1094 : BitVec 32 := 8#32
  let c0_i32_1095 : BitVec 32 := 0#32
  let v889 : BitVec 1 := Scalar.cmpi .eq c8_i32_1094 c0_i32_1095
  let c1_i32_1096 : BitVec 32 := 1#32
  let v890 : BitVec 32 := Scalar.select v889 c1_i32_1096 c8_i32_1094
  let v891 : BitVec 32 := Scalar.remsi arg22 v890
  let c0_i32_1098 : BitVec 32 := 0#32
  let v893 : BitVec 1 := Scalar.cmpi .slt v891 c0_i32_1098
  let c0_i32_1099 : BitVec 32 := 0#32
  let v894 : BitVec 1 := Scalar.cmpi .slt v890 c0_i32_1099
  let v895 : BitVec 1 := Scalar.xori v893 v894
  let c0_i32_1097 : BitVec 32 := 0#32
  let v892 : BitVec 1 := Scalar.cmpi .ne v891 c0_i32_1097
  let v896 : BitVec 1 := Scalar.andi v895 v892
  let v897 : BitVec 32 := Scalar.addi v891 v890
  let v898 : BitVec 32 := Scalar.select v896 v897 v891
  let v1241 : Index := Scalar.indexCast v898
  let c3_1359 : Index := 3#32
  let c0_1360 : Index := 0#32
  let c0_1361 : Index := 0#32
  ![7, v1240.toNat, v1241.toNat, 3, 0, 0]
def k0_off44 (k0_t1 : Fin k0_t1_loop.trips) : Fin 3 → Nat :=
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1292 : Index := Scalar.indexCast v888
  let c192 : Index := 192#32
  let c0_1399 : Index := 0#32
  ![v1292.toNat, 192, 0]
def k0_off45 (k0_t1 : Fin k0_t1_loop.trips) : Fin 3 → Nat :=
  let c0_i32_748 : BitVec 32 := 0#32
  let c1_i32_749 : BitVec 32 := 1#32
  let arg22 : BitVec 32 := Scf.iv c0_i32_748 c1_i32_749 k0_t1
  let c0_i32_1088 : BitVec 32 := 0#32
  let v873 : BitVec 1 := Scalar.cmpi .sgt arg22 c0_i32_1088
  let v874 : BitVec 32 := Scalar.extui v873
  let c0_i32_1089 : BitVec 32 := 0#32
  let v875 : BitVec 1 := Scalar.cmpi .slt arg22 c0_i32_1089
  let v876 : BitVec 32 := Scalar.extui v875
  let v877 : BitVec 32 := Scalar.subi v874 v876
  let c8_i32_1087 : BitVec 32 := 8#32
  let c0_i32_1090 : BitVec 32 := 0#32
  let v878 : BitVec 1 := Scalar.cmpi .sgt c8_i32_1087 c0_i32_1090
  let v879 : BitVec 32 := Scalar.extui v878
  let c0_i32_1091 : BitVec 32 := 0#32
  let v880 : BitVec 1 := Scalar.cmpi .slt c8_i32_1087 c0_i32_1091
  let v881 : BitVec 32 := Scalar.extui v880
  let v882 : BitVec 32 := Scalar.subi v879 v881
  let v883 : BitVec 1 := Scalar.cmpi .ne v877 v882
  let v884 : BitVec 32 := Scalar.remsi arg22 c8_i32_1087
  let c0_i32_1092 : BitVec 32 := 0#32
  let v885 : BitVec 1 := Scalar.cmpi .ne v884 c0_i32_1092
  let v886 : BitVec 1 := Scalar.andi v883 v885
  let v872 : BitVec 32 := Scalar.divsi arg22 c8_i32_1087
  let c1_i32_1093 : BitVec 32 := 1#32
  let v887 : BitVec 32 := Scalar.subi v872 c1_i32_1093
  let v888 : BitVec 32 := Scalar.select v886 v887 v872
  let v1301 : Index := Scalar.indexCast v888
  let c448 : Index := 448#32
  let c0_1402 : Index := 0#32
  ![v1301.toNat, 448, 0]
def k0_off46 (d0 : Dev nD) : Fin 3 → Nat :=
  let c0_758 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_751 : BitVec 32 := 0#32
  let v583 : BitVec 32 := Scalar.muli v2 c0_i32_751
  let c1_i32_755 : BitVec 32 := 1#32
  let c0_i32_753 : BitVec 32 := 0#32
  let v585 : BitVec 32 := Scalar.shrsi v2 c0_i32_753
  let c1_i32_754 : BitVec 32 := 1#32
  let v586 : BitVec 32 := Scalar.andi v585 c1_i32_754
  let v587 : BitVec 32 := Scalar.subi c1_i32_755 v586
  let c4_i32_756 : BitVec 32 := 4#32
  let v588 : BitVec 32 := Scalar.muli v587 c4_i32_756
  let v589 : BitVec 32 := Scalar.addi v583 v588
  let c64_i32 : BitVec 32 := 64#32
  let v592 : BitVec 32 := Scalar.muli v589 c64_i32
  let v593 : Index := Scalar.indexCast v592
  let c0_759 : Index := 0#32
  ![0, v593.toNat, 0]
def k0_dev22 (d0 : Dev nD) : Nat :=
  let c0_i32_769 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_752 : BitVec 32 := 1#32
  let v584 : BitVec 32 := Scalar.xori v2 c1_i32_752
  let c1_i32_768 : BitVec 32 := 1#32
  let v600 : BitVec 32 := Scalar.muli v584 c1_i32_768
  let v601 : BitVec 32 := Scalar.addi c0_i32_769 v600
  v601.toNat
def k0_off47 (d0 : Dev nD) : Fin 3 → Nat :=
  let c0_800 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_751 : BitVec 32 := 0#32
  let v583 : BitVec 32 := Scalar.muli v2 c0_i32_751
  let c0_i32_753 : BitVec 32 := 0#32
  let v585 : BitVec 32 := Scalar.shrsi v2 c0_i32_753
  let c1_i32_754 : BitVec 32 := 1#32
  let v586 : BitVec 32 := Scalar.andi v585 c1_i32_754
  let c4_i32_757 : BitVec 32 := 4#32
  let v590 : BitVec 32 := Scalar.muli v586 c4_i32_757
  let v591 : BitVec 32 := Scalar.addi v583 v590
  let c64_i32_799 : BitVec 32 := 64#32
  let v624 : BitVec 32 := Scalar.muli v591 c64_i32_799
  let v625 : Index := Scalar.indexCast v624
  let c0_801 : Index := 0#32
  ![0, v625.toNat, 0]
def k0_off48 (d0 : Dev nD) : Fin 3 → Nat :=
  let c0_815 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_751 : BitVec 32 := 0#32
  let v583 : BitVec 32 := Scalar.muli v2 c0_i32_751
  let c0_i32_753 : BitVec 32 := 0#32
  let v585 : BitVec 32 := Scalar.shrsi v2 c0_i32_753
  let c1_i32_754 : BitVec 32 := 1#32
  let v586 : BitVec 32 := Scalar.andi v585 c1_i32_754
  let c4_i32_757 : BitVec 32 := 4#32
  let v590 : BitVec 32 := Scalar.muli v586 c4_i32_757
  let v591 : BitVec 32 := Scalar.addi v583 v590
  let c1_i32_811 : BitVec 32 := 1#32
  let c1_i32_809 : BitVec 32 := 1#32
  let v635 : BitVec 32 := Scalar.shrsi v2 c1_i32_809
  let c1_i32_810 : BitVec 32 := 1#32
  let v636 : BitVec 32 := Scalar.andi v635 c1_i32_810
  let v637 : BitVec 32 := Scalar.subi c1_i32_811 v636
  let c2_i32_812 : BitVec 32 := 2#32
  let v638 : BitVec 32 := Scalar.muli v637 c2_i32_812
  let v639 : BitVec 32 := Scalar.addi v591 v638
  let c64_i32_814 : BitVec 32 := 64#32
  let v642 : BitVec 32 := Scalar.muli v639 c64_i32_814
  let v643 : Index := Scalar.indexCast v642
  let c0_816 : Index := 0#32
  ![0, v643.toNat, 0]
def k0_dev23 (d0 : Dev nD) : Nat :=
  let c0_i32_826 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_808 : BitVec 32 := 2#32
  let v634 : BitVec 32 := Scalar.xori v2 c2_i32_808
  let c1_i32_825 : BitVec 32 := 1#32
  let v650 : BitVec 32 := Scalar.muli v634 c1_i32_825
  let v651 : BitVec 32 := Scalar.addi c0_i32_826 v650
  v651.toNat
def k0_off49 (d0 : Dev nD) : Fin 3 → Nat :=
  let c0_857 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_751 : BitVec 32 := 0#32
  let v583 : BitVec 32 := Scalar.muli v2 c0_i32_751
  let c0_i32_753 : BitVec 32 := 0#32
  let v585 : BitVec 32 := Scalar.shrsi v2 c0_i32_753
  let c1_i32_754 : BitVec 32 := 1#32
  let v586 : BitVec 32 := Scalar.andi v585 c1_i32_754
  let c4_i32_757 : BitVec 32 := 4#32
  let v590 : BitVec 32 := Scalar.muli v586 c4_i32_757
  let v591 : BitVec 32 := Scalar.addi v583 v590
  let c1_i32_809 : BitVec 32 := 1#32
  let v635 : BitVec 32 := Scalar.shrsi v2 c1_i32_809
  let c1_i32_810 : BitVec 32 := 1#32
  let v636 : BitVec 32 := Scalar.andi v635 c1_i32_810
  let c2_i32_813 : BitVec 32 := 2#32
  let v640 : BitVec 32 := Scalar.muli v636 c2_i32_813
  let v641 : BitVec 32 := Scalar.addi v591 v640
  let c64_i32_856 : BitVec 32 := 64#32
  let v674 : BitVec 32 := Scalar.muli v641 c64_i32_856
  let v675 : Index := Scalar.indexCast v674
  let c0_858 : Index := 0#32
  ![0, v675.toNat, 0]
def k0_off50 (d0 : Dev nD) : Fin 3 → Nat :=
  let c0_872 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_751 : BitVec 32 := 0#32
  let v583 : BitVec 32 := Scalar.muli v2 c0_i32_751
  let c0_i32_753 : BitVec 32 := 0#32
  let v585 : BitVec 32 := Scalar.shrsi v2 c0_i32_753
  let c1_i32_754 : BitVec 32 := 1#32
  let v586 : BitVec 32 := Scalar.andi v585 c1_i32_754
  let c4_i32_757 : BitVec 32 := 4#32
  let v590 : BitVec 32 := Scalar.muli v586 c4_i32_757
  let v591 : BitVec 32 := Scalar.addi v583 v590
  let c1_i32_809 : BitVec 32 := 1#32
  let v635 : BitVec 32 := Scalar.shrsi v2 c1_i32_809
  let c1_i32_810 : BitVec 32 := 1#32
  let v636 : BitVec 32 := Scalar.andi v635 c1_i32_810
  let c2_i32_813 : BitVec 32 := 2#32
  let v640 : BitVec 32 := Scalar.muli v636 c2_i32_813
  let v641 : BitVec 32 := Scalar.addi v591 v640
  let c1_i32_868 : BitVec 32 := 1#32
  let c2_i32_866 : BitVec 32 := 2#32
  let v685 : BitVec 32 := Scalar.shrsi v2 c2_i32_866
  let c1_i32_867 : BitVec 32 := 1#32
  let v686 : BitVec 32 := Scalar.andi v685 c1_i32_867
  let v687 : BitVec 32 := Scalar.subi c1_i32_868 v686
  let c1_i32_869 : BitVec 32 := 1#32
  let v688 : BitVec 32 := Scalar.muli v687 c1_i32_869
  let v689 : BitVec 32 := Scalar.addi v641 v688
  let c64_i32_871 : BitVec 32 := 64#32
  let v692 : BitVec 32 := Scalar.muli v689 c64_i32_871
  let v693 : Index := Scalar.indexCast v692
  let c0_873 : Index := 0#32
  ![0, v693.toNat, 0]
def k0_dev24 (d0 : Dev nD) : Nat :=
  let c0_i32_883 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_865 : BitVec 32 := 4#32
  let v684 : BitVec 32 := Scalar.xori v2 c4_i32_865
  let c1_i32_882 : BitVec 32 := 1#32
  let v700 : BitVec 32 := Scalar.muli v684 c1_i32_882
  let v701 : BitVec 32 := Scalar.addi c0_i32_883 v700
  v701.toNat
def k0_off51 (d0 : Dev nD) : Fin 3 → Nat :=
  let c0_914 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_751 : BitVec 32 := 0#32
  let v583 : BitVec 32 := Scalar.muli v2 c0_i32_751
  let c0_i32_753 : BitVec 32 := 0#32
  let v585 : BitVec 32 := Scalar.shrsi v2 c0_i32_753
  let c1_i32_754 : BitVec 32 := 1#32
  let v586 : BitVec 32 := Scalar.andi v585 c1_i32_754
  let c4_i32_757 : BitVec 32 := 4#32
  let v590 : BitVec 32 := Scalar.muli v586 c4_i32_757
  let v591 : BitVec 32 := Scalar.addi v583 v590
  let c1_i32_809 : BitVec 32 := 1#32
  let v635 : BitVec 32 := Scalar.shrsi v2 c1_i32_809
  let c1_i32_810 : BitVec 32 := 1#32
  let v636 : BitVec 32 := Scalar.andi v635 c1_i32_810
  let c2_i32_813 : BitVec 32 := 2#32
  let v640 : BitVec 32 := Scalar.muli v636 c2_i32_813
  let v641 : BitVec 32 := Scalar.addi v591 v640
  let c2_i32_866 : BitVec 32 := 2#32
  let v685 : BitVec 32 := Scalar.shrsi v2 c2_i32_866
  let c1_i32_867 : BitVec 32 := 1#32
  let v686 : BitVec 32 := Scalar.andi v685 c1_i32_867
  let c1_i32_870 : BitVec 32 := 1#32
  let v690 : BitVec 32 := Scalar.muli v686 c1_i32_870
  let v691 : BitVec 32 := Scalar.addi v641 v690
  let c64_i32_913 : BitVec 32 := 64#32
  let v724 : BitVec 32 := Scalar.muli v691 c64_i32_913
  let v725 : Index := Scalar.indexCast v724
  let c0_915 : Index := 0#32
  ![0, v725.toNat, 0]
def k0_dev25 (d0 : Dev nD) : Nat :=
  let c0_i32_937 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_922 : BitVec 32 := 4#32
  let v734 : BitVec 32 := Scalar.xori v2 c4_i32_922
  let c1_i32_936 : BitVec 32 := 1#32
  let v745 : BitVec 32 := Scalar.muli v734 c1_i32_936
  let v746 : BitVec 32 := Scalar.addi c0_i32_937 v745
  v746.toNat
def k0_off52 (d0 : Dev nD) : Fin 3 → Nat :=
  let c0_975 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_751 : BitVec 32 := 0#32
  let v583 : BitVec 32 := Scalar.muli v2 c0_i32_751
  let c0_i32_753 : BitVec 32 := 0#32
  let v585 : BitVec 32 := Scalar.shrsi v2 c0_i32_753
  let c1_i32_754 : BitVec 32 := 1#32
  let v586 : BitVec 32 := Scalar.andi v585 c1_i32_754
  let c4_i32_757 : BitVec 32 := 4#32
  let v590 : BitVec 32 := Scalar.muli v586 c4_i32_757
  let v591 : BitVec 32 := Scalar.addi v583 v590
  let c1_i32_809 : BitVec 32 := 1#32
  let v635 : BitVec 32 := Scalar.shrsi v2 c1_i32_809
  let c1_i32_810 : BitVec 32 := 1#32
  let v636 : BitVec 32 := Scalar.andi v635 c1_i32_810
  let c2_i32_813 : BitVec 32 := 2#32
  let v640 : BitVec 32 := Scalar.muli v636 c2_i32_813
  let v641 : BitVec 32 := Scalar.addi v591 v640
  let c2_i32_866 : BitVec 32 := 2#32
  let v685 : BitVec 32 := Scalar.shrsi v2 c2_i32_866
  let c1_i32_867 : BitVec 32 := 1#32
  let v686 : BitVec 32 := Scalar.andi v685 c1_i32_867
  let c1_i32_870 : BitVec 32 := 1#32
  let v690 : BitVec 32 := Scalar.muli v686 c1_i32_870
  let v691 : BitVec 32 := Scalar.addi v641 v690
  let c2_i32_923 : BitVec 32 := 2#32
  let v735 : BitVec 32 := Scalar.shrsi v2 c2_i32_923
  let c1_i32_924 : BitVec 32 := 1#32
  let v736 : BitVec 32 := Scalar.andi v735 c1_i32_924
  let c1_i32_967 : BitVec 32 := 1#32
  let v769 : BitVec 32 := Scalar.muli v736 c1_i32_967
  let v770 : BitVec 32 := Scalar.subi v691 v769
  let c1_i32_968 : BitVec 32 := 1#32
  let v771 : BitVec 32 := Scalar.subi c1_i32_968 v736
  let c1_i32_969 : BitVec 32 := 1#32
  let v772 : BitVec 32 := Scalar.muli v771 c1_i32_969
  let v773 : BitVec 32 := Scalar.addi v770 v772
  let c64_i32_974 : BitVec 32 := 64#32
  let v777 : BitVec 32 := Scalar.muli v773 c64_i32_974
  let v778 : Index := Scalar.indexCast v777
  let c0_976 : Index := 0#32
  ![0, v778.toNat, 0]
def k0_off53 (d0 : Dev nD) : Fin 3 → Nat :=
  let c0_981 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_751 : BitVec 32 := 0#32
  let v583 : BitVec 32 := Scalar.muli v2 c0_i32_751
  let c0_i32_753 : BitVec 32 := 0#32
  let v585 : BitVec 32 := Scalar.shrsi v2 c0_i32_753
  let c1_i32_754 : BitVec 32 := 1#32
  let v586 : BitVec 32 := Scalar.andi v585 c1_i32_754
  let c4_i32_757 : BitVec 32 := 4#32
  let v590 : BitVec 32 := Scalar.muli v586 c4_i32_757
  let v591 : BitVec 32 := Scalar.addi v583 v590
  let c1_i32_809 : BitVec 32 := 1#32
  let v635 : BitVec 32 := Scalar.shrsi v2 c1_i32_809
  let c1_i32_810 : BitVec 32 := 1#32
  let v636 : BitVec 32 := Scalar.andi v635 c1_i32_810
  let c2_i32_813 : BitVec 32 := 2#32
  let v640 : BitVec 32 := Scalar.muli v636 c2_i32_813
  let v641 : BitVec 32 := Scalar.addi v591 v640
  let c2_i32_866 : BitVec 32 := 2#32
  let v685 : BitVec 32 := Scalar.shrsi v2 c2_i32_866
  let c1_i32_867 : BitVec 32 := 1#32
  let v686 : BitVec 32 := Scalar.andi v685 c1_i32_867
  let c1_i32_870 : BitVec 32 := 1#32
  let v690 : BitVec 32 := Scalar.muli v686 c1_i32_870
  let v691 : BitVec 32 := Scalar.addi v641 v690
  let c2_i32_923 : BitVec 32 := 2#32
  let v735 : BitVec 32 := Scalar.shrsi v2 c2_i32_923
  let c1_i32_924 : BitVec 32 := 1#32
  let v736 : BitVec 32 := Scalar.andi v735 c1_i32_924
  let c1_i32_967 : BitVec 32 := 1#32
  let v769 : BitVec 32 := Scalar.muli v736 c1_i32_967
  let v770 : BitVec 32 := Scalar.subi v691 v769
  let c64_i32_980 : BitVec 32 := 64#32
  let v783 : BitVec 32 := Scalar.muli v770 c64_i32_980
  let v784 : Index := Scalar.indexCast v783
  let c0_982 : Index := 0#32
  ![0, v784.toNat, 0]
def k0_dev26 (d0 : Dev nD) : Nat :=
  let c0_i32_992 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_977 : BitVec 32 := 2#32
  let v780 : BitVec 32 := Scalar.xori v2 c2_i32_977
  let c1_i32_991 : BitVec 32 := 1#32
  let v791 : BitVec 32 := Scalar.muli v780 c1_i32_991
  let v792 : BitVec 32 := Scalar.addi c0_i32_992 v791
  v792.toNat
def k0_off54 (d0 : Dev nD) : Fin 3 → Nat :=
  let c0_1030 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_751 : BitVec 32 := 0#32
  let v583 : BitVec 32 := Scalar.muli v2 c0_i32_751
  let c0_i32_753 : BitVec 32 := 0#32
  let v585 : BitVec 32 := Scalar.shrsi v2 c0_i32_753
  let c1_i32_754 : BitVec 32 := 1#32
  let v586 : BitVec 32 := Scalar.andi v585 c1_i32_754
  let c4_i32_757 : BitVec 32 := 4#32
  let v590 : BitVec 32 := Scalar.muli v586 c4_i32_757
  let v591 : BitVec 32 := Scalar.addi v583 v590
  let c1_i32_809 : BitVec 32 := 1#32
  let v635 : BitVec 32 := Scalar.shrsi v2 c1_i32_809
  let c1_i32_810 : BitVec 32 := 1#32
  let v636 : BitVec 32 := Scalar.andi v635 c1_i32_810
  let c2_i32_813 : BitVec 32 := 2#32
  let v640 : BitVec 32 := Scalar.muli v636 c2_i32_813
  let v641 : BitVec 32 := Scalar.addi v591 v640
  let c2_i32_866 : BitVec 32 := 2#32
  let v685 : BitVec 32 := Scalar.shrsi v2 c2_i32_866
  let c1_i32_867 : BitVec 32 := 1#32
  let v686 : BitVec 32 := Scalar.andi v685 c1_i32_867
  let c1_i32_870 : BitVec 32 := 1#32
  let v690 : BitVec 32 := Scalar.muli v686 c1_i32_870
  let v691 : BitVec 32 := Scalar.addi v641 v690
  let c2_i32_923 : BitVec 32 := 2#32
  let v735 : BitVec 32 := Scalar.shrsi v2 c2_i32_923
  let c1_i32_924 : BitVec 32 := 1#32
  let v736 : BitVec 32 := Scalar.andi v735 c1_i32_924
  let c1_i32_967 : BitVec 32 := 1#32
  let v769 : BitVec 32 := Scalar.muli v736 c1_i32_967
  let v770 : BitVec 32 := Scalar.subi v691 v769
  let c1_i32_978 : BitVec 32 := 1#32
  let v781 : BitVec 32 := Scalar.shrsi v2 c1_i32_978
  let c1_i32_979 : BitVec 32 := 1#32
  let v782 : BitVec 32 := Scalar.andi v781 c1_i32_979
  let c2_i32_1022 : BitVec 32 := 2#32
  let v815 : BitVec 32 := Scalar.muli v782 c2_i32_1022
  let v816 : BitVec 32 := Scalar.subi v770 v815
  let c1_i32_1023 : BitVec 32 := 1#32
  let v817 : BitVec 32 := Scalar.subi c1_i32_1023 v782
  let c2_i32_1024 : BitVec 32 := 2#32
  let v818 : BitVec 32 := Scalar.muli v817 c2_i32_1024
  let v819 : BitVec 32 := Scalar.addi v816 v818
  let c64_i32_1029 : BitVec 32 := 64#32
  let v823 : BitVec 32 := Scalar.muli v819 c64_i32_1029
  let v824 : Index := Scalar.indexCast v823
  let c0_1031 : Index := 0#32
  ![0, v824.toNat, 0]
def k0_off55 (d0 : Dev nD) : Fin 3 → Nat :=
  let c0_1036 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_751 : BitVec 32 := 0#32
  let v583 : BitVec 32 := Scalar.muli v2 c0_i32_751
  let c0_i32_753 : BitVec 32 := 0#32
  let v585 : BitVec 32 := Scalar.shrsi v2 c0_i32_753
  let c1_i32_754 : BitVec 32 := 1#32
  let v586 : BitVec 32 := Scalar.andi v585 c1_i32_754
  let c4_i32_757 : BitVec 32 := 4#32
  let v590 : BitVec 32 := Scalar.muli v586 c4_i32_757
  let v591 : BitVec 32 := Scalar.addi v583 v590
  let c1_i32_809 : BitVec 32 := 1#32
  let v635 : BitVec 32 := Scalar.shrsi v2 c1_i32_809
  let c1_i32_810 : BitVec 32 := 1#32
  let v636 : BitVec 32 := Scalar.andi v635 c1_i32_810
  let c2_i32_813 : BitVec 32 := 2#32
  let v640 : BitVec 32 := Scalar.muli v636 c2_i32_813
  let v641 : BitVec 32 := Scalar.addi v591 v640
  let c2_i32_866 : BitVec 32 := 2#32
  let v685 : BitVec 32 := Scalar.shrsi v2 c2_i32_866
  let c1_i32_867 : BitVec 32 := 1#32
  let v686 : BitVec 32 := Scalar.andi v685 c1_i32_867
  let c1_i32_870 : BitVec 32 := 1#32
  let v690 : BitVec 32 := Scalar.muli v686 c1_i32_870
  let v691 : BitVec 32 := Scalar.addi v641 v690
  let c2_i32_923 : BitVec 32 := 2#32
  let v735 : BitVec 32 := Scalar.shrsi v2 c2_i32_923
  let c1_i32_924 : BitVec 32 := 1#32
  let v736 : BitVec 32 := Scalar.andi v735 c1_i32_924
  let c1_i32_967 : BitVec 32 := 1#32
  let v769 : BitVec 32 := Scalar.muli v736 c1_i32_967
  let v770 : BitVec 32 := Scalar.subi v691 v769
  let c1_i32_978 : BitVec 32 := 1#32
  let v781 : BitVec 32 := Scalar.shrsi v2 c1_i32_978
  let c1_i32_979 : BitVec 32 := 1#32
  let v782 : BitVec 32 := Scalar.andi v781 c1_i32_979
  let c2_i32_1022 : BitVec 32 := 2#32
  let v815 : BitVec 32 := Scalar.muli v782 c2_i32_1022
  let v816 : BitVec 32 := Scalar.subi v770 v815
  let c64_i32_1035 : BitVec 32 := 64#32
  let v829 : BitVec 32 := Scalar.muli v816 c64_i32_1035
  let v830 : Index := Scalar.indexCast v829
  let c0_1037 : Index := 0#32
  ![0, v830.toNat, 0]
def k0_dev27 (d0 : Dev nD) : Nat :=
  let c0_i32_1047 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1032 : BitVec 32 := 1#32
  let v826 : BitVec 32 := Scalar.xori v2 c1_i32_1032
  let c1_i32_1046 : BitVec 32 := 1#32
  let v837 : BitVec 32 := Scalar.muli v826 c1_i32_1046
  let v838 : BitVec 32 := Scalar.addi c0_i32_1047 v837
  v838.toNat
def k0_off56 (d0 : Dev nD) : Fin 3 → Nat :=
  let c0_1085 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_751 : BitVec 32 := 0#32
  let v583 : BitVec 32 := Scalar.muli v2 c0_i32_751
  let c0_i32_753 : BitVec 32 := 0#32
  let v585 : BitVec 32 := Scalar.shrsi v2 c0_i32_753
  let c1_i32_754 : BitVec 32 := 1#32
  let v586 : BitVec 32 := Scalar.andi v585 c1_i32_754
  let c4_i32_757 : BitVec 32 := 4#32
  let v590 : BitVec 32 := Scalar.muli v586 c4_i32_757
  let v591 : BitVec 32 := Scalar.addi v583 v590
  let c1_i32_809 : BitVec 32 := 1#32
  let v635 : BitVec 32 := Scalar.shrsi v2 c1_i32_809
  let c1_i32_810 : BitVec 32 := 1#32
  let v636 : BitVec 32 := Scalar.andi v635 c1_i32_810
  let c2_i32_813 : BitVec 32 := 2#32
  let v640 : BitVec 32 := Scalar.muli v636 c2_i32_813
  let v641 : BitVec 32 := Scalar.addi v591 v640
  let c2_i32_866 : BitVec 32 := 2#32
  let v685 : BitVec 32 := Scalar.shrsi v2 c2_i32_866
  let c1_i32_867 : BitVec 32 := 1#32
  let v686 : BitVec 32 := Scalar.andi v685 c1_i32_867
  let c1_i32_870 : BitVec 32 := 1#32
  let v690 : BitVec 32 := Scalar.muli v686 c1_i32_870
  let v691 : BitVec 32 := Scalar.addi v641 v690
  let c2_i32_923 : BitVec 32 := 2#32
  let v735 : BitVec 32 := Scalar.shrsi v2 c2_i32_923
  let c1_i32_924 : BitVec 32 := 1#32
  let v736 : BitVec 32 := Scalar.andi v735 c1_i32_924
  let c1_i32_967 : BitVec 32 := 1#32
  let v769 : BitVec 32 := Scalar.muli v736 c1_i32_967
  let v770 : BitVec 32 := Scalar.subi v691 v769
  let c1_i32_978 : BitVec 32 := 1#32
  let v781 : BitVec 32 := Scalar.shrsi v2 c1_i32_978
  let c1_i32_979 : BitVec 32 := 1#32
  let v782 : BitVec 32 := Scalar.andi v781 c1_i32_979
  let c2_i32_1022 : BitVec 32 := 2#32
  let v815 : BitVec 32 := Scalar.muli v782 c2_i32_1022
  let v816 : BitVec 32 := Scalar.subi v770 v815
  let c0_i32_1033 : BitVec 32 := 0#32
  let v827 : BitVec 32 := Scalar.shrsi v2 c0_i32_1033
  let c1_i32_1034 : BitVec 32 := 1#32
  let v828 : BitVec 32 := Scalar.andi v827 c1_i32_1034
  let c4_i32_1077 : BitVec 32 := 4#32
  let v861 : BitVec 32 := Scalar.muli v828 c4_i32_1077
  let v862 : BitVec 32 := Scalar.subi v816 v861
  let c1_i32_1078 : BitVec 32 := 1#32
  let v863 : BitVec 32 := Scalar.subi c1_i32_1078 v828
  let c4_i32_1079 : BitVec 32 := 4#32
  let v864 : BitVec 32 := Scalar.muli v863 c4_i32_1079
  let v865 : BitVec 32 := Scalar.addi v862 v864
  let c64_i32_1084 : BitVec 32 := 64#32
  let v869 : BitVec 32 := Scalar.muli v865 c64_i32_1084
  let v870 : Index := Scalar.indexCast v869
  let c0_1086 : Index := 0#32
  ![0, v870.toNat, 0]
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x512x768 : Shape := ⟨3, ![2, 512, 768]⟩
abbrev S768x4096 : Shape := ⟨2, ![768, 4096]⟩
abbrev S2x4096x64x64 : Shape := ⟨4, ![2, 4096, 64, 64]⟩
abbrev S4096x768 : Shape := ⟨2, ![4096, 768]⟩
abbrev S2x512x4096 : Shape := ⟨3, ![2, 512, 4096]⟩
abbrev S2x512x64x64 : Shape := ⟨4, ![2, 512, 64, 64]⟩
abbrev S512 : Shape := ⟨1, ![512]⟩
abbrev S_ : Shape := ⟨0, ![]⟩
abbrev S512x1 : Shape := ⟨2, ![512, 1]⟩
abbrev S4096 : Shape := ⟨1, ![4096]⟩
abbrev S1x4096 : Shape := ⟨2, ![1, 4096]⟩
abbrev S512x4096 : Shape := ⟨2, ![512, 4096]⟩
abbrev S2x64x512x4096 : Shape := ⟨4, ![2, 64, 512, 4096]⟩
abbrev S1x1x512x4096 : Shape := ⟨4, ![1, 1, 512, 4096]⟩
abbrev S2x64x512 : Shape := ⟨3, ![2, 64, 512]⟩
abbrev S2x64x512x1 : Shape := ⟨4, ![2, 64, 512, 1]⟩
abbrev S1x1x512x1 : Shape := ⟨4, ![1, 1, 512, 1]⟩
abbrev S2x64x64x512 : Shape := ⟨4, ![2, 64, 64, 512]⟩

abbrev nBuf : Space → Nat
  | .hbm => 142
  | .vmem => 0
  | .smem => 0
  | _ => 0

abbrev hbmTy0_0 (i : Nat) : BufTy := match i % 128 with
  | 0 => ⟨S2x512x768, .bf16⟩
  | 1 => ⟨S768x4096, .bf16⟩
  | 2 => ⟨S2x4096x64x64, .bf16⟩
  | 3 => ⟨S2x4096x64x64, .bf16⟩
  | 4 => ⟨S4096x768, .bf16⟩
  | 5 => ⟨S2x512x768, .f32⟩
  | 6 => ⟨S768x4096, .f32⟩
  | 7 => ⟨S2x4096x64x64, .f32⟩
  | 8 => ⟨S2x4096x64x64, .f32⟩
  | 9 => ⟨S4096x768, .f32⟩
  | 10 => ⟨S2x512x4096, .f32⟩
  | 11 => ⟨S2x512x64x64, .f32⟩
  | 12 => ⟨S512, .i32⟩
  | 13 => ⟨S_, .i32⟩
  | 14 => ⟨S_, .i32⟩
  | 15 => ⟨S512, .i32⟩
  | 16 => ⟨S512, .i32⟩
  | 17 => ⟨S512, .i32⟩
  | 18 => ⟨S_, .i32⟩
  | 19 => ⟨S512, .i32⟩
  | 20 => ⟨S512, .i1⟩
  | 21 => ⟨S512, .i32⟩
  | 22 => ⟨S512, .i32⟩
  | 23 => ⟨S_, .i32⟩
  | 24 => ⟨S512, .i32⟩
  | 25 => ⟨S512, .i1⟩
  | 26 => ⟨S512, .i1⟩
  | 27 => ⟨S_, .i32⟩
  | 28 => ⟨S512, .i32⟩
  | 29 => ⟨S512, .i32⟩
  | 30 => ⟨S512, .i32⟩
  | 31 => ⟨S512x1, .i32⟩
  | 32 => ⟨S4096, .i32⟩
  | 33 => ⟨S_, .i32⟩
  | 34 => ⟨S_, .i32⟩
  | 35 => ⟨S4096, .i32⟩
  | 36 => ⟨S4096, .i32⟩
  | 37 => ⟨S4096, .i32⟩
  | 38 => ⟨S_, .i32⟩
  | 39 => ⟨S4096, .i32⟩
  | 40 => ⟨S4096, .i1⟩
  | 41 => ⟨S4096, .i32⟩
  | 42 => ⟨S4096, .i32⟩
  | 43 => ⟨S_, .i32⟩
  | 44 => ⟨S4096, .i32⟩
  | 45 => ⟨S4096, .i1⟩
  | 46 => ⟨S4096, .i1⟩
  | 47 => ⟨S_, .i32⟩
  | 48 => ⟨S4096, .i32⟩
  | 49 => ⟨S4096, .i32⟩
  | 50 => ⟨S4096, .i32⟩
  | 51 => ⟨S1x4096, .i32⟩
  | 52 => ⟨S512x4096, .i32⟩
  | 53 => ⟨S512x4096, .i32⟩
  | 54 => ⟨S512x4096, .i1⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S1x4096, .i32⟩
  | 62 => ⟨S1x4096, .i32⟩
  | 63 => ⟨S_, .i32⟩
  | 64 => ⟨S1x4096, .i32⟩
  | 65 => ⟨S1x4096, .i1⟩
  | 66 => ⟨S_, .i32⟩
  | 67 => ⟨S1x4096, .i32⟩
  | 68 => ⟨S1x4096, .i1⟩
  | 69 => ⟨S_, .i32⟩
  | 70 => ⟨S_, .i1⟩
  | 71 => ⟨S1x4096, .i1⟩
  | 72 => ⟨S1x4096, .i1⟩
  | 73 => ⟨S1x4096, .i1⟩
  | 74 => ⟨S1x4096, .i32⟩
  | 75 => ⟨S1x4096, .i32⟩
  | 76 => ⟨S1x4096, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S512x1, .i32⟩
  | 84 => ⟨S512x1, .i32⟩
  | 85 => ⟨S_, .i32⟩
  | 86 => ⟨S512x1, .i32⟩
  | 87 => ⟨S512x1, .i1⟩
  | 88 => ⟨S_, .i32⟩
  | 89 => ⟨S512x1, .i32⟩
  | 90 => ⟨S512x1, .i1⟩
  | 91 => ⟨S_, .i32⟩
  | 92 => ⟨S_, .i1⟩
  | 93 => ⟨S512x1, .i1⟩
  | 94 => ⟨S512x1, .i1⟩
  | 95 => ⟨S512x1, .i1⟩
  | 96 => ⟨S512x1, .i32⟩
  | 97 => ⟨S512x1, .i32⟩
  | 98 => ⟨S512x1, .i32⟩
  | 99 => ⟨S512x4096, .i32⟩
  | 100 => ⟨S512x4096, .i32⟩
  | 101 => ⟨S512x4096, .i1⟩
  | 102 => ⟨S512x4096, .i1⟩
  | 103 => ⟨S2x64x512x4096, .f32⟩
  | 104 => ⟨S_, .f32⟩
  | 105 => ⟨S2x64x512x4096, .f32⟩
  | 106 => ⟨S2x64x512x4096, .f32⟩
  | 107 => ⟨S1x1x512x4096, .i1⟩
  | 108 => ⟨S_, .f32⟩
  | 109 => ⟨S_, .f32⟩
  | 110 => ⟨S2x64x512x4096, .i1⟩
  | 111 => ⟨S2x64x512x4096, .f32⟩
  | 112 => ⟨S2x64x512x4096, .f32⟩
  | 113 => ⟨S_, .f32⟩
  | 114 => ⟨S2x64x512, .f32⟩
  | 115 => ⟨S2x64x512x1, .f32⟩
  | 116 => ⟨S2x64x512x4096, .f32⟩
  | 117 => ⟨S2x64x512x4096, .f32⟩
  | 118 => ⟨S2x64x512x4096, .f32⟩
  | 119 => ⟨S_, .i1⟩
  | 120 => ⟨S512, .i1⟩
  | 121 => ⟨S1x1x512x1, .i1⟩
  | 122 => ⟨S_, .f32⟩
  | 123 => ⟨S2x64x512, .f32⟩
  | 124 => ⟨S2x64x512x1, .f32⟩
  | 125 => ⟨S_, .f32⟩
  | 126 => ⟨S_, .f32⟩
  | 127 => ⟨S2x64x512x1, .i1⟩
  | _ => ⟨S2x512x768, .bf16⟩

abbrev hbmTy0_1 (i : Nat) : BufTy := match i % 128 with
  | 0 => ⟨S2x64x512x1, .f32⟩
  | 1 => ⟨S2x64x512x1, .f32⟩
  | 2 => ⟨S2x64x512x4096, .f32⟩
  | 3 => ⟨S2x64x512x4096, .f32⟩
  | 4 => ⟨S1x1x512x1, .i1⟩
  | 5 => ⟨S_, .f32⟩
  | 6 => ⟨S_, .f32⟩
  | 7 => ⟨S2x64x512x4096, .i1⟩
  | 8 => ⟨S2x64x512x4096, .f32⟩
  | 9 => ⟨S2x64x512x4096, .f32⟩
  | 10 => ⟨S2x64x64x512, .f32⟩
  | 11 => ⟨S2x512x64x64, .f32⟩
  | 12 => ⟨S2x512x4096, .f32⟩
  | 13 => ⟨S2x512x768, .f32⟩
  | _ => ⟨S2x512x768, .bf16⟩

abbrev hbmTy (i : Nat) : BufTy := match i / 128 with
  | 0 => hbmTy0_0 i
  | 1 => hbmTy0_1 i
  | _ => ⟨S2x512x768, .bf16⟩

abbrev bufTy : (tb : Table) → Fin (tcTables nBuf tb) → BufTy
  | .hbm, ⟨i, _⟩ => hbmTy i
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_v5 : Ref sig .tc := ⟨.hbm, 64, rfl⟩
abbrev main_call2_v6 : Ref sig .tc := ⟨.hbm, 65, rfl⟩
abbrev main_call2_c_2 : Ref sig .tc := ⟨.hbm, 66, rfl⟩
abbrev main_call2_v7 : Ref sig .tc := ⟨.hbm, 67, rfl⟩
abbrev main_call2_v8 : Ref sig .tc := ⟨.hbm, 68, rfl⟩
abbrev main_call2_c_3 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_v16 : Ref sig .tc := ⟨.hbm, 76, rfl⟩
abbrev main_c_2 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_1 : Ref sig .tc := ⟨.hbm, 85, rfl⟩
abbrev main_call3_v5 : Ref sig .tc := ⟨.hbm, 86, rfl⟩
abbrev main_call3_v6 : Ref sig .tc := ⟨.hbm, 87, rfl⟩
abbrev main_call3_c_2 : Ref sig .tc := ⟨.hbm, 88, rfl⟩
abbrev main_call3_v7 : Ref sig .tc := ⟨.hbm, 89, rfl⟩
abbrev main_call3_v8 : Ref sig .tc := ⟨.hbm, 90, rfl⟩
abbrev main_call3_c_3 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_cst : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_cst_3 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v26 : Ref sig .tc := ⟨.hbm, 112, rfl⟩
abbrev main_cst_4 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_c_5 : Ref sig .tc := ⟨.hbm, 119, rfl⟩
abbrev main_v32 : Ref sig .tc := ⟨.hbm, 120, rfl⟩
abbrev main_v33 : Ref sig .tc := ⟨.hbm, 121, rfl⟩
abbrev main_cst_6 : Ref sig .tc := ⟨.hbm, 122, rfl⟩
abbrev main_v34 : Ref sig .tc := ⟨.hbm, 123, rfl⟩
abbrev main_v35 : Ref sig .tc := ⟨.hbm, 124, rfl⟩
abbrev main_cst_7 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_cst_8 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.Mesh.lean ====
/- The mesh of eight devices: which device a copy or a signal addresses, where the blocks lie, and the views the body names. -/
module

public import proofs.«01_k».proof.Proof.Gen.KernelIdeal.Frame
public import proofs.«01_k».proof.Proof.Gen.KernelIdeal.Skeleton
public import Idealize.ShloMosaic.Lib.Decide

@[expose] public section

noncomputable section

namespace Cert.Proof.Att

open Idealize.ShloMosaic Idealize.ShloMosaic.TcCoe Idealize.SL.Sem
open Cert.KernelIdeal Cert.KernelIdeal.Gen

/-! ## Devices -/

/-- The device that copy `i` of device `c` goes to: `i + 1` places further round. -/
def kvTgt (i : Fin 7) (c : Dev nD) : Dev nD := ⟨(c.val + (i.val + 1)) % 8, Nat.mod_lt _ (by decide)⟩
/-- The device that copy `i` into device `c` comes from. -/
def kvSrc (i : Fin 7) (c : Dev nD) : Dev nD := ⟨(c.val + (7 - i.val)) % 8, Nat.mod_lt _ (by decide)⟩
/-- The copy index that goes the way back. -/
def bk (i : Fin 7) : Fin 7 := ⟨6 - i.val, by omega⟩
/-- The partner of step `k`: bit `k` of the number turned over. -/
def xr (k : Fin 3) (c : Dev nD) : Dev nD :=
  match k with
  | 0 => ![1, 0, 3, 2, 5, 4, 7, 6] c
  | 1 => ![2, 3, 0, 1, 6, 7, 4, 5] c
  | 2 => ![4, 5, 6, 7, 0, 1, 2, 3] c

theorem kvSrc_kvTgt (i : Fin 7) (c : Dev nD) : kvSrc i (kvTgt i c) = c := by revert i c; decide
theorem kvTgt_kvSrc (i : Fin 7) (c : Dev nD) : kvTgt i (kvSrc i c) = c := by revert i c; decide
theorem kvTgt_bk (i : Fin 7) (c : Dev nD) : kvTgt (bk i) c = kvSrc i c := by revert i c; decide
theorem kvSrc_bk (i : Fin 7) (c : Dev nD) : kvSrc (bk i) c = kvTgt i c := by revert i c; decide
theorem bk_bk (i : Fin 7) : bk (bk i) = i := by revert i; decide
theorem xr_xr (k : Fin 3) (c : Dev nD) : xr k (xr k c) = c := by revert k c; decide
theorem kvTgt_ne (i : Fin 7) (c : Dev nD) : kvTgt i c ≠ c := by revert i c; decide
theorem kvTgt_inj (c : Dev nD) : Function.Injective (fun i => kvTgt i c) := by intro i j; revert i j c; decide
/-- Each other device is reached by exactly one copy. -/
theorem kvTgt_surj (c s : Dev nD) (h : s ≠ c) : ∃ i, kvTgt i c = s := by revert c s; decide
theorem kvSrc_surj (c s : Dev nD) (h : s ≠ c) : ∃ i, kvSrc i c = s := by revert c s; decide
theorem xr_surj (k : Fin 3) (c : Dev nD) : ∃ i, kvTgt i c = xr k c := by revert k c; decide

/-- Copy `i`'s target as a permutation of the devices. -/
def kvE (i : Fin 7) : Dev nD ≃ Dev nD := ⟨kvTgt i, kvSrc i, kvSrc_kvTgt i, kvTgt_kvSrc i⟩
def xrE (k : Fin 3) : Dev nD ≃ Dev nD := ⟨xr k, xr k, xr_xr k, xr_xr k⟩

theorem dev_sig1 (c : Dev nD) : (⟨k0_dev1 c, k0_dev1_lt c⟩ : Dev nD) = kvTgt 0 c := Fin.ext (by revert c; decide +kernel)
theorem dev_sig2 (c : Dev nD) : (⟨k0_dev2 c, k0_dev2_lt c⟩ : Dev nD) = kvTgt 1 c := Fin.ext (by revert c; decide +kernel)
theorem dev_sig3 (c : Dev nD) : (⟨k0_dev3 c, k0_dev3_lt c⟩ : Dev nD) = kvTgt 2 c := Fin.ext (by revert c; decide +kernel)
theorem dev_sig4 (c : Dev nD) : (⟨k0_dev4 c, k0_dev4_lt c⟩ : Dev nD) = kvTgt 3 c := Fin.ext (by revert c; decide +kernel)
theorem dev_sig5 (c : Dev nD) : (⟨k0_dev5 c, k0_dev5_lt c⟩ : Dev nD) = kvTgt 4 c := Fin.ext (by revert c; decide +kernel)
theorem dev_sig6 (c : Dev nD) : (⟨k0_dev6 c, k0_dev6_lt c⟩ : Dev nD) = kvTgt 5 c := Fin.ext (by revert c; decide +kernel)
theorem dev_sig7 (c : Dev nD) : (⟨k0_dev7 c, k0_dev7_lt c⟩ : Dev nD) = kvTgt 6 c := Fin.ext (by revert c; decide +kernel)
theorem dev8 (c : Dev nD) : (⟨k0_dev8 c, k0_dev8_lt c⟩ : Dev nD) = kvTgt 0 c := Fin.ext (by revert c; decide +kernel)
theorem dev9 (c : Dev nD) : (⟨k0_dev9 c, k0_dev9_lt c⟩ : Dev nD) = kvTgt 0 c := Fin.ext (by revert c; decide +kernel)
theorem dev10 (c : Dev nD) : (⟨k0_dev10 c, k0_dev10_lt c⟩ : Dev nD) = kvTgt 1 c := Fin.ext (by revert c; decide +kernel)
theorem dev11 (c : Dev nD) : (⟨k0_dev11 c, k0_dev11_lt c⟩ : Dev nD) = kvTgt 1 c := Fin.ext (by revert c; decide +kernel)
theorem dev12 (c : Dev nD) : (⟨k0_dev12 c, k0_dev12_lt c⟩ : Dev nD) = kvTgt 2 c := Fin.ext (by revert c; decide +kernel)
theorem dev13 (c : Dev nD) : (⟨k0_dev13 c, k0_dev13_lt c⟩ : Dev nD) = kvTgt 2 c := Fin.ext (by revert c; decide +kernel)
theorem dev14 (c : Dev nD) : (⟨k0_dev14 c, k0_dev14_lt c⟩ : Dev nD) = kvTgt 3 c := Fin.ext (by revert c; decide +kernel)
theorem dev15 (c : Dev nD) : (⟨k0_dev15 c, k0_dev15_lt c⟩ : Dev nD) = kvTgt 3 c := Fin.ext (by revert c; decide +kernel)
theorem dev16 (c : Dev nD) : (⟨k0_dev16 c, k0_dev16_lt c⟩ : Dev nD) = kvTgt 4 c := Fin.ext (by revert c; decide +kernel)
theorem dev17 (c : Dev nD) : (⟨k0_dev17 c, k0_dev17_lt c⟩ : Dev nD) = kvTgt 4 c := Fin.ext (by revert c; decide +kernel)
theorem dev18 (c : Dev nD) : (⟨k0_dev18 c, k0_dev18_lt c⟩ : Dev nD) = kvTgt 5 c := Fin.ext (by revert c; decide +kernel)
theorem dev19 (c : Dev nD) : (⟨k0_dev19 c, k0_dev19_lt c⟩ : Dev nD) = kvTgt 5 c := Fin.ext (by revert c; decide +kernel)
theorem dev20 (c : Dev nD) : (⟨k0_dev20 c, k0_dev20_lt c⟩ : Dev nD) = kvTgt 6 c := Fin.ext (by revert c; decide +kernel)
theorem dev21 (c : Dev nD) : (⟨k0_dev21 c, k0_dev21_lt c⟩ : Dev nD) = kvTgt 6 c := Fin.ext (by revert c; decide +kernel)
theorem dev22 (c : Dev nD) : (⟨k0_dev22 c, k0_dev22_lt c⟩ : Dev nD) = xr 0 c := Fin.ext (by revert c; decide +kernel)
theorem dev23 (c : Dev nD) : (⟨k0_dev23 c, k0_dev23_lt c⟩ : Dev nD) = xr 1 c := Fin.ext (by revert c; decide +kernel)
theorem dev24 (c : Dev nD) : (⟨k0_dev24 c, k0_dev24_lt c⟩ : Dev nD) = xr 2 c := Fin.ext (by revert c; decide +kernel)
theorem dev25 (c : Dev nD) : (⟨k0_dev25 c, k0_dev25_lt c⟩ : Dev nD) = xr 2 c := Fin.ext (by revert c; decide +kernel)
theorem dev26 (c : Dev nD) : (⟨k0_dev26 c, k0_dev26_lt c⟩ : Dev nD) = xr 1 c := Fin.ext (by revert c; decide +kernel)
theorem dev27 (c : Dev nD) : (⟨k0_dev27 c, k0_dev27_lt c⟩ : Dev nD) = xr 0 c := Fin.ext (by revert c; decide +kernel)

/-! ## Offsets -/

theorem off1_eq (c : Dev nD) : k0_off1 c = ![c.val, 0, 0, 0, 0, 0] := by revert c; decide +kernel
theorem off2_eq (c : Dev nD) (i : Fin 7) : k0_off2 c (BitVec.ofNat 32 (1 + i.val)) = ![0, 8 * (kvTgt i c).val, 0, 0, 0] := by
  revert c i; decide +kernel
theorem off3_eq (c : Dev nD) : k0_off3 c = ![0, 8 * c.val, 0, 0, 0] := by revert c; decide +kernel

/-! ## The views the copies name -/

abbrev ktM : Memref sig .tc .hbm S2x64x4x128x64 .bf16 := Memref.whole main_v3
abbrev vtM : Memref sig .tc .hbm S2x64x4x128x64 .bf16 := Memref.whole main_v6
abbrev kgM : Memref sig .tc .vmem S8x2x8x4x128x64 .bf16 := Memref.whole cc0_scratch0
abbrev vgM : Memref sig .tc .vmem S8x2x8x4x128x64 .bf16 := Memref.whole cc0_scratch1
abbrev qM : Memref sig .tc .vmem S16x512x64 .bf16 := Memref.whole cc0_scratch2
abbrev bsM : Memref sig .tc .vmem S3x2x256x768 .bf16 := Memref.whole cc0_scratch3
abbrev brM : Memref sig .tc .vmem S3x2x256x768 .bf16 := Memref.whole cc0_scratch4
abbrev asM : Memref sig .tc .vmem S3x2x256x768 .bf16 := Memref.whole cc0_scratch5
abbrev arM : Memref sig .tc .vmem S3x2x256x768 .bf16 := Memref.whole cc0_scratch6

/-- Slot `s` of a gather buffer. -/
abbrev gSlot (g : Memref sig .tc .vmem S8x2x8x4x128x64 .bf16) (s : Dev nD) : Memref sig .tc .vmem S2x8x4x128x64 .bf16 :=
  (g.slice (Rect.unit (s := S8x2x8x4x128x64) (k0_off1 s) S1x2x8x4x128x64.size (k0_off1_inb s)) (fun _ => rfl)).squeeze
    S2x8x4x128x64 squeezes_S1x2x8x4x128x64_S2x8x4x128x64
/-- The eight heads that copy `i` of device `c` takes. -/
abbrev hSrc (t : Memref sig .tc .hbm S2x64x4x128x64 .bf16) (c : Dev nD) (i : Fin 7) : Memref sig .tc .hbm S2x8x4x128x64 .bf16 :=
  t.slice (Rect.unit (s := S2x64x4x128x64) (k0_off2 c (BitVec.ofNat 32 (1 + i.val))) S2x8x4x128x64.size (k0_off2_inb c i)) (fun _ => rfl)
/-- The eight heads of device `c` itself. -/
abbrev hOwn (t : Memref sig .tc .hbm S2x64x4x128x64 .bf16) (c : Dev nD) : Memref sig .tc .hbm S2x8x4x128x64 .bf16 :=
  t.slice (Rect.unit (s := S2x64x4x128x64) (k0_off3 c) S2x8x4x128x64.size (k0_off3_inb c)) (fun _ => rfl)

/-- The block of the first 256, 128, 64 rows of slot 0, 1, 2 of a half buffer. -/
abbrev r0 : Rect S3x2x256x768 := Rect.unit (s := S3x2x256x768) ![0, 0, 0, 0] S1x2x256x768.size inb_S3x2x256x768_S1x2x256x768_0_0_0_0
abbrev r1 : Rect S3x2x256x768 := Rect.unit (s := S3x2x256x768) ![1, 0, 0, 0] S1x2x128x768.size inb_S3x2x256x768_S1x2x128x768_1_0_0_0
abbrev r2 : Rect S3x2x256x768 := Rect.unit (s := S3x2x256x768) ![2, 0, 0, 0] S1x2x64x768.size inb_S3x2x256x768_S1x2x64x768_2_0_0_0
abbrev bSlot0 (g : Memref sig .tc .vmem S3x2x256x768 .bf16) : Memref sig .tc .vmem S2x256x768 .bf16 :=
  (g.slice r0 (fun _ => rfl)).squeeze S2x256x768 squeezes_S1x2x256x768_S2x256x768
abbrev bSlot1 (g : Memref sig .tc .vmem S3x2x256x768 .bf16) : Memref sig .tc .vmem S2x128x768 .bf16 :=
  (g.slice r1 (fun _ => rfl)).squeeze S2x128x768 squeezes_S1x2x128x768_S2x128x768
abbrev bSlot2 (g : Memref sig .tc .vmem S3x2x256x768 .bf16) : Memref sig .tc .vmem S2x64x768 .bf16 :=
  (g.slice r2 (fun _ => rfl)).squeeze S2x64x768 squeezes_S1x2x64x768_S2x64x768

/-- The index set of slot `s` of a gather buffer. -/
def gSet (s : Dev nD) : Finset S8x2x8x4x128x64.Idx := (Rect.unit (s := S8x2x8x4x128x64) (k0_off1 s) S1x2x8x4x128x64.size (k0_off1_inb s)).set
/-- The index set of a device's eight heads of the re-laid keys. -/
abbrev hRect (d : Dev nD) : Rect S2x64x4x128x64 := Rect.unit (s := S2x64x4x128x64) (k0_off3 d) S2x8x4x128x64.size (k0_off3_inb d)
def hSet (d : Dev nD) : Finset S2x64x4x128x64.Idx := (hRect d).set
/-- The index set of block `k` of a half buffer. -/
def bSet (k : Fin 3) : Finset S3x2x256x768.Idx := match k with | 0 => r0.set | 1 => r1.set | 2 => r2.set

theorem kSlot_set (s : Dev nD) : (gSlot kgM s).view.set = gSet s := by
  show ((View.whole cc0_scratch0).slice _ |>.reshape _ _).set = _
  rw [View.set_reshape, View.set_slice_whole]; rfl
theorem vSlot_set (s : Dev nD) : (gSlot vgM s).view.set = gSet s := by
  show ((View.whole cc0_scratch1).slice _ |>.reshape _ _).set = _
  rw [View.set_reshape, View.set_slice_whole]; rfl
theorem rect_off2 (c : Dev nD) (i : Fin 7) :
    (Rect.unit (s := S2x64x4x128x64) (k0_off2 c (BitVec.ofNat 32 (1 + i.val))) S2x8x4x128x64.size (k0_off2_inb c i)) = hRect (kvTgt i c) := by
  have h : k0_off2 c (BitVec.ofNat 32 (1 + i.val)) = k0_off3 (kvTgt i c) := by rw [off2_eq, off3_eq]
  congr 1
theorem kSrc_set (c : Dev nD) (i : Fin 7) : (hSrc ktM c i).view.set = hSet (kvTgt i c) := by
  show ((View.whole main_v3).slice _).set = _
  rw [View.set_slice_whole]
  exact congrArg (fun r => r.set) (rect_off2 c i)
theorem vSrc_set (c : Dev nD) (i : Fin 7) : (hSrc vtM c i).view.set = hSet (kvTgt i c) := by
  show ((View.whole main_v6).slice _).set = _
  rw [View.set_slice_whole]
  exact congrArg (fun r => r.set) (rect_off2 c i)
theorem kOwn_set (c : Dev nD) : (hOwn ktM c).view.set = hSet c := by
  show ((View.whole main_v3).slice _).set = _
  rw [View.set_slice_whole]; rfl
theorem vOwn_set (c : Dev nD) : (hOwn vtM c).view.set = hSet c := by
  show ((View.whole main_v6).slice _).set = _
  rw [View.set_slice_whole]; rfl

theorem mem_gSet (s : Dev nD) (j : S8x2x8x4x128x64.Idx) : j ∈ gSet s ↔ (j 0).val = s.val := by
  unfold gSet; rw [Rect.mem_set_unit, off1_eq]
  constructor
  · intro h; have := h 0; simp at this; omega
  · intro h a
    fin_cases a
    · simp; omega
    all_goals simp; exact (j _).isLt
theorem mem_hSet (d : Dev nD) (j : S2x64x4x128x64.Idx) : j ∈ hSet d ↔ (j 1).val / 8 = d.val := by
  unfold hSet; rw [Rect.mem_set_unit, off3_eq]
  constructor
  · intro h; have := h 1; simp at this; omega
  · intro h a
    fin_cases a
    · simp; exact (j _).isLt
    · simp; omega
    all_goals simp; exact (j _).isLt
theorem mem_bSet (k : Fin 3) (j : S3x2x256x768.Idx) (h : j ∈ bSet k) : (j 0).val = k.val := by
  fin_cases k <;> (simp only [bSet, Rect.mem_set_unit] at h; have := h 0; simp at this; simp; omega)

theorem gSet_disj {s t : Dev nD} (h : s ≠ t) : Disjoint (gSet s) (gSet t) :=
  Finset.disjoint_left.mpr fun j hj hj' => h (Fin.ext (by rw [← (mem_gSet s j).mp hj, (mem_gSet t j).mp hj']))
theorem hSet_disj {s t : Dev nD} (h : s ≠ t) : Disjoint (hSet s) (hSet t) :=
  Finset.disjoint_left.mpr fun j hj hj' => h (Fin.ext (by rw [← (mem_hSet s j).mp hj, (mem_hSet t j).mp hj']))
theorem bSet_disj {s t : Fin 3} (h : s ≠ t) : Disjoint (bSet s) (bSet t) :=
  Finset.disjoint_left.mpr fun j hj hj' => h (Fin.ext (by rw [← mem_bSet s j hj, mem_bSet t j hj']))
theorem gSet_cover : Finset.univ.biUnion gSet = Finset.univ := by
  ext j; simp only [Finset.mem_biUnion, Finset.mem_univ, true_and, iff_true]
  exact ⟨⟨(j 0).val, (j 0).isLt⟩, (mem_gSet _ j).mpr rfl⟩
theorem hSet_cover : Finset.univ.biUnion hSet = Finset.univ := by
  ext j; simp only [Finset.mem_biUnion, Finset.mem_univ, true_and, iff_true]
  have h : (j 1).val < 64 := (j 1).isLt
  exact ⟨⟨(j 1).val / 8, by show _ < 8; omega⟩, (mem_hSet _ j).mpr rfl⟩

end Cert.Proof.Att
-- ==== Proof.Sched.lean ====
/- The protocol of the exchange: the semaphores, what each landing hands over, what each device pays and in which order. -/
module

public import proofs.«01_k».proof.Proof.Mesh
public import Idealize.ShloMosaic.Lib.Rounds
public import Idealize.ShloMosaic.Lib.Pipeline.Kit

@[expose] public section

noncomputable section

namespace Cert.Proof.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra -/

/-- The exchange's records: a barrier cell has seven duties, every other cell one. -/
abbrev UX : Type := URounds (GSem nD τ sig) (Fin 7)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-! ## The semaphores -/

/-- The copies' semaphores: of the key and value copies (key sent, key received, value sent, value received; seven
    each), of the reduction's copies (half sent, half received, sum sent, sum received; three each), of the two local copies. -/
abbrev Cl : Type := (Fin 4 × Fin 7) ⊕ (Fin 4 × Fin 3) ⊕ Fin 2

abbrev KS (i : Fin 7) : Cl := .inl (0, i)
abbrev KR (i : Fin 7) : Cl := .inl (1, i)
abbrev VS (i : Fin 7) : Cl := .inl (2, i)
abbrev VR (i : Fin 7) : Cl := .inl (3, i)
abbrev RS (k : Fin 3) : Cl := .inr (.inl (0, k))
abbrev RR (k : Fin 3) : Cl := .inr (.inl (1, k))
abbrev AS (k : Fin 3) : Cl := .inr (.inl (2, k))
abbrev AR (k : Fin 3) : Cl := .inr (.inl (3, k))
abbrev LC (j : Fin 2) : Cl := .inr (.inr j)

/-- Its number among the DMA semaphores. -/
def num : Cl → ℕ
  | .inl (f, i) => 4 + 7 * f.val + i.val
  | .inr (.inl (f, k)) => 32 + 3 * f.val + k.val
  | .inr (.inr j) => 44 + j.val

theorem num_lt (n : Cl) : num n < 46 := by
  rcases n with ⟨f, i⟩ | ⟨f, k⟩ | j <;> simp only [num] <;> omega

abbrev barS : Sem sig := sig.barrier 0 rfl
def dsem (n : Cl) : DmaSem sig := ⟨num n, num_lt n⟩
def osem (n : Cl) : SemLoc sig := .dma (dsem n)

/-- Which semaphore of the exchange a cell is: the barrier, a copy's, or none. -/
def cls : SemLoc sig → Option (Option Cl)
  | .reg _ => some none
  | .dma s =>
    if s.val < 4 then none
    else if h : s.val < 32 then some (some (.inl (⟨(s.val - 4) / 7, by omega⟩, ⟨(s.val - 4) % 7, by omega⟩)))
    else if h' : s.val < 44 then some (some (.inr (.inl (⟨(s.val - 32) / 3, by omega⟩, ⟨(s.val - 32) % 3, by omega⟩))))
    else some (some (.inr (.inr ⟨(s.val - 44) % 2, by omega⟩)))

theorem cls_osem (n : Cl) : cls (osem n) = some (some n) := by
  rcases n with ⟨f, i⟩ | ⟨f, k⟩ | j
  · have h1 : ¬ (4 + 7 * f.val + i.val < 4) := by omega
    have h2 : 4 + 7 * f.val + i.val < 32 := by omega
    simp only [osem, dsem, num, cls, h1, h2, if_false, dif_pos]
    refine congrArg (fun z => some (some (Sum.inl z))) (Prod.ext (Fin.ext ?_) (Fin.ext ?_)) <;> (show _ = _; simp only []; omega)
  · have h1 : ¬ (32 + 3 * f.val + k.val < 4) := by omega
    have h2 : ¬ (32 + 3 * f.val + k.val < 32) := by omega
    have h3 : 32 + 3 * f.val + k.val < 44 := by omega
    simp only [osem, dsem, num, cls, h1, h2, h3, if_false, dif_pos, dif_neg, not_false_eq_true]
    refine congrArg (fun z => some (some (Sum.inr (Sum.inl z)))) (Prod.ext (Fin.ext ?_) (Fin.ext ?_)) <;> (show _ = _; simp only []; omega)
  · have h1 : ¬ (44 + j.val < 4) := by omega
    have h2 : ¬ (44 + j.val < 32) := by omega
    have h3 : ¬ (44 + j.val < 44) := by omega
    simp only [osem, dsem, num, cls, h1, h2, h3, if_false, dif_neg, not_false_eq_true]
    refine congrArg (fun z => some (some (Sum.inr (Sum.inr z)))) (Fin.ext ?_); show _ = _; simp only []; omega
@[simp] theorem cls_bar (s : Sem sig) : cls (.reg s) = some none := rfl
theorem osem_inj : Function.Injective osem := fun a b h => by
  have := congrArg cls h; rw [cls_osem, cls_osem] at this; exact Option.some.inj (Option.some.inj this)
theorem osem_ne_bar (n : Cl) (s : Sem sig) : osem n ≠ .reg s := fun h => by cases h

abbrev barCell (c : Dev nD) : GSem nD τ sig := ((c : Thread nD τ), .reg barS)
abbrev cell (n : Cl) (c : Dev nD) : GSem nD τ sig := ((c : Thread nD τ), osem n)

/-- What one landing of the key and value copies credits; of the reduction's copies, the first, second, third. -/
def NG : ℕ := (gSlot kgM 0).view.dmaCredit
def NB (k : Fin 3) : ℕ := match k with | 0 => (bSlot0 bsM).view.dmaCredit | 1 => (bSlot1 bsM).view.dmaCredit | 2 => (bSlot2 bsM).view.dmaCredit
theorem NG_pos : 0 < NG := View.dmaCredit_pos _ (by decide)
theorem NB_pos (k : Fin 3) : 0 < NB k := by
  match k with
  | 0 => exact View.dmaCredit_pos (bSlot0 bsM).view (by decide)
  | 1 => exact View.dmaCredit_pos (bSlot1 bsM).view (by decide)
  | 2 => exact View.dmaCredit_pos (bSlot2 bsM).view (by decide)
def amt : Cl → ℕ
  | .inl _ => NG
  | .inr (.inl (_, k)) => NB k
  | .inr (.inr _) => NG
theorem amt_pos (n : Cl) : 0 < amt n := by
  rcases n with _ | ⟨f, k⟩ | _
  · exact NG_pos
  · exact NB_pos k
  · exact NG_pos

/-! ## The contents -/

abbrev HBuf (F : FTy → Type) := S2x64x4x128x64.Idx → Elt F .bf16
abbrev GBuf (F : FTy → Type) := S8x2x8x4x128x64.Idx → Elt F .bf16
abbrev BBuf (F : FTy → Type) := S3x2x256x768.Idx → Elt F .bf16

/-- Block `k` of a half buffer, as a rectangle. -/
def rR (k : Fin 3) : Rect S3x2x256x768 := match k with | 0 => r0 | 1 => r1 | 2 => r2
theorem rR_set (k : Fin 3) : (rR k).set = bSet k := by match k with | 0 => rfl | 1 => rfl | 2 => rfl
/-- What block `k` of a half buffer reads. -/
def rd (k : Fin 3) (f : BBuf F) : (rR k).shape.Idx → Elt F .bf16 := fun i => f ((rR k).emb i)

/-- The contents the exchange moves: each device's re-laid keys and values, and what block `k` of its two receiving
    half buffers reads once the copy into it has landed. -/
structure Cts (F : FTy → Type) where
  kt : Dev nD → HBuf F
  vt : Dev nD → HBuf F
  rb : (k : Fin 3) → Dev nD → (rR k).shape.Idx → Elt F .bf16
  ra : (k : Fin 3) → Dev nD → (rR k).shape.Idx → Elt F .bf16

/-- What a gather buffer holds on device `t` once every slot is filled: slot `s` holds device `s`'s eight heads for `t`. -/
def gath (h : Dev nD → HBuf F) (t : Dev nD) : GBuf F := fun j => h (j 0) ((hRect t).emb (fun a => j a.succ))

theorem slot_emb (s : Dev nD) (x : S2x8x4x128x64.Idx) :
    ((Rect.unit (s := S8x2x8x4x128x64) (k0_off1 s) S1x2x8x4x128x64.size (k0_off1_inb s)).emb
      (Shape.reshapeEquiv squeezes_S1x2x8x4x128x64_S2x8x4x128x64.numel_eq x) : S8x2x8x4x128x64.Idx)
      = (Fin.cons s x : S8x2x8x4x128x64.Idx) := by
  rw [Shape.reshapeEquiv_cons_one]
  funext a
  refine Fin.ext ?_
  rw [Rect.emb_apply]
  simp only [Rect.unit, off1_eq]
  fin_cases a <;> simp <;> rfl

/-- The eight heads a device sends, read through the copy's source, are slot contents of its target. -/
theorem gath_read_k (h : Dev nD → HBuf F) (s t : Dev nD) :
    (gSlot kgM s).view.read (Elt F) (gath h t) = fun x => h s ((hRect t).emb x) := by
  funext x
  show gath h t ((Rect.unit (s := S8x2x8x4x128x64) (k0_off1 s) S1x2x8x4x128x64.size (k0_off1_inb s)).emb (Shape.reshapeEquiv _ x)) = _
  rw [slot_emb]; rfl
theorem gath_read_v (h : Dev nD → HBuf F) (s t : Dev nD) :
    (gSlot vgM s).view.read (Elt F) (gath h t) = fun x => h s ((hRect t).emb x) := by
  funext x
  show gath h t ((Rect.unit (s := S8x2x8x4x128x64) (k0_off1 s) S1x2x8x4x128x64.size (k0_off1_inb s)).emb (Shape.reshapeEquiv _ x)) = _
  rw [slot_emb]; rfl
theorem src_emb (c : Dev nD) (i : Fin 7) (x : S2x8x4x128x64.Idx) :
    (Rect.unit (s := S2x64x4x128x64) (k0_off2 c (BitVec.ofNat 32 (1 + i.val))) S2x8x4x128x64.size (k0_off2_inb c i)).emb x
      = (hRect (kvTgt i c)).emb x := by
  funext a
  refine Fin.ext ?_
  show k0_off2 c (BitVec.ofNat 32 (1 + i.val)) a + 1 * (x a).val = k0_off3 (kvTgt i c) a + 1 * (x a).val
  rw [off2_eq, off3_eq]
theorem src_read_k (f : HBuf F) (c : Dev nD) (i : Fin 7) :
    (hSrc ktM c i).view.read (Elt F) f = fun x => f ((hRect (kvTgt i c)).emb x) :=
  funext fun x => congrArg f (src_emb c i x)
theorem src_read_v (f : HBuf F) (c : Dev nD) (i : Fin 7) :
    (hSrc vtM c i).view.read (Elt F) f = fun x => f ((hRect (kvTgt i c)).emb x) :=
  funext fun x => congrArg f (src_emb c i x)

/-! ## What each landing hands over -/

abbrev kgL (c : Dev nD) : Loc nD τ sig := (c : Thread nD τ).loc cc0_scratch0
abbrev vgL (c : Dev nD) : Loc nD τ sig := (c : Thread nD τ).loc cc0_scratch1
abbrev bsL (c : Dev nD) : Loc nD τ sig := (c : Thread nD τ).loc cc0_scratch3
abbrev brL (c : Dev nD) : Loc nD τ sig := (c : Thread nD τ).loc cc0_scratch4
abbrev asL (c : Dev nD) : Loc nD τ sig := (c : Thread nD τ).loc cc0_scratch5
abbrev arL (c : Dev nD) : Loc nD τ sig := (c : Thread nD τ).loc cc0_scratch6
abbrev ktL (c : Dev nD) : Loc nD τ sig := (c : Thread nD τ).loc main_v3
abbrev vtL (c : Dev nD) : Loc nD τ sig := (c : Thread nD τ).loc main_v6

variable (Z : Cts F)

/-- A device's eight heads of the re-laid keys, for device `d`. -/
abbrev ktP (c d : Dev nD) : sProp 𝕄 := ktL c ↦[hSet d]{fullShare} Z.kt c
abbrev vtP (c d : Dev nD) : sProp 𝕄 := vtL c ↦[hSet d]{fullShare} Z.vt c
/-- Slot `s` of device `c`'s gather buffer, filled; and at contents not chosen. -/
abbrev kgP (c s : Dev nD) : sProp 𝕄 := kgL c ↦[gSet s]{fullShare} gath Z.kt c
abbrev vgP (c s : Dev nD) : sProp 𝕄 := vgL c ↦[gSet s]{fullShare} gath Z.vt c
abbrev kgA (c s : Dev nD) : sProp 𝕄 := iprop(∃ f : GBuf F, kgL c ↦[gSet s]{fullShare} f)
abbrev vgA (c s : Dev nD) : sProp 𝕄 := iprop(∃ f : GBuf F, vgL c ↦[gSet s]{fullShare} f)
/-- Block `k` of a half buffer: at contents not chosen; at contents that read `v`. -/
abbrev bsA (c : Dev nD) (k : Fin 3) : sProp 𝕄 := iprop(∃ f : BBuf F, bsL c ↦[bSet k]{fullShare} f)
abbrev brA (c : Dev nD) (k : Fin 3) : sProp 𝕄 := iprop(∃ f : BBuf F, brL c ↦[bSet k]{fullShare} f)
abbrev asA (c : Dev nD) (k : Fin 3) : sProp 𝕄 := iprop(∃ f : BBuf F, asL c ↦[bSet k]{fullShare} f)
abbrev arA (c : Dev nD) (k : Fin 3) : sProp 𝕄 := iprop(∃ f : BBuf F, arL c ↦[bSet k]{fullShare} f)
abbrev brP (c : Dev nD) (k : Fin 3) (v : (rR k).shape.Idx → Elt F .bf16) : sProp 𝕄 :=
  iprop(∃ f : BBuf F, ⌜rd k f = v⌝ ∗ brL c ↦[bSet k]{fullShare} f)
abbrev arP (c : Dev nD) (k : Fin 3) (v : (rR k).shape.Idx → Elt F .bf16) : sProp 𝕄 :=
  iprop(∃ f : BBuf F, ⌜rd k f = v⌝ ∗ arL c ↦[bSet k]{fullShare} f)

/-- What a copy's landing puts on its semaphore, on device `c`. -/
def pay (n : Cl) (c : Dev nD) : sProp 𝕄 :=
  match n with
  | .inl (0, i) => ktP Z c (kvTgt i c)
  | .inl (1, i) => kgP Z c (kvSrc i c)
  | .inl (2, i) => vtP Z c (kvTgt i c)
  | .inl (3, i) => vgP Z c (kvSrc i c)
  | .inr (.inl (0, k)) => bsA c k
  | .inr (.inl (1, k)) => brP c k (Z.rb k c)
  | .inr (.inl (2, k)) => asA c k
  | .inr (.inl (3, k)) => arP c k (Z.ra k c)
  | .inr (.inr 0) => iprop(kgP Z c c ∗ ktP Z c c)
  | .inr (.inr 1) => iprop(vgP Z c c ∗ vtP Z c c)

/-- What device `p` gives the device that copies `i` into it: the gather slots, and that their semaphores are open. -/
def barKV (i : Fin 7) (p : Dev nD) : sProp 𝕄 :=
  iprop(kgA (F := F) p (kvSrc i p) ∗ vgA (F := F) p (kvSrc i p) ∗ reached ER (cell (KR i) p) 0 ∗ reached ER (cell (VR i) p) 0)
/-- What device `p` gives its partner of step `k`: the two receiving blocks, and that their semaphores are open. -/
def barR (k : Fin 3) (p : Dev nD) : sProp 𝕄 :=
  iprop(brA (F := F) p k ∗ arA (F := F) p k ∗ reached ER (cell (RR k) p) 0 ∗ reached ER (cell (AR k) p) 0)
/-- One signal: device `kvTgt i c` to device `c`. -/
def barPay (i : Fin 7) (c : Dev nD) : sProp 𝕄 :=
  iprop(barKV (F := F) i (kvTgt i c) ∗ bigSep Finset.univ fun k : Fin 3 => if kvTgt i c = xr k c then barR (F := F) k (kvTgt i c) else iprop(emp))

/-- The exchange: one round on every semaphore. -/
def sch : Rounds.Schedule (GSem nD τ sig) (Fin 7) 𝕄 where
  duties g r := if r = 0 ∧ g.1.2 = .tc then (match cls g.2 with | some none => Finset.univ | some (some _) => {0} | none => ∅) else ∅
  unitless _ := False
  amount g _ _ := match cls g.2 with | some (some n) => amt n | _ => 1
  payload g r d := match cls g.2 with | some none => barPay d g.1.1 | some (some n) => pay Z n g.1.1 | none => iprop(emp)
  amount_pos g _ _ _ := by
    split
    · exact amt_pos _
    · exact Nat.one_pos

instance pay_storable (n : Cl) (c : Dev nD) : BI.Storable (upEmb : UEmb _ 𝕄) (pay Z n c) := by
  unfold pay; split <;> infer_instance
instance barPay_storable (i : Fin 7) (c : Dev nD) : BI.Storable (upEmb : UEmb _ 𝕄) (barPay (F := F) i c) := by
  unfold barPay barKV barR
  have : ∀ k : Fin 3, BI.Storable (upEmb : UEmb _ 𝕄) (if kvTgt i c = xr k c then
      iprop(brA (F := F) (kvTgt i c) k ∗ arA (F := F) (kvTgt i c) k ∗ reached ER (cell (RR k) (kvTgt i c)) 0 ∗ reached ER (cell (AR k) (kvTgt i c)) 0)
      else iprop(emp)) := fun k => by split <;> infer_instance
  infer_instance
instance sch_storable (g : GSem nD τ sig) (r : ℕ) (d : Fin 7) : BI.Storable (upEmb : UEmb _ 𝕄) ((sch Z).payload g r d) := by
  show BI.Storable upEmb (match cls g.2 with | some none => barPay d g.1.1 | some (some n) => pay Z n g.1.1 | none => iprop(emp))
  split <;> infer_instance

section Sched
variable (c : Dev nD) (n : Cl)

theorem duties_bar : (sch Z).duties (barCell c) 0 = Finset.univ := by dsimp only [sch]; rw [if_pos ⟨rfl, rfl⟩]; rfl
theorem duties_cell : (sch Z).duties (cell n c) 0 = {0} := by dsimp only [sch]; rw [if_pos ⟨rfl, rfl⟩, cls_osem]
theorem duties_later (g : GSem nD τ sig) : ∀ r, 1 ≤ r → (sch Z).duties g r = ∅ :=
  fun r hr => by dsimp only [sch]; rw [if_neg (fun h => by omega)]
theorem amount_bar (d : Fin 7) : (sch Z).amount (barCell c) 0 d = 1 := rfl
theorem amount_cell (d : Fin 7) : (sch Z).amount (cell n c) 0 d = amt n := by dsimp only [sch]; rw [cls_osem]
theorem expect_bar : (sch Z).expect (barCell c) 0 = 7 := by
  unfold Schedule.expect Schedule.amountOf; rw [duties_bar]; rfl
theorem expect_cell : (sch Z).expect (cell n c) 0 = amt n := by
  unfold Schedule.expect Schedule.amountOf; rw [duties_cell, Finset.sum_singleton, amount_cell]
theorem payload_bar (d : Fin 7) : (sch Z).payload (barCell c) 0 d = barPay d c := rfl
theorem payload_cell (d : Fin 7) : (sch Z).payload (cell n c) 0 d = pay Z n c := by dsimp only [sch]; rw [cls_osem]
theorem rest_bar : bigSep ((sch Z).duties (barCell c) 0 \ ∅) (fun u => (sch Z).payload (barCell c) 0 u) = bigSep Finset.univ fun i => barPay (F := F) i c := by
  rw [Finset.sdiff_empty, duties_bar]; rfl
theorem rest_cell : bigSep ((sch Z).duties (cell n c) 0 \ ∅) (fun u => (sch Z).payload (cell n c) 0 u) = pay Z n c := by
  rw [Finset.sdiff_empty, duties_cell, bigSep_singleton, payload_cell]

end Sched

/-! ## What each device pays, in program order -/

/-- One payment: a barrier signal, or the landing of one of the copies sent to another device. -/
abbrev Step : Type := Fin 7 ⊕ Cl

def stTgt : Step → Dev nD → Dev nD
  | .inl i => kvTgt i
  | .inr (.inl (_, i)) => kvTgt i
  | .inr (.inr (.inl (_, k))) => xr k
  | .inr (.inr (.inr _)) => id
def stSem : Step → SemLoc sig
  | .inl _ => .reg barS
  | .inr n => osem n
def stAmt : Step → ℕ
  | .inl _ => 1
  | .inr n => amt n
/-- The payments of one device, in order. -/
def steps : List Step :=
  [.inl 0, .inl 1, .inl 2, .inl 3, .inl 4, .inl 5, .inl 6,
   .inr (KR 0), .inr (VR 0), .inr (KR 1), .inr (VR 1), .inr (KR 2), .inr (VR 2), .inr (KR 3), .inr (VR 3), .inr (KR 4), .inr (VR 4),
   .inr (KR 5), .inr (VR 5), .inr (KR 6), .inr (VR 6),
   .inr (RR 0), .inr (RR 1), .inr (RR 2), .inr (AR 2), .inr (AR 1), .inr (AR 0)]

/-- What is owed for a list of payments. -/
def owed (l : List Step) (c : Dev nD) : CellTallies nD τ sig Unit :=
  match l with
  | [] => 0
  | s :: l => owed l c + tallyAt ((stTgt s c : Thread nD τ), stSem s) () (stAmt s)
/-- What is still owed after `n` payments. -/
abbrev due (n : ℕ) (c : Dev nD) : CellTallies nD τ sig Unit := owed (steps.drop n) c

theorem owed_cons (s : Step) (l : List Step) (c : Dev nD) :
    owed (s :: l) c = owed l c + tallyAt ((stTgt s c : Thread nD τ), stSem s) () (stAmt s) := rfl

/-! ## The levels -/

def L (g : GSem nD τ sig) : Finset Unit := if g.1.2 = .tc then {()} else ∅
/-- The barrier first, then the key and value landings, then the reduction's in their order. -/
def rank : Option (Option Cl) → ℕ
  | some none => 1
  | some (some (.inl (f, _))) => if f = 1 ∨ f = 3 then 2 else 0
  | some (some (.inr (.inl (f, k)))) => if f = 1 then 3 + k.val else if f = 3 then 8 - k.val else 0
  | _ => 0
def lv (g : GSem nD τ sig) (_ : Unit) : ℕ := rank (cls g.2)
def stRank : Step → ℕ
  | .inl _ => 1
  | .inr n => rank (some (some n))

theorem lv_st (s : Step) (c : Dev nD) : lv ((c : Thread nD τ), stSem s) () = stRank s := by
  rcases s with i | n
  · rfl
  · show rank (cls (osem n)) = _; rw [cls_osem]; rfl
theorem lv_cell (n : Cl) (c : Dev nD) : lv (cell n c) () = stRank (.inr n) := lv_st (.inr n) c

theorem L_of_ne (g : GSem nD τ sig) (h : g.1.2 ≠ .tc) : L g = ∅ := if_neg h
theorem L_tc (c : Dev nD) (sm : SemLoc sig) : L ((c : Thread nD τ), sm) = {()} := if_pos rfl

/-- A cell that is owed something is the target of one of the payments. -/
theorem owed_pos (l : List Step) (c : Dev nD) (g : GSem nD τ sig) (u : Unit) (h : 0 < owed l c g u) :
    ∃ s ∈ l, g = ((stTgt s c : Thread nD τ), stSem s) := by
  induction l with
  | nil => exact absurd h (Nat.lt_irrefl 0)
  | cons s l ih =>
    rw [owed_cons, Pi.add_apply, Finsupp.add_apply, tallyAt_apply] at h
    by_cases hg : g = ((stTgt s c : Thread nD τ), stSem s) ∧ u = ()
    · exact ⟨s, List.mem_cons_self, hg.1⟩
    · rw [if_neg hg, Nat.add_zero] at h
      obtain ⟨s', hs', e⟩ := ih h
      exact ⟨s', List.mem_cons_of_mem _ hs', e⟩

/-- A device may wait on a cell whose level lies below every payment it still has to make. -/
theorem mayWait (c : Dev nD) (sm : SemLoc sig) (l : List Step) (h : ∀ s ∈ l, lv ((c : Thread nD τ), sm) () < stRank s) :
    (levAts L lv : sProp 𝕄) ⊢ MayWait (c : Thread nD τ) sm () (owed l c) :=
  MayOwe.of_cut (L := L) (lev := lv) (lv ((c : Thread nD τ), sm) ()) (fun p hp => by rw [Finset.mem_singleton.mp hp, L_tc]; exact Finset.mem_singleton_self _)
    (fun g u hg => by
      obtain ⟨s, -, rfl⟩ := owed_pos l c g u hg
      rw [L_tc]; exact Finset.mem_singleton_self _)
    (fun p hp => by rw [Finset.mem_singleton.mp hp])
    (fun g u hg => by
      obtain ⟨s, hs, rfl⟩ := owed_pos l c g u hg
      cases u; rw [lv_st]; exact h s hs)

end Cert.Proof.Att
-- ==== Proof.Ops.lean ====
/- One step of the exchange at a time: a signal, the barrier wait, a copy, a wait for a copy. -/
module

public import proofs.«01_k».proof.Proof.Sched
public import Idealize.ShloMosaic.Lib.Tactic

@[expose] public section

noncomputable section

namespace Cert.Proof.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

variable (Z : Cts F) (K : GSem nD τ sig → ℕ)

/-- What every device may consult: the invariant of every cell, that every barrier is open, and the levels. -/
def env : sProp 𝕄 :=
  iprop((bigSep Finset.univ fun c : Dev nD => cellInv ER (sch Z) (K (barCell c)) (barCell c))
    ∗ (bigSep Finset.univ fun cn : Dev nD × Cl => cellInv ER (sch Z) (K (cell cn.2 cn.1)) (cell cn.2 cn.1))
    ∗ (bigSep Finset.univ fun c : Dev nD => reached ER (barCell c) 0) ∗ levAts L lv)

instance env_persistent : BI.Persistent (env Z K) := by unfold env; infer_instance

theorem bar_at (c : Dev nD) : (bigSep Finset.univ fun c : Dev nD => (cellInv ER (sch Z) (K (barCell c)) (barCell c) : sProp 𝕄))
    ⊢ cellInv ER (sch Z) (K (barCell c)) (barCell c) := bigSep_elim (Finset.mem_univ c)
theorem cell_at (n : Cl) (c : Dev nD) :
    (bigSep Finset.univ fun cn : Dev nD × Cl => (cellInv ER (sch Z) (K (cell cn.2 cn.1)) (cell cn.2 cn.1) : sProp 𝕄))
    ⊢ cellInv ER (sch Z) (K (cell n c)) (cell n c) := bigSep_elim (Finset.mem_univ (c, n))
theorem open_at (c : Dev nD) : (bigSep Finset.univ fun c : Dev nD => (reached ER (barCell c) 0 : sProp 𝕄)) ⊢ reached ER (barCell c) 0 :=
  bigSep_elim (Finset.mem_univ c)
theorem env_bar (c : Dev nD) : env Z K ⊢ cellInv ER (sch Z) (K (barCell c)) (barCell c) := by
  unfold env; iintro ⟨H, -, -, -⟩; iapply (bar_at Z K c) $$ H
theorem env_cell (n : Cl) (c : Dev nD) : env Z K ⊢ cellInv ER (sch Z) (K (cell n c)) (cell n c) := by
  unfold env; iintro ⟨-, H, -, -⟩; iapply (cell_at Z K n c) $$ H
theorem env_open (c : Dev nD) : env Z K ⊢ reached ER (barCell c) 0 := by
  unfold env; iintro ⟨-, -, H, -⟩; iapply (open_at c) $$ H
theorem env_lev : env Z K ⊢ levAts L lv := by unfold env; iintro ⟨-, -, -, H⟩; iexact H

/-- What device `c` still owes after `n` payments. -/
def ow (n : ℕ) (c : Dev nD) : sProp 𝕄 := iprop(∃ W, owes (c : Thread nD τ) (due n c) W)
/-- A copy's own semaphore on device `c` before it is used: the place at its start, that it is open, the token of its duty. -/
def fresh (n : Cl) (c : Dev nD) : sProp 𝕄 := iprop(atPos ER (cell n c) 0 ∅ 0 ∗ reached ER (cell n c) 0 ∗ dutyTok ER (cell n c) 0 (0 : Fin 7))
/-- A semaphore with its credit to come: what a wait takes. -/
def arm (n : Cl) (c : Dev nD) : sProp 𝕄 := iprop(cred (tallyAt (cell n c) () (amt n)) ∗ atPos ER (cell n c) 0 ∅ 0)

section
variable {α : Type} {Q : α → sProp (MT nD τ sig Unit (Elt F) ℕ UU ℕ)} {k : PUnit → Prog (TpuEff nD τ sig (Elt F) Λ₀ .tc) α} (c : Dev nD)

local notation "wpc" => wp frame (wpE (defs₀ (F := F)) 𝒱₀ (c : Thread nD τ) none) Set.univ

/-- A signal to the device `i + 1` places on pays the next duty with what this device gives that device. -/
theorem op_signal (n : ℕ) (i : Fin 7) (hd : steps.drop n = .inl i :: steps.drop (n + 1)) {t : Dev nD} (ht : t = kvTgt i c) :
    iprop(env Z K ∗ ow n c ∗ dutyTok ER (barCell (kvTgt i c)) 0 (bk i) ∗ barPay (F := F) (bk i) (kvTgt i c))
      ⊢ iprop((ow n.succ c -∗ wpc (k ⟨⟩) Q) -∗ wpc (.op (.semSignal (t, Proc.tc) barS 1) k) Q) := by
  subst ht
  unfold ow due
  iintro ⟨#He, ⟨%W, HO⟩, Ht, Hp⟩ Hk
  rw [hd]
  iapply (Rounds.wp_signal 𝒱₀ ER (sch Z) (c : Thread nD τ) none (dst := (kvTgt i c : Thread nD τ)) (sem := barS) (r := 0) (d := bk i) (κ := K (barCell (kvTgt i c)))
      (by rw [duties_bar]; exact Finset.mem_univ _) (amount_bar Z (kvTgt i c) (bk i)) () (owed (steps.drop (n + 1)) c) rfl) $$ [HO Ht Hp]
  · isplitr; · iapply (env_bar Z K (kvTgt i c)); iexact He
    isplitl [HO]; · iexact HO
    isplitl [Ht]; · iexact Ht
    isplitl [Hp]; · rw [payload_bar]; iexact Hp
    iapply (env_open Z K (kvTgt i c)); iexact He
  iintro HO
  iapply Hk
  iexists W; iexact HO

/-- The barrier wait takes what the seven other devices give. -/
theorem op_barrier :
    iprop(env Z K ∗ ow 7 c ∗ cred (tallyAt (barCell c) () 7) ∗ atPos ER (barCell c) 0 ∅ 0)
      ⊢ iprop((ow 7 c ∗ semVal (barCell c) 0 ∗ (bigSep Finset.univ fun i => barPay (F := F) i c) -∗ wpc (k ⟨⟩) Q)
        -∗ wpc (.op (.semWait barS 7) k) Q) := by
  unfold ow
  iintro ⟨#He, ⟨%W, HO⟩, Hc, Ha⟩ Hk
  iapply (Rounds.wp_wait_rest_token 𝒱₀ ER (sch Z) (c : Thread nD τ) none (κ := K (barCell c))
      (wpE_semWait_eq 𝒱₀ (c : Thread nD τ) none Set.univ) (Set.mem_univ _) () (O := due 7 c) (W := W) (R := 0) (m := 0) (T := ∅)
      ((Nat.zero_add 7).trans (expect_bar Z c).symm)) $$ [Hc HO Ha]
  · isplitr; · iapply (env_bar Z K c); iexact He
    isplitl [Hc]; · iexact Hc
    isplitl [HO]; · iexact HO
    isplitr
    · iapply (mayWait c (.reg barS) (steps.drop 7) (by
        show ∀ s ∈ steps.drop 7, 1 < stRank s
        intro s hs; fin_cases hs <;> decide))
      iapply (env_lev Z K); iexact He
    iexact Ha
  iintro ⟨HO, Ha, -, Hpay⟩
  imod (Rounds.cell_close ER (sch Z) (Set.mem_univ (K (barCell c))) id (duties_later Z (barCell c))) $$ [Ha] with Hv
  · isplitr; · iapply (env_bar Z K c); iexact He
    iexact Ha
  iapply Hk
  isplitl [HO]; · iexists _; iexact HO
  isplitl [Hv]; · iexact Hv
  iapply (Entails.of_eq (rest_bar Z c)); iexact Hpay

/-- A wait for a copy takes what its landing hands over; the semaphore is spent. -/
theorem op_wait (n : Cl) (l : ℕ) (hl : ∀ s ∈ steps.drop l, stRank (.inr n) < stRank s) {sem : DmaSem sig} (hs : sem = dsem n)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = amt n) :
    iprop(env Z K ∗ ow l c ∗ arm (F := F) n c)
      ⊢ iprop((ow l c ∗ semVal (cell n c) 0 ∗ pay Z n c -∗ wpc (k ⟨⟩) Q)
        -∗ wpc (.op (.waitDma2 sem src dst hsrc hdst) k) Q) := by
  subst hs
  unfold ow arm
  iintro ⟨#He, ⟨%W, HO⟩, Hc, Ha⟩ Hk
  rw [← hN]
  iapply (Rounds.wp_wait_rest_token 𝒱₀ ER (sch Z) (c : Thread nD τ) none (κ := K (cell n c)) (sm := osem n)
      (wpE_waitDma2_eq 𝒱₀ (c : Thread nD τ) none Set.univ) (Set.mem_univ _) () (O := due l c) (W := W) (R := 0) (m := 0) (T := ∅)
      ((Nat.zero_add _).trans (hN.trans (expect_cell Z c n).symm))) $$ [Hc HO Ha]
  · isplitr; · iapply (env_cell Z K n c); iexact He
    isplitl [Hc]; · iexact Hc
    isplitl [HO]; · iexact HO
    isplitr
    · iapply (mayWait c (osem n) (steps.drop l) (by rw [show lv ((c : Thread nD τ), osem n) () = stRank (.inr n) from lv_cell n c]; exact hl))
      iapply (env_lev Z K); iexact He
    iexact Ha
  iintro ⟨HO, Ha, -, Hpay⟩
  imod (Rounds.cell_close ER (sch Z) (Set.mem_univ (K (cell n c))) id (duties_later Z (cell n c))) $$ [Ha] with Hv
  · isplitr; · iapply (env_cell Z K n c); iexact He
    iexact Ha
  iapply Hk
  isplitl [HO]; · iexists _; iexact HO
  isplitl [Hv]; · iexact Hv
  iapply (Entails.of_eq (rest_cell Z c n)); iexact Hpay

/-- A copy to another device pays its two duties: the source comes back here, the landing is handed over there. -/
theorem op_send (nS nR : Cl) (l : ℕ) (t : Dev nD) (hst : stTgt (.inr nR) c = t) (hd : steps.drop l = .inr nR :: steps.drop (l + 1))
    {t' : Dev nD} (ht : t' = t) {sS sR : DmaSem sig} (hS : sS = dsem nS) (hR : sR = dsem nR)
    {sp sp' : Space} {s : Shape} {e : EltTy} {src : Memref sig .tc sp s e} {dst : Memref sig .tc sp' s e}
    {hsc : dst.view.ref.isScScratch = false} {hsrc : src.view.WordExact} {hdst : dst.view.WordExact}
    {hsem : DmaTarget.Typed sp (.dma sR) (.remote (Dev.tc t') dst (.dma sS) hsc)}
    (hN : dst.view.dmaCredit = amt nS) (hN' : amt nR = amt nS)
    (fs : Buf (Elt F) (src.view.loc (c : Thread nD τ))) (fd : Buf (Elt F) (dst.view.loc (t : Thread nD τ)))
    (hpay₁ : (src.view.loc (c : Thread nD τ) ↦[src.view.set]{fullShare} fs : sProp 𝕄) ⊢ pay Z nS c)
    (hpay₂ : (dst.view.loc (t : Thread nD τ) ↦[dst.view.set]{fullShare} (dst.view.write (Elt F) fd (src.view.read (Elt F) fs) Finset.univ) : sProp 𝕄)
      ⊢ pay Z nR t) :
    iprop(env Z K ∗ ow l c ∗ (src.view.loc (c : Thread nD τ) ↦[src.view.set]{fullShare} fs)
        ∗ (dst.view.loc (t : Thread nD τ) ↦[dst.view.set]{fullShare} fd)
        ∗ fresh (F := F) nS c ∗ dutyTok ER (cell nR t) 0 (0 : Fin 7) ∗ reached ER (cell nR t) 0)
      ⊢ iprop((ow l.succ c ∗ arm (F := F) nS c -∗ wpc (k ⟨⟩) Q)
        -∗ wpc (.op (.enqueueDma src (.remote (Dev.tc t') dst (.dma sS) hsc) (.dma sR) hsrc hdst hsem) k) Q) := by
  subst ht hS hR
  unfold ow fresh arm due
  iintro ⟨#He, ⟨%W, HO⟩, Hs, Hd, ⟨Ha, #Hr, Ht⟩, Ht', #Hr'⟩ Hk
  rw [hd]
  iapply (Rounds.wp_send_pointsTo 𝒱₀ ER (sch Z) (c : Thread nD τ) none (c' := (t' : Thread nD τ)) (src := src) (dst := dst)
      (sS := osem nS) (sem := osem nR) (q := fullShare) (fs := fs) (κ₁ := K (cell nS c)) (κ₂ := K (cell nR t'))
      (r₁ := 0) (r₂ := 0) (d₁ := 0) (d₂ := 0) (fd := fd)
      (by rw [duties_cell]; exact Finset.mem_singleton_self _) (by rw [duties_cell]; exact Finset.mem_singleton_self _)
      () () (amt nS) hN (amount_cell Z c nS 0) ((amount_cell Z t' nR 0).trans hN') (owed (steps.drop (l + 1)) c)
      (O₀ := owed (.inr nR :: steps.drop (l + 1)) c) (by rw [owed_cons, hst, ← hN']; rfl) (W := W)
      (by rw [payload_cell]; exact hpay₁) (by rw [payload_cell]; exact hpay₂)) $$ [Hs Hd HO Ht Ht']
  · isplitr; · iapply (env_cell Z K nS c); iexact He
    isplitr; · iapply (env_cell Z K nR t'); iexact He
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [HO]; · iexists W; iexact HO
  isplitl [Hc] <;> iassumption

/-- A copy on this device pays its one duty with the landing and the source. -/
theorem op_copy (n : Cl) {sem : DmaSem sig} (hs : sem = dsem n)
    {sp sp' : Space} {s : Shape} {e : EltTy} {src : Memref sig .tc sp s e} {dst : Memref sig .tc sp' s e}
    {hsrc : src.view.WordExact} {hdst : dst.view.WordExact} {hsem : DmaTarget.Typed (nD := nD) sp (.dma sem) (.here dst : DmaTarget nD τ sig Proc.tc sp' s e)}
    (hN : dst.view.dmaCredit = amt n)
    (fs : Buf (Elt F) (src.view.loc (c : Thread nD τ))) (fd : Buf (Elt F) (dst.view.loc (c : Thread nD τ)))
    (hpay : iprop((dst.view.loc (c : Thread nD τ) ↦[dst.view.set]{fullShare} (dst.view.write (Elt F) fd (src.view.read (Elt F) fs) Finset.univ))
        ∗ (src.view.loc (c : Thread nD τ) ↦[src.view.set]{fullShare} fs)) ⊢ pay Z n c) :
    iprop(env Z K ∗ (src.view.loc (c : Thread nD τ) ↦[src.view.set]{fullShare} fs)
        ∗ (dst.view.loc (c : Thread nD τ) ↦[dst.view.set]{fullShare} fd) ∗ fresh (F := F) n c)
      ⊢ iprop((arm (F := F) n c -∗ wpc (k ⟨⟩) Q) -∗ wpc (.op (.enqueueDma src (.here dst) (.dma sem) hsrc hdst hsem) k) Q) := by
  subst hs
  unfold fresh arm
  iintro ⟨#He, Hs, Hd, Ha, #Hr, Ht⟩ Hk
  iapply (Rounds.wp_copy_pointsTo 𝒱₀ ER (sch Z) (c : Thread nD τ) none (src := src) (dst := dst) (sem := osem n) (q := fullShare)
      (fs := fs) (fd := fd) (r := 0) (d := 0) (κ := K (cell n c))
      (by rw [duties_cell]; exact Finset.mem_singleton_self _) () (amt n) hN (amount_cell Z c n 0)
      (by rw [payload_cell]; exact hpay)) $$ [Hs Hd Ht]
  · isplitr; · iapply (env_cell Z K n c); iexact He
    isplitl [Hs]; · iexact Hs
    isplitl [Hd]; · iexact Hd
    isplitl [Ht]; · iexact Ht
    iexact Hr
  iintro Hc
  iapply Hk
  isplitl [Hc] <;> iassumption

end

end Cert.Proof.Att
-- ==== Proof.Exch.lean ====
module

public import proofs.«01_k».proof.Proof.Ops

/-! The exchange, op by op: the copies of keys and values, the waits, and the copies of the reduction, each on the
resources it takes and with what it leaves. -/

@[expose] public section
noncomputable section

namespace Cert.Proof.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The staged operands and the staged result. -/
abbrev xM : Memref sig .tc .vmem S2x512x768 .bf16 := Memref.whole cc0_stg0_0
abbrev wqM : Memref sig .tc .vmem S768x512 .bf16 := Memref.whole cc0_stg1_0
abbrev woM : Memref sig .tc .vmem S512x768 .bf16 := Memref.whole cc0_stg2_0
abbrev oM : Memref sig .tc .vmem S2x512x768 .f32 := Memref.whole cc0_stg3_0
abbrev xL (c : Dev nD) : Loc nD τ sig := (c : Thread nD τ).loc cc0_stg0_0
abbrev wqL (c : Dev nD) : Loc nD τ sig := (c : Thread nD τ).loc cc0_stg1_0
abbrev woL (c : Dev nD) : Loc nD τ sig := (c : Thread nD τ).loc cc0_stg2_0
abbrev oL (c : Dev nD) : Loc nD τ sig := (c : Thread nD τ).loc cc0_stg3_0
abbrev qL (c : Dev nD) : Loc nD τ sig := (c : Thread nD τ).loc cc0_scratch2
/-- What the staged operands, the result and the scratch of queries hold. -/
abbrev XBuf (F : FTy → Type) := S2x512x768.Idx → Elt F .bf16
abbrev WqBuf (F : FTy → Type) := S768x512.Idx → Elt F .bf16
abbrev WoBuf (F : FTy → Type) := S512x768.Idx → Elt F .bf16
abbrev OBuf (F : FTy → Type) := S2x512x768.Idx → Elt F .f32
abbrev QBuf (F : FTy → Type) := S16x512x64.Idx → Elt F .bf16

/-- A body part on the buffers and semaphores the kernel is called with. -/
abbrev ap {β : Type _} (f : (arg0 : Memref sig .tc .vmem S2x512x768 .bf16) → (harg0 : arg0.IsWhole) → (arg1 : Memref sig .tc .vmem S768x512 .bf16) → (harg1 : arg1.IsWhole) → (arg2 : Memref sig .tc .hbm S2x64x4x128x64 .bf16) → (harg2 : arg2.IsWhole) → (arg3 : Memref sig .tc .hbm S2x64x4x128x64 .bf16) → (harg3 : arg3.IsWhole) → (arg4 : Memref sig .tc .vmem S512x768 .bf16) → (harg4 : arg4.IsWhole) → (arg5 : Memref sig .tc .vmem S2x512x768 .f32) → (harg5 : arg5.IsWhole) → (arg6 : Memref sig .tc .vmem S8x2x8x4x128x64 .bf16) → (harg6 : arg6.IsWhole) → (arg7 : Memref sig .tc .vmem S8x2x8x4x128x64 .bf16) → (harg7 : arg7.IsWhole) → (arg8 : Memref sig .tc .vmem S16x512x64 .bf16) → (harg8 : arg8.IsWhole) → (arg9 : Memref sig .tc .vmem S3x2x256x768 .bf16) → (harg9 : arg9.IsWhole) → (arg10 : Memref sig .tc .vmem S3x2x256x768 .bf16) → (harg10 : arg10.IsWhole) → (arg11 : Memref sig .tc .vmem S3x2x256x768 .bf16) → (harg11 : arg11.IsWhole) → (arg12 : Memref sig .tc .vmem S3x2x256x768 .bf16) → (harg12 : arg12.IsWhole) → (arg13 : DmaSems sig S7) → (arg14 : DmaSems sig S7) → (arg15 : DmaSems sig S7) → (arg16 : DmaSems sig S7) → (arg17 : DmaSems sig S3) → (arg18 : DmaSems sig S3) → (arg19 : DmaSems sig S3) → (arg20 : DmaSems sig S3) → (arg21 : DmaSems sig S2) → β) : β :=
  f xM (Memref.isWhole_whole _) wqM (Memref.isWhole_whole _) ktM (Memref.isWhole_whole _) vtM (Memref.isWhole_whole _) woM (Memref.isWhole_whole _) oM (Memref.isWhole_whole _) kgM (Memref.isWhole_whole _) vgM (Memref.isWhole_whole _) qM (Memref.isWhole_whole _) bsM (Memref.isWhole_whole _) brM (Memref.isWhole_whole _) asM (Memref.isWhole_whole _) arM (Memref.isWhole_whole _) cc0_scratch7 cc0_scratch8 cc0_scratch9 cc0_scratch10 cc0_scratch11 cc0_scratch12 cc0_scratch13 cc0_scratch14 cc0_scratch15

/-! ## Landings -/

/-- A landing that writes what the destination reads of `g` leaves the destination at `g`. -/
theorem land {sp : Space} {s : Shape} {e : EltTy} (v : View sig .tc sp s e) (t : Dev nD) (fd g : Buf (Elt F) (v.loc (t : Thread nD τ)))
    (r : s.Idx → Elt F e) (hr : v.read (Elt F) g = r) :
    (v.loc (t : Thread nD τ) ↦[v.set]{fullShare} (v.write (Elt F) fd r Finset.univ) : sProp 𝕄) = (v.loc (t : Thread nD τ) ↦[v.set]{fullShare} g) := by
  subst hr
  refine pointsTo_congr fun i hi => ?_
  have h := View.write_read_eq_piecewise (v := v) (Val := Elt F) fd g Finset.univ
  exact (congrFun h i).trans (Finset.piecewise_eq_of_mem _ _ _ hi)

variable (Z : Cts F) (K : GSem nD τ sig → ℕ)

section
variable {α : Type} {Q : α → sProp (MT nD τ sig Unit (Elt F) ℕ UU ℕ)} {k : PUnit → Prog (TpuEff nD τ sig (Elt F) Λ₀ .tc) α} (c : Dev nD)
local notation "wpc" => wp frame (wpE (defs₀ (F := F)) 𝒱₀ (c : Thread nD τ) none) Set.univ

/-- The rank condition of a wait, from the place in the program. -/
theorem op_wait' (n : Cl) (l : ℕ) (hl : ∀ s ∈ steps.drop l, stRank (.inr n) < stRank s) {sem : DmaSem sig} (hs : sem = dsem n)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = amt n) :
    env Z K ⊢ iprop(ow l c -∗ arm (F := F) n c -∗ (ow l c -∗ semVal (cell n c) 0 -∗ pay Z n c -∗ wpc (k ⟨⟩) Q)
        -∗ wpc (.op (.waitDma2 sem src dst hsrc hdst) k) Q) := by
  iintro #He HO HA Hk
  iapply (op_wait Z K c n l hl hs hN) $$ [HO HA]
  · isplitr; · iexact He
    isplitl [HO] <;> iassumption
  iintro ⟨HO, Hv, Hp⟩
  iapply Hk $$ HO Hv Hp

/-- One signal of the barrier, to device `kvTgt i c`. -/
theorem op_signal' (i : Fin 7) (n : ℕ) (hd : steps.drop n = .inl i :: steps.drop (n + 1)) {t : Dev nD} (ht : t = kvTgt i c)
    {z : ℤ} (hz : z = 1) :
    env Z K ⊢ iprop(ow n c -∗ dutyTok ER (barCell (kvTgt i c)) 0 (bk i) -∗ barPay (F := F) (bk i) (kvTgt i c)
        -∗ (ow (n + 1) c -∗ wpc (k ⟨⟩) Q) -∗ wpc (.op (.semSignal (t, Proc.tc) barS z) k) Q) := by
  subst hz
  iintro #He HO HT HP Hk
  iapply (op_signal Z K c n i hd ht) $$ [HO HT HP]
  · isplitr; · iexact He
    isplitl [HO]; · iassumption
    isplitl [HT] <;> iassumption
  iexact Hk

/-- What the copy of the keys number `i` takes. -/
def sK (i : Fin 7) : sProp 𝕄 :=
  iprop(ktP Z c (kvTgt i c) ∗ kgA (F := F) (kvTgt i c) c ∗ fresh (F := F) (KS i) c ∗ dutyTok ER (cell (KR i) (kvTgt i c)) 0 (0 : Fin 7)
    ∗ reached ER (cell (KR i) (kvTgt i c)) 0)
/-- What the copy of the values number `i` takes. -/
def sV (i : Fin 7) : sProp 𝕄 :=
  iprop(vtP Z c (kvTgt i c) ∗ vgA (F := F) (kvTgt i c) c ∗ fresh (F := F) (VS i) c ∗ dutyTok ER (cell (VR i) (kvTgt i c)) 0 (0 : Fin 7)
    ∗ reached ER (cell (VR i) (kvTgt i c)) 0)

/-- Copy `i` of the keys. -/
theorem op_sendK (i : Fin 7) (l : ℕ) (hd : steps.drop l = .inr (KR i) :: steps.drop (l + 1))
    {t' : Dev nD} (ht : t' = kvTgt i c) {sS sR : DmaSem sig} (hS : sS = dsem (KS i)) (hR : sR = dsem (KR i))
    {hsc : (gSlot kgM c).view.ref.isScScratch = false} {hsrc : (hSrc ktM c i).view.WordExact} {hdst : (gSlot kgM c).view.WordExact}
    {hsem : DmaTarget.Typed .hbm (.dma sR) (.remote (Dev.tc t') (gSlot kgM c) (.dma sS) hsc)} :
    env Z K ⊢ iprop(ow l c -∗ sK Z c i -∗ (ow (l + 1) c -∗ arm (F := F) (KS i) c -∗ wpc (k ⟨⟩) Q)
      -∗ wpc (.op (.enqueueDma (hSrc ktM c i) (.remote (Dev.tc t') (gSlot kgM c) (.dma sS) hsc) (.dma sR) hsrc hdst hsem) k) Q) := by
  unfold sK
  iintro #He HO ⟨Hs, ⟨%fd, Hd⟩, Hf, Ht, Hr⟩ Hk
  iapply (op_send Z K c (KS i) (KR i) l (kvTgt i c) rfl hd ht hS hR (src := hSrc ktM c i) (dst := gSlot kgM c) rfl rfl (Z.kt c) fd
    (Entails.of_eq (by rw [kSrc_set]; rfl))
    (Entails.of_eq (by
      rw [land (gSlot kgM c).view (kvTgt i c) fd (gath Z.kt (kvTgt i c)) _ ((gath_read_k Z.kt c (kvTgt i c)).trans (src_read_k (Z.kt c) c i).symm),
        kSlot_set]
      show kgP Z (kvTgt i c) c = kgP Z (kvTgt i c) (kvSrc i (kvTgt i c))
      rw [kvSrc_kvTgt]))) $$ [HO Hs Hd Hf Ht Hr]
  · isplitr; · iexact He
    isplitl [HO]; · iassumption
    isplitl [Hs]; · rw [kSrc_set]; iexact Hs
    isplitl [Hd]; · rw [kSlot_set]; iexact Hd
    isplitl [Hf]; · iassumption
    isplitl [Ht] <;> iassumption
  iintro ⟨HO, HA⟩
  iapply Hk $$ HO HA

/-- Copy `i` of the values. -/
theorem op_sendV (i : Fin 7) (l : ℕ) (hd : steps.drop l = .inr (VR i) :: steps.drop (l + 1))
    {t' : Dev nD} (ht : t' = kvTgt i c) {sS sR : DmaSem sig} (hS : sS = dsem (VS i)) (hR : sR = dsem (VR i))
    {hsc : (gSlot vgM c).view.ref.isScScratch = false} {hsrc : (hSrc vtM c i).view.WordExact} {hdst : (gSlot vgM c).view.WordExact}
    {hsem : DmaTarget.Typed .hbm (.dma sR) (.remote (Dev.tc t') (gSlot vgM c) (.dma sS) hsc)} :
    env Z K ⊢ iprop(ow l c -∗ sV Z c i -∗ (ow (l + 1) c -∗ arm (F := F) (VS i) c -∗ wpc (k ⟨⟩) Q)
      -∗ wpc (.op (.enqueueDma (hSrc vtM c i) (.remote (Dev.tc t') (gSlot vgM c) (.dma sS) hsc) (.dma sR) hsrc hdst hsem) k) Q) := by
  unfold sV
  iintro #He HO ⟨Hs, ⟨%fd, Hd⟩, Hf, Ht, Hr⟩ Hk
  iapply (op_send Z K c (VS i) (VR i) l (kvTgt i c) rfl hd ht hS hR (src := hSrc vtM c i) (dst := gSlot vgM c) rfl rfl (Z.vt c) fd
    (Entails.of_eq (by rw [vSrc_set]; rfl))
    (Entails.of_eq (by
      rw [land (gSlot vgM c).view (kvTgt i c) fd (gath Z.vt (kvTgt i c)) _ ((gath_read_v Z.vt c (kvTgt i c)).trans (src_read_v (Z.vt c) c i).symm),
        vSlot_set]
      show vgP Z (kvTgt i c) c = vgP Z (kvTgt i c) (kvSrc i (kvTgt i c))
      rw [kvSrc_kvTgt]))) $$ [HO Hs Hd Hf Ht Hr]
  · isplitr; · iexact He
    isplitl [HO]; · iassumption
    isplitl [Hs]; · rw [vSrc_set]; iexact Hs
    isplitl [Hd]; · rw [vSlot_set]; iexact Hd
    isplitl [Hf]; · iassumption
    isplitl [Ht] <;> iassumption
  iintro ⟨HO, HA⟩
  iapply Hk $$ HO HA

theorem own_read_k (f : HBuf F) (c : Dev nD) : (hOwn ktM c).view.read (Elt F) f = fun x => f ((hRect c).emb x) := rfl
theorem own_read_v (f : HBuf F) (c : Dev nD) : (hOwn vtM c).view.read (Elt F) f = fun x => f ((hRect c).emb x) := rfl

/-- The copy of the device's own keys into its own slot. -/
theorem op_ownK {sem : DmaSem sig} (hs : sem = dsem (LC 0))
    {hsrc : (hOwn ktM c).view.WordExact} {hdst : (gSlot kgM c).view.WordExact}
    {hsem : DmaTarget.Typed (nD := nD) .hbm (.dma sem) (.here (gSlot kgM c) : DmaTarget nD τ sig Proc.tc .vmem _ _)} :
    env Z K ⊢ iprop(ktP Z c c -∗ kgA (F := F) c c -∗ fresh (F := F) (LC 0) c -∗ (arm (F := F) (LC 0) c -∗ wpc (k ⟨⟩) Q)
      -∗ wpc (.op (.enqueueDma (hOwn ktM c) (.here (gSlot kgM c)) (.dma sem) hsrc hdst hsem) k) Q) := by
  iintro #He Hs ⟨%fd, Hd⟩ Hf Hk
  iapply (op_copy Z K c (LC 0) hs (src := hOwn ktM c) (dst := gSlot kgM c) rfl (Z.kt c) fd
    (Entails.of_eq (by
      rw [land (gSlot kgM c).view c fd (gath Z.kt c) _ ((gath_read_k Z.kt c c).trans (own_read_k (Z.kt c) c).symm), kSlot_set, kOwn_set]
      rfl))) $$ [Hs Hd Hf]
  · isplitr; · iexact He
    isplitl [Hs]; · rw [kOwn_set]; iexact Hs
    isplitl [Hd]; · rw [kSlot_set]; iexact Hd
    iassumption
  iexact Hk
/-- The copy of the device's own values into its own slot. -/
theorem op_ownV {sem : DmaSem sig} (hs : sem = dsem (LC 1))
    {hsrc : (hOwn vtM c).view.WordExact} {hdst : (gSlot vgM c).view.WordExact}
    {hsem : DmaTarget.Typed (nD := nD) .hbm (.dma sem) (.here (gSlot vgM c) : DmaTarget nD τ sig Proc.tc .vmem _ _)} :
    env Z K ⊢ iprop(vtP Z c c -∗ vgA (F := F) c c -∗ fresh (F := F) (LC 1) c -∗ (arm (F := F) (LC 1) c -∗ wpc (k ⟨⟩) Q)
      -∗ wpc (.op (.enqueueDma (hOwn vtM c) (.here (gSlot vgM c)) (.dma sem) hsrc hdst hsem) k) Q) := by
  iintro #He Hs ⟨%fd, Hd⟩ Hf Hk
  iapply (op_copy Z K c (LC 1) hs (src := hOwn vtM c) (dst := gSlot vgM c) rfl (Z.vt c) fd
    (Entails.of_eq (by
      rw [land (gSlot vgM c).view c fd (gath Z.vt c) _ ((gath_read_v Z.vt c c).trans (own_read_v (Z.vt c) c).symm), vSlot_set, vOwn_set]
      rfl))) $$ [Hs Hd Hf]
  · isplitr; · iexact He
    isplitl [Hs]; · rw [vOwn_set]; iexact Hs
    isplitl [Hd]; · rw [vSlot_set]; iexact Hd
    iassumption
  iexact Hk

/-! ## The copies of the reduction -/

/-- The shape of block `k` of a half buffer. -/
def bSh (k : Fin 3) : Shape := match k with | 0 => S2x256x768 | 1 => S2x128x768 | 2 => S2x64x768
theorem bSq (k : Fin 3) : Shape.Squeezes (rR k).shape (bSh k) := by
  match k with
  | 0 => exact squeezes_S1x2x256x768_S2x256x768
  | 1 => exact squeezes_S1x2x128x768_S2x128x768
  | 2 => exact squeezes_S1x2x64x768_S2x64x768
theorem bUnit (k : Fin 3) : ∀ a, (rR k).stride a = 1 := by match k with | 0 | 1 | 2 => intro a; rfl
/-- Block `k` of a half buffer. -/
abbrev bSlot (k : Fin 3) (g : Memref sig .tc .vmem S3x2x256x768 .bf16) : Memref sig .tc .vmem (bSh k) .bf16 :=
  (g.slice (rR k) (bUnit k)).squeeze (bSh k) (bSq k)

theorem bs_set (k : Fin 3) : (bSlot k bsM).view.set = bSet k := by
  show ((View.whole cc0_scratch3).slice _ |>.reshape _ _).set = _
  rw [View.set_reshape, View.set_slice_whole, rR_set]
theorem br_set (k : Fin 3) : (bSlot k brM).view.set = bSet k := by
  show ((View.whole cc0_scratch4).slice _ |>.reshape _ _).set = _
  rw [View.set_reshape, View.set_slice_whole, rR_set]
theorem as_set (k : Fin 3) : (bSlot k asM).view.set = bSet k := by
  show ((View.whole cc0_scratch5).slice _ |>.reshape _ _).set = _
  rw [View.set_reshape, View.set_slice_whole, rR_set]
theorem ar_set (k : Fin 3) : (bSlot k arM).view.set = bSet k := by
  show ((View.whole cc0_scratch6).slice _ |>.reshape _ _).set = _
  rw [View.set_reshape, View.set_slice_whole, rR_set]

/-- What copy `k` of the halving takes besides the block it sends. -/
def sR (k : Fin 3) : sProp 𝕄 :=
  iprop(brA (F := F) (xr k c) k ∗ fresh (F := F) (RS k) c ∗ dutyTok ER (cell (RR k) (xr k c)) 0 (0 : Fin 7) ∗ reached ER (cell (RR k) (xr k c)) 0)
/-- Copy `k` of the halving: the block lands on the partner as it was read. -/
theorem op_sendR (j : Fin 3) (l : ℕ) (hd : steps.drop l = .inr (RR j) :: steps.drop (l + 1)) (f : BBuf F) (hf : rd j f = Z.rb j (xr j c))
    {t' : Dev nD} (ht : t' = xr j c) {sS sR' : DmaSem sig} (hS : sS = dsem (RS j)) (hR : sR' = dsem (RR j))
    {hsc : (bSlot j brM).view.ref.isScScratch = false} {hsrc : (bSlot j bsM).view.WordExact} {hdst : (bSlot j brM).view.WordExact}
    {hsem : DmaTarget.Typed .vmem (.dma sR') (.remote (Dev.tc t') (bSlot j brM) (.dma sS) hsc)} :
    env Z K ⊢ iprop(ow l c -∗ (bsL c ↦[bSet j]{fullShare} f) -∗ sR (F := F) c j -∗ (ow (l + 1) c -∗ arm (F := F) (RS j) c -∗ wpc (k ⟨⟩) Q)
      -∗ wpc (.op (.enqueueDma (bSlot j bsM) (.remote (Dev.tc t') (bSlot j brM) (.dma sS) hsc) (.dma sR') hsrc hdst hsem) k) Q) := by
  unfold sR
  iintro #He HO Hs ⟨⟨%fd, Hd⟩, Hf, Ht, Hr⟩ Hk
  iapply (op_send Z K c (RS j) (RR j) l (xr j c) rfl hd ht hS hR (src := bSlot j bsM) (dst := bSlot j brM) (by match j with | 0 | 1 | 2 => rfl) rfl f fd
    (by rw [bs_set]; iintro H; unfold pay; iexists f; iexact H)
    (by
      rw [land (bSlot j brM).view (xr j c) fd f ((bSlot j bsM).view.read (Elt F) f) rfl, br_set]
      unfold pay
      iintro H; iexists f
      isplitr; · ipureintro; exact hf
      iexact H)) $$ [HO Hs Hd Hf Ht Hr]
  · isplitr; · iexact He
    isplitl [HO]; · iassumption
    isplitl [Hs]; · rw [bs_set]; iexact Hs
    isplitl [Hd]; · rw [br_set]; iexact Hd
    isplitl [Hf]; · iassumption
    isplitl [Ht] <;> iassumption
  iintro ⟨HO, HA⟩
  iapply Hk $$ HO HA

/-- What copy `k` of the doubling takes besides the block it sends. -/
def sA (k : Fin 3) : sProp 𝕄 :=
  iprop(arA (F := F) (xr k c) k ∗ fresh (F := F) (AS k) c ∗ dutyTok ER (cell (AR k) (xr k c)) 0 (0 : Fin 7) ∗ reached ER (cell (AR k) (xr k c)) 0)
/-- Copy `k` of the doubling: the block lands on the partner as it was read. -/
theorem op_sendA (j : Fin 3) (l : ℕ) (hd : steps.drop l = .inr (AR j) :: steps.drop (l + 1)) (f : BBuf F) (hf : rd j f = Z.ra j (xr j c))
    {t' : Dev nD} (ht : t' = xr j c) {sS sR' : DmaSem sig} (hS : sS = dsem (AS j)) (hR : sR' = dsem (AR j))
    {hsc : (bSlot j arM).view.ref.isScScratch = false} {hsrc : (bSlot j asM).view.WordExact} {hdst : (bSlot j arM).view.WordExact}
    {hsem : DmaTarget.Typed .vmem (.dma sR') (.remote (Dev.tc t') (bSlot j arM) (.dma sS) hsc)} :
    env Z K ⊢ iprop(ow l c -∗ (asL c ↦[bSet j]{fullShare} f) -∗ sA (F := F) c j -∗ (ow (l + 1) c -∗ arm (F := F) (AS j) c -∗ wpc (k ⟨⟩) Q)
      -∗ wpc (.op (.enqueueDma (bSlot j asM) (.remote (Dev.tc t') (bSlot j arM) (.dma sS) hsc) (.dma sR') hsrc hdst hsem) k) Q) := by
  unfold sA
  iintro #He HO Hs ⟨⟨%fd, Hd⟩, Hf, Ht, Hr⟩ Hk
  iapply (op_send Z K c (AS j) (AR j) l (xr j c) rfl hd ht hS hR (src := bSlot j asM) (dst := bSlot j arM) (by match j with | 0 | 1 | 2 => rfl) rfl f fd
    (by rw [as_set]; iintro H; unfold pay; iexists f; iexact H)
    (by
      rw [land (bSlot j arM).view (xr j c) fd f ((bSlot j asM).view.read (Elt F) f) rfl, ar_set]
      unfold pay
      iintro H; iexists f
      isplitr; · ipureintro; exact hf
      iexact H)) $$ [HO Hs Hd Hf Ht Hr]
  · isplitr; · iexact He
    isplitl [HO]; · iassumption
    isplitl [Hs]; · rw [as_set]; iexact Hs
    isplitl [Hd]; · rw [ar_set]; iexact Hd
    isplitl [Hf]; · iassumption
    isplitl [Ht] <;> iassumption
  iintro ⟨HO, HA⟩
  iapply Hk $$ HO HA

end

end Cert.Proof.Att
-- ==== Proof.LdSt.lean ====
module

public import proofs.«01_k».proof.Proof.Exch

/-! Loads and stores on the staged operands, the result and the scratch buffers. -/

@[expose] public section
noncomputable section

namespace Cert.Proof.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- What a box of an array reads. -/
abbrev sub {s : Shape} {X : Type} (r : Rect s) (f : s.Idx → X) : r.shape.Idx → X := fun i => f (r.emb i)

/-- An array with a box of it replaced. -/
def put {s : Shape} {X : Type} (r : Rect s) (f : s.Idx → X) (w : r.shape.Idx → X) : s.Idx → X := fun j =>
  open Classical in if h : ∃ i, r.emb i = j then w h.choose else f j

theorem put_emb {s : Shape} {X : Type} (r : Rect s) (f : s.Idx → X) (w : r.shape.Idx → X) (i : r.shape.Idx) :
    put r f w (r.emb i) = w i := by
  have h : ∃ i', r.emb i' = r.emb i := ⟨i, rfl⟩
  unfold put
  rw [dif_pos h, r.emb.injective h.choose_spec]

theorem put_of_not {s : Shape} {X : Type} (r : Rect s) (f : s.Idx → X) (w : r.shape.Idx → X) (j : s.Idx) (h : j ∉ r.set) :
    put r f w j = f j := by
  unfold put
  rw [dif_neg]
  rintro ⟨i, rfl⟩
  exact h ((LoadRect.mem_set r.toLoadRect).mpr fun a => ⟨(i a).val, (i a).isLt, rfl⟩)

/-- A whole buffer written through a box is the buffer with the box replaced. -/
theorem write_put (b : Ref sig .tc) (r : Rect b.ty.shape) (f : b.ty.shape.Idx → Elt F b.ty.elt) (w : r.shape.Idx → Elt F b.ty.elt) :
    ((View.whole b).slice r).write (Elt F) f w Finset.univ = put r f w := by
  funext j
  by_cases h : ∃ i, r.emb i = j
  · obtain ⟨i, rfl⟩ := h
    rw [put_emb]
    exact View.write_emb_of_mem (v := (View.whole b).slice r) f w (Finset.mem_univ i)
  · unfold put
    rw [dif_neg h]
    refine View.write_of_not_mem (v := (View.whole b).slice r) f w Finset.univ fun hm => h ?_
    obtain ⟨i, -, hi⟩ := Finset.mem_map.mp hm
    exact ⟨i, hi⟩

section
variable {α : Type} {Q : α → sProp (MT nD τ sig Unit (Elt F) ℕ UU ℕ)} (c : Dev nD)
local notation "wpc" => wp frame (wpE (defs₀ (F := F)) 𝒱₀ (c : Thread nD τ) none) Set.univ

/-- A load of a held buffer gives what the box reads. -/
theorem op_ld {cs : CoreSpace} {s : Shape} {e : EltTy} (m : Memref sig .tc cs s e) {r : Rect s} {hl : m.view.LoadsAt r}
    {k : (r.shape.Idx → Elt F e) → Prog (TpuEff nD τ sig (Elt F) Λ₀ .tc) α} (f : Buf (Elt F) ((m.access r).loc (c : Thread nD τ))) :
    ((m.access r).loc (c : Thread nD τ) ↦{fullShare} f)
      ⊢ iprop((((m.access r).loc (c : Thread nD τ) ↦{fullShare} f) -∗ wpc (k ((m.access r).read (Elt F) f)) Q) -∗ wpc (.op (.load m r hl) k) Q) :=
  wp_load_rect 𝒱₀ (c : Thread nD τ) none Set.univ (Finset.subset_univ _)
/-- A store of a held buffer writes the box. -/
theorem op_st {cs : CoreSpace} {s : Shape} {e : EltTy} (m : Memref sig .tc cs s e) {r : Rect s} {w : r.shape.Idx → Elt F e}
    {hx : (m.access r).Stores Finset.univ} {hm : Finset.univ = Finset.univ ∨ ∀ a, r.stride a = 1}
    {k : PUnit → Prog (TpuEff nD τ sig (Elt F) Λ₀ .tc) α} (f : Buf (Elt F) ((m.access r).loc (c : Thread nD τ))) :
    ((m.access r).loc (c : Thread nD τ) ↦{fullShare} f)
      ⊢ iprop((((m.access r).loc (c : Thread nD τ) ↦{fullShare} ((m.access r).write (Elt F) f w Finset.univ)) -∗ wpc (k ⟨⟩) Q)
        -∗ wpc (.op (.store m r w Finset.univ hx hm) k) Q) :=
  wp_store 𝒱₀ (c : Thread nD τ) none Set.univ (Finset.subset_univ _)

theorem ld_x {r : Rect S2x512x768} {hl : xM.view.LoadsAt r} {k : (r.shape.Idx → Elt F .bf16) → Prog (TpuEff nD τ sig (Elt F) Λ₀ .tc) α} (f : XBuf F) :
    (xL c ↦{fullShare} f) ⊢ iprop(((xL c ↦{fullShare} f) -∗ wpc (k (sub r f)) Q) -∗ wpc (.op (.load xM r hl) k) Q) :=
  op_ld (Q := Q) c (r := r) (hl := hl) (k := k) xM f
theorem ld_wq {r : Rect S768x512} {hl : wqM.view.LoadsAt r} {k : (r.shape.Idx → Elt F .bf16) → Prog (TpuEff nD τ sig (Elt F) Λ₀ .tc) α} (f : WqBuf F) :
    (wqL c ↦{fullShare} f) ⊢ iprop(((wqL c ↦{fullShare} f) -∗ wpc (k (sub r f)) Q) -∗ wpc (.op (.load wqM r hl) k) Q) :=
  op_ld (Q := Q) c (r := r) (hl := hl) (k := k) wqM f
theorem ld_wo {r : Rect S512x768} {hl : woM.view.LoadsAt r} {k : (r.shape.Idx → Elt F .bf16) → Prog (TpuEff nD τ sig (Elt F) Λ₀ .tc) α} (f : WoBuf F) :
    (woL c ↦{fullShare} f) ⊢ iprop(((woL c ↦{fullShare} f) -∗ wpc (k (sub r f)) Q) -∗ wpc (.op (.load woM r hl) k) Q) :=
  op_ld (Q := Q) c (r := r) (hl := hl) (k := k) woM f
theorem ld_o {r : Rect S2x512x768} {hl : oM.view.LoadsAt r} {k : (r.shape.Idx → Elt F .f32) → Prog (TpuEff nD τ sig (Elt F) Λ₀ .tc) α} (f : OBuf F) :
    (oL c ↦{fullShare} f) ⊢ iprop(((oL c ↦{fullShare} f) -∗ wpc (k (sub r f)) Q) -∗ wpc (.op (.load oM r hl) k) Q) :=
  op_ld (Q := Q) c (r := r) (hl := hl) (k := k) oM f
theorem ld_q {r : Rect S16x512x64} {hl : qM.view.LoadsAt r} {k : (r.shape.Idx → Elt F .bf16) → Prog (TpuEff nD τ sig (Elt F) Λ₀ .tc) α} (f : QBuf F) :
    (qL c ↦{fullShare} f) ⊢ iprop(((qL c ↦{fullShare} f) -∗ wpc (k (sub r f)) Q) -∗ wpc (.op (.load qM r hl) k) Q) :=
  op_ld (Q := Q) c (r := r) (hl := hl) (k := k) qM f
theorem ld_kg {r : Rect S8x2x8x4x128x64} {hl : kgM.view.LoadsAt r} {k : (r.shape.Idx → Elt F .bf16) → Prog (TpuEff nD τ sig (Elt F) Λ₀ .tc) α} (f : GBuf F) :
    (kgL c ↦{fullShare} f) ⊢ iprop(((kgL c ↦{fullShare} f) -∗ wpc (k (sub r f)) Q) -∗ wpc (.op (.load kgM r hl) k) Q) :=
  op_ld (Q := Q) c (r := r) (hl := hl) (k := k) kgM f
theorem ld_vg {r : Rect S8x2x8x4x128x64} {hl : vgM.view.LoadsAt r} {k : (r.shape.Idx → Elt F .bf16) → Prog (TpuEff nD τ sig (Elt F) Λ₀ .tc) α} (f : GBuf F) :
    (vgL c ↦{fullShare} f) ⊢ iprop(((vgL c ↦{fullShare} f) -∗ wpc (k (sub r f)) Q) -∗ wpc (.op (.load vgM r hl) k) Q) :=
  op_ld (Q := Q) c (r := r) (hl := hl) (k := k) vgM f
theorem st_o {r : Rect S2x512x768} {w : r.shape.Idx → Elt F .f32} {hx : (oM.access r).Stores Finset.univ} {hm : Finset.univ = Finset.univ ∨ ∀ a, r.stride a = 1}
    {k : PUnit → Prog (TpuEff nD τ sig (Elt F) Λ₀ .tc) α} (f : OBuf F) :
    (oL c ↦{fullShare} f) ⊢ iprop(((oL c ↦{fullShare} put r f w) -∗ wpc (k ⟨⟩) Q) -∗ wpc (.op (.store oM r w Finset.univ hx hm) k) Q) := by
  rw [← show (oM.access r).write (Elt F) f w Finset.univ = put r f w from write_put cc0_stg3_0 r f w]
  exact op_st (Q := Q) c (r := r) (w := w) (hx := hx) (hm := hm) (k := k) oM f
theorem st_q {r : Rect S16x512x64} {w : r.shape.Idx → Elt F .bf16} {hx : (qM.access r).Stores Finset.univ} {hm : Finset.univ = Finset.univ ∨ ∀ a, r.stride a = 1}
    {k : PUnit → Prog (TpuEff nD τ sig (Elt F) Λ₀ .tc) α} (f : QBuf F) :
    (qL c ↦{fullShare} f) ⊢ iprop(((qL c ↦{fullShare} put r f w) -∗ wpc (k ⟨⟩) Q) -∗ wpc (.op (.store qM r w Finset.univ hx hm) k) Q) := by
  rw [← show (qM.access r).write (Elt F) f w Finset.univ = put r f w from write_put cc0_scratch2 r f w]
  exact op_st (Q := Q) c (r := r) (w := w) (hx := hx) (hm := hm) (k := k) qM f

end

end Cert.Proof.Att
-- ==== Proof.Trip.lean ====
module

public import proofs.«01_k».proof.Proof.LdSt

/-! One trip of the loop: what it leaves in the result. -/

@[expose] public section
noncomputable section

namespace Cert.Proof.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The box `o` of a gather buffer; of the result. -/
abbrev ld5 (f : GBuf F) (o : Fin 6 → ℕ) (h : ∀ a, o a + S1x1x1x1x128x64.size a ≤ S8x2x8x4x128x64.size a) : Vec F S1x1x1x1x128x64 .bf16 :=
  sub (Rect.unit (s := S8x2x8x4x128x64) o S1x1x1x1x128x64.size h) f
abbrev ldo (f : OBuf F) (o : Fin 3 → ℕ) (h : ∀ a, o a + S1x64x768.size a ≤ S2x512x768.size a) : Vec F S1x64x768 .f32 :=
  sub (Rect.unit (s := S2x512x768) o S1x64x768.size h) f
abbrev sto (f : OBuf F) (o : Fin 3 → ℕ) (h : ∀ a, o a + S1x64x768.size a ≤ S2x512x768.size a) (w : Vec F S1x64x768 .f32) : OBuf F :=
  put (Rect.unit (s := S2x512x768) o S1x64x768.size h) f w

/-- The queries and the rows of the output weight that trip `t` takes. -/
def qT (q : QBuf F) (t : Fin k0_t1_loop.trips) : Vec F S1x512x64 .bf16 := sub (Rect.unit (s := S16x512x64) (k0_off4 t) S1x512x64.size (k0_off4_inb t)) q
def woT (wo : WoBuf F) (t : Fin k0_t1_loop.trips) : Vec F S64x768 .bf16 := sub (Rect.unit (s := S512x768) (k0_off5 t) S64x768.size (k0_off5_inb t)) wo

/-- Residue class 0 of the blocks: its two blocks of the result take the head's part. -/
def cl0A (q : QBuf F) (wo : WoBuf F) (kg vg : GBuf F) (t : Fin k0_t1_loop.trips) (f : OBuf F) : OBuf F :=
  sto f (k0_off14 t) (k0_off14_inb t) (k0_pay14 (k0_pay3 (woT wo t)) (k0_pay4 (qT q t)) (k0_pay5 (ld5 kg (k0_off6 t) (k0_off6_inb t)) (ld5 kg (k0_off7 t) (k0_off7_inb t)) (ld5 kg (k0_off8 t) (k0_off8_inb t)) (ld5 kg (k0_off9 t) (k0_off9_inb t)) (ld5 kg (k0_off10 t) (k0_off10_inb t)) (ld5 kg (k0_off11 t) (k0_off11_inb t)) (ld5 kg (k0_off12 t) (k0_off12_inb t)) (ld5 kg (k0_off13 t) (k0_off13_inb t))) (k0_pay6 (ld5 vg (k0_off6 t) (k0_off6_inb t))) (k0_pay7 (ld5 vg (k0_off7 t) (k0_off7_inb t))) (k0_pay8 (ld5 vg (k0_off8 t) (k0_off8_inb t))) (k0_pay9 (ld5 vg (k0_off9 t) (k0_off9_inb t))) (k0_pay10 (ld5 vg (k0_off10 t) (k0_off10_inb t))) (k0_pay11 (ld5 vg (k0_off11 t) (k0_off11_inb t))) (k0_pay12 (ld5 vg (k0_off12 t) (k0_off12_inb t))) (ld5 vg (k0_off13 t) (k0_off13_inb t)) (ldo f (k0_off14 t) (k0_off14_inb t)))
def cl0B (q : QBuf F) (wo : WoBuf F) (kg vg : GBuf F) (t : Fin k0_t1_loop.trips) (f : OBuf F) : OBuf F :=
  sto f (k0_off15 t) (k0_off15_inb t) (k0_pay15 (k0_pay3 (woT wo t)) (k0_pay4 (qT q t)) (k0_pay5 (ld5 kg (k0_off6 t) (k0_off6_inb t)) (ld5 kg (k0_off7 t) (k0_off7_inb t)) (ld5 kg (k0_off8 t) (k0_off8_inb t)) (ld5 kg (k0_off9 t) (k0_off9_inb t)) (ld5 kg (k0_off10 t) (k0_off10_inb t)) (ld5 kg (k0_off11 t) (k0_off11_inb t)) (ld5 kg (k0_off12 t) (k0_off12_inb t)) (ld5 kg (k0_off13 t) (k0_off13_inb t))) (k0_pay6 (ld5 vg (k0_off6 t) (k0_off6_inb t))) (k0_pay7 (ld5 vg (k0_off7 t) (k0_off7_inb t))) (k0_pay8 (ld5 vg (k0_off8 t) (k0_off8_inb t))) (k0_pay9 (ld5 vg (k0_off9 t) (k0_off9_inb t))) (k0_pay10 (ld5 vg (k0_off10 t) (k0_off10_inb t))) (k0_pay11 (ld5 vg (k0_off11 t) (k0_off11_inb t))) (k0_pay12 (ld5 vg (k0_off12 t) (k0_off12_inb t))) (ld5 vg (k0_off13 t) (k0_off13_inb t)) (ldo f (k0_off15 t) (k0_off15_inb t)))
/-- Residue class 1 of the blocks: its two blocks of the result take the head's part. -/
def cl1A (q : QBuf F) (wo : WoBuf F) (kg vg : GBuf F) (t : Fin k0_t1_loop.trips) (f : OBuf F) : OBuf F :=
  sto f (k0_off24 t) (k0_off24_inb t) (k0_pay26 (k0_pay3 (woT wo t)) (k0_pay16 (k0_pay2 (qT q t))) (k0_pay17 (ld5 kg (k0_off16 t) (k0_off16_inb t)) (ld5 kg (k0_off17 t) (k0_off17_inb t)) (ld5 kg (k0_off18 t) (k0_off18_inb t)) (ld5 kg (k0_off19 t) (k0_off19_inb t)) (ld5 kg (k0_off20 t) (k0_off20_inb t)) (ld5 kg (k0_off21 t) (k0_off21_inb t)) (ld5 kg (k0_off22 t) (k0_off22_inb t)) (ld5 kg (k0_off23 t) (k0_off23_inb t))) (k0_pay18 (ld5 vg (k0_off16 t) (k0_off16_inb t))) (k0_pay19 (ld5 vg (k0_off17 t) (k0_off17_inb t))) (k0_pay20 (ld5 vg (k0_off18 t) (k0_off18_inb t))) (k0_pay21 (ld5 vg (k0_off19 t) (k0_off19_inb t))) (k0_pay22 (ld5 vg (k0_off20 t) (k0_off20_inb t))) (k0_pay23 (ld5 vg (k0_off21 t) (k0_off21_inb t))) (k0_pay24 (ld5 vg (k0_off22 t) (k0_off22_inb t))) (ld5 vg (k0_off23 t) (k0_off23_inb t)) (ldo f (k0_off24 t) (k0_off24_inb t)))
def cl1B (q : QBuf F) (wo : WoBuf F) (kg vg : GBuf F) (t : Fin k0_t1_loop.trips) (f : OBuf F) : OBuf F :=
  sto f (k0_off25 t) (k0_off25_inb t) (k0_pay27 (k0_pay3 (woT wo t)) (k0_pay16 (k0_pay2 (qT q t))) (k0_pay17 (ld5 kg (k0_off16 t) (k0_off16_inb t)) (ld5 kg (k0_off17 t) (k0_off17_inb t)) (ld5 kg (k0_off18 t) (k0_off18_inb t)) (ld5 kg (k0_off19 t) (k0_off19_inb t)) (ld5 kg (k0_off20 t) (k0_off20_inb t)) (ld5 kg (k0_off21 t) (k0_off21_inb t)) (ld5 kg (k0_off22 t) (k0_off22_inb t)) (ld5 kg (k0_off23 t) (k0_off23_inb t))) (k0_pay18 (ld5 vg (k0_off16 t) (k0_off16_inb t))) (k0_pay19 (ld5 vg (k0_off17 t) (k0_off17_inb t))) (k0_pay20 (ld5 vg (k0_off18 t) (k0_off18_inb t))) (k0_pay21 (ld5 vg (k0_off19 t) (k0_off19_inb t))) (k0_pay22 (ld5 vg (k0_off20 t) (k0_off20_inb t))) (k0_pay23 (ld5 vg (k0_off21 t) (k0_off21_inb t))) (k0_pay24 (ld5 vg (k0_off22 t) (k0_off22_inb t))) (ld5 vg (k0_off23 t) (k0_off23_inb t)) (ldo f (k0_off25 t) (k0_off25_inb t)))
/-- Residue class 2 of the blocks: its two blocks of the result take the head's part. -/
def cl2A (q : QBuf F) (wo : WoBuf F) (kg vg : GBuf F) (t : Fin k0_t1_loop.trips) (f : OBuf F) : OBuf F :=
  sto f (k0_off34 t) (k0_off34_inb t) (k0_pay38 (k0_pay3 (woT wo t)) (k0_pay28 (k0_pay2 (qT q t))) (k0_pay29 (ld5 kg (k0_off26 t) (k0_off26_inb t)) (ld5 kg (k0_off27 t) (k0_off27_inb t)) (ld5 kg (k0_off28 t) (k0_off28_inb t)) (ld5 kg (k0_off29 t) (k0_off29_inb t)) (ld5 kg (k0_off30 t) (k0_off30_inb t)) (ld5 kg (k0_off31 t) (k0_off31_inb t)) (ld5 kg (k0_off32 t) (k0_off32_inb t)) (ld5 kg (k0_off33 t) (k0_off33_inb t))) (k0_pay30 (ld5 vg (k0_off26 t) (k0_off26_inb t))) (k0_pay31 (ld5 vg (k0_off27 t) (k0_off27_inb t))) (k0_pay32 (ld5 vg (k0_off28 t) (k0_off28_inb t))) (k0_pay33 (ld5 vg (k0_off29 t) (k0_off29_inb t))) (k0_pay34 (ld5 vg (k0_off30 t) (k0_off30_inb t))) (k0_pay35 (ld5 vg (k0_off31 t) (k0_off31_inb t))) (k0_pay36 (ld5 vg (k0_off32 t) (k0_off32_inb t))) (ld5 vg (k0_off33 t) (k0_off33_inb t)) (ldo f (k0_off34 t) (k0_off34_inb t)))
def cl2B (q : QBuf F) (wo : WoBuf F) (kg vg : GBuf F) (t : Fin k0_t1_loop.trips) (f : OBuf F) : OBuf F :=
  sto f (k0_off35 t) (k0_off35_inb t) (k0_pay39 (k0_pay3 (woT wo t)) (k0_pay28 (k0_pay2 (qT q t))) (k0_pay29 (ld5 kg (k0_off26 t) (k0_off26_inb t)) (ld5 kg (k0_off27 t) (k0_off27_inb t)) (ld5 kg (k0_off28 t) (k0_off28_inb t)) (ld5 kg (k0_off29 t) (k0_off29_inb t)) (ld5 kg (k0_off30 t) (k0_off30_inb t)) (ld5 kg (k0_off31 t) (k0_off31_inb t)) (ld5 kg (k0_off32 t) (k0_off32_inb t)) (ld5 kg (k0_off33 t) (k0_off33_inb t))) (k0_pay30 (ld5 vg (k0_off26 t) (k0_off26_inb t))) (k0_pay31 (ld5 vg (k0_off27 t) (k0_off27_inb t))) (k0_pay32 (ld5 vg (k0_off28 t) (k0_off28_inb t))) (k0_pay33 (ld5 vg (k0_off29 t) (k0_off29_inb t))) (k0_pay34 (ld5 vg (k0_off30 t) (k0_off30_inb t))) (k0_pay35 (ld5 vg (k0_off31 t) (k0_off31_inb t))) (k0_pay36 (ld5 vg (k0_off32 t) (k0_off32_inb t))) (ld5 vg (k0_off33 t) (k0_off33_inb t)) (ldo f (k0_off35 t) (k0_off35_inb t)))
/-- Residue class 3 of the blocks: its two blocks of the result take the head's part. -/
def cl3A (q : QBuf F) (wo : WoBuf F) (kg vg : GBuf F) (t : Fin k0_t1_loop.trips) (f : OBuf F) : OBuf F :=
  sto f (k0_off44 t) (k0_off44_inb t) (k0_pay50 (k0_pay3 (woT wo t)) (k0_pay40 (k0_pay2 (qT q t))) (k0_pay41 (ld5 kg (k0_off36 t) (k0_off36_inb t)) (ld5 kg (k0_off37 t) (k0_off37_inb t)) (ld5 kg (k0_off38 t) (k0_off38_inb t)) (ld5 kg (k0_off39 t) (k0_off39_inb t)) (ld5 kg (k0_off40 t) (k0_off40_inb t)) (ld5 kg (k0_off41 t) (k0_off41_inb t)) (ld5 kg (k0_off42 t) (k0_off42_inb t)) (ld5 kg (k0_off43 t) (k0_off43_inb t))) (k0_pay42 (ld5 vg (k0_off36 t) (k0_off36_inb t))) (k0_pay43 (ld5 vg (k0_off37 t) (k0_off37_inb t))) (k0_pay44 (ld5 vg (k0_off38 t) (k0_off38_inb t))) (k0_pay45 (ld5 vg (k0_off39 t) (k0_off39_inb t))) (k0_pay46 (ld5 vg (k0_off40 t) (k0_off40_inb t))) (k0_pay47 (ld5 vg (k0_off41 t) (k0_off41_inb t))) (k0_pay48 (ld5 vg (k0_off42 t) (k0_off42_inb t))) (ld5 vg (k0_off43 t) (k0_off43_inb t)) (ldo f (k0_off44 t) (k0_off44_inb t)))
def cl3B (q : QBuf F) (wo : WoBuf F) (kg vg : GBuf F) (t : Fin k0_t1_loop.trips) (f : OBuf F) : OBuf F :=
  sto f (k0_off45 t) (k0_off45_inb t) (k0_pay73 (k0_pay51 (k0_pay3 (woT wo t)) (k0_pay40 (k0_pay2 (qT q t))) (k0_pay41 (ld5 kg (k0_off36 t) (k0_off36_inb t)) (ld5 kg (k0_off37 t) (k0_off37_inb t)) (ld5 kg (k0_off38 t) (k0_off38_inb t)) (ld5 kg (k0_off39 t) (k0_off39_inb t)) (ld5 kg (k0_off40 t) (k0_off40_inb t)) (ld5 kg (k0_off41 t) (k0_off41_inb t)) (ld5 kg (k0_off42 t) (k0_off42_inb t)) (ld5 kg (k0_off43 t) (k0_off43_inb t))) (k0_pay42 (ld5 vg (k0_off36 t) (k0_off36_inb t))) (k0_pay43 (ld5 vg (k0_off37 t) (k0_off37_inb t))) (k0_pay44 (ld5 vg (k0_off38 t) (k0_off38_inb t))) (k0_pay45 (ld5 vg (k0_off39 t) (k0_off39_inb t))) (k0_pay46 (ld5 vg (k0_off40 t) (k0_off40_inb t))) (k0_pay47 (ld5 vg (k0_off41 t) (k0_off41_inb t))) (k0_pay48 (ld5 vg (k0_off42 t) (k0_off42_inb t))) (ld5 vg (k0_off43 t) (k0_off43_inb t)) (ldo f (k0_off45 t) (k0_off45_inb t))))
/-- What a trip makes of the result. -/
def oTrip (q : QBuf F) (wo : WoBuf F) (kg vg : GBuf F) (t : Fin k0_t1_loop.trips) (f : OBuf F) : OBuf F :=
  cl3B q wo kg vg t (cl3A q wo kg vg t (cl2B q wo kg vg t (cl2A q wo kg vg t (cl1B q wo kg vg t (cl1A q wo kg vg t (cl0B q wo kg vg t (cl0A q wo kg vg t f)))))))

variable (c : Dev nD)
local notation "wpc" => wp frame (wpE (defs₀ (F := F)) 𝒱₀ (c : Thread nD τ) none) Set.univ

/-- What a trip holds. -/
def tripR (q : QBuf F) (wo : WoBuf F) (kg vg : GBuf F) : sProp 𝕄 :=
  iprop((qL c ↦{fullShare} q) ∗ (woL c ↦{fullShare} wo) ∗ (kgL c ↦{fullShare} kg) ∗ (vgL c ↦{fullShare} vg))

theorem wp_trip (w₁ w₂ : BitVec 32) (t : Fin k0_t1_loop.trips) (u : Unit) (q : QBuf F) (wo : WoBuf F) (kg vg : GBuf F) (f : OBuf F) (Q : _ → sProp 𝕄) :
    iprop(tripR c q wo kg vg ∗ (oL c ↦{fullShare} f) ∗ (tripR c q wo kg vg -∗ (oL c ↦{fullShare} oTrip q wo kg vg t f) -∗ Q ()))
      ⊢ wpc (ap (k0_t1_body (F := F)) c w₁ w₂ t u) Q := by
  unfold tripR
  iintro ⟨⟨Hq, Hw, HK, HV⟩, HO, Hk⟩
  simp only [ap, k0_t1_body, k0_part13_eq_skeleton, k0_part13_skel, k0_part1_eq_skeleton, k0_part1_skel, k0_part2_eq_skeleton, k0_part2_skel,
    k0_part3_eq_skeleton, k0_part3_skel, k0_part4_eq_skeleton, k0_part4_skel, k0_part5_eq_skeleton, k0_part5_skel, k0_part6_eq_skeleton, k0_part6_skel,
    k0_part7_eq_skeleton, k0_part7_skel, k0_part8_eq_skeleton, k0_part8_skel, k0_part9_eq_skeleton, k0_part9_skel, k0_part10_eq_skeleton, k0_part10_skel,
    k0_part11_eq_skeleton, k0_part11_skel, k0_part12_eq_skeleton, k0_part12_skel, Prog.bind_lift, Prog.bind_op, Prog.bind_ret, Prog.pure_eq_ret]
  iapply (ld_q c q) $$ Hq; iintro Hq
  iapply (ld_wo c wo) $$ Hw; iintro Hw
  iterate 4
    (iterate 8 (iapply (ld_kg c kg) $$ HK; iintro HK)
     iterate 8 (iapply (ld_vg c vg) $$ HV; iintro HV)
     iterate 2
       (iterate 2 (iapply (ld_o c _) $$ HO; iintro HO)
        iapply (st_o c _) $$ HO; iintro HO))
  simp only [wp_ret]
  imodintro
  iapply Hk $$ [Hq Hw HK HV] [HO]
  · isplitl [Hq]; · iexact Hq
    isplitl [Hw]; · iexact Hw
    isplitl [HK] <;> iassumption
  · iexact HO

end Cert.Proof.Att
-- ==== Proof.Around.lean ====
module

public import proofs.«01_k».proof.Proof.LdSt

/-! Resources of all devices, of all steps, of all blocks, taken apart and put together. -/

@[expose] public section
noncomputable section

namespace Cert.Proof.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

theorem fin7 (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide]
  iterate 6 rw [bigSep_insert (by decide)]
  rw [bigSep_singleton]; rfl
theorem fin3 (Φ : Fin 3 → sProp 𝕄) : bigSep Finset.univ Φ = iprop(Φ 0 ∗ Φ 1 ∗ Φ 2) := by
  rw [show (Finset.univ : Finset (Fin 3)) = {0, 1, 2} by decide]
  iterate 2 rw [bigSep_insert (by decide)]
  rw [bigSep_singleton]; rfl

/-- Pairs shared out. -/
theorem bsep {I : Type} (s : Finset I) (Φ Ψ : I → sProp 𝕄) : bigSep s (fun i => iprop(Φ i ∗ Ψ i)) = iprop(bigSep s Φ ∗ bigSep s Ψ) := bigSep_sep s Φ Ψ

def tgtE (c : Dev nD) : Fin 7 ↪ Dev nD := ⟨fun i => kvTgt i c, fun i j h => by revert c i j; decide⟩
def srcE (c : Dev nD) : Fin 7 ↪ Dev nD := ⟨fun i => kvSrc i c, fun i j h => by revert c i j; decide⟩
/-- Every device: `c` itself, and the seven it copies to. -/
theorem all_tgt (c : Dev nD) (Φ : Dev nD → sProp 𝕄) :
    bigSep Finset.univ Φ = iprop(Φ c ∗ bigSep Finset.univ fun i : Fin 7 => Φ (kvTgt i c)) := by
  rw [show (Finset.univ : Finset (Dev nD)) = insert c (Finset.univ.map (tgtE c)) by revert c; decide,
    bigSep_insert (by revert c; decide), bigSep_map]; rfl
/-- Every device: `c` itself, and the seven that copy to it. -/
theorem all_src (c : Dev nD) (Φ : Dev nD → sProp 𝕄) :
    bigSep Finset.univ Φ = iprop(Φ c ∗ bigSep Finset.univ fun i : Fin 7 => Φ (kvSrc i c)) := by
  rw [show (Finset.univ : Finset (Dev nD)) = insert c (Finset.univ.map (srcE c)) by revert c; decide,
    bigSep_insert (by revert c; decide), bigSep_map]; rfl

/-- The gather buffers and the re-laid operands, slot by slot and device by device. -/
theorem kg_slots (c : Dev nD) (f : GBuf F) : (kgL c ↦{fullShare} f : sProp 𝕄) = bigSep Finset.univ fun s => kgL c ↦[gSet s]{fullShare} f := by
  rw [← pointsTo_biUnion (ℓ := kgL c) Finset.univ gSet fun t _ t' _ h => gSet_disj h, gSet_cover]
theorem vg_slots (c : Dev nD) (f : GBuf F) : (vgL c ↦{fullShare} f : sProp 𝕄) = bigSep Finset.univ fun s => vgL c ↦[gSet s]{fullShare} f := by
  rw [← pointsTo_biUnion (ℓ := vgL c) Finset.univ gSet fun t _ t' _ h => gSet_disj h, gSet_cover]
theorem kt_parts (c : Dev nD) (f : HBuf F) : (ktL c ↦{fullShare} f : sProp 𝕄) = bigSep Finset.univ fun s => ktL c ↦[hSet s]{fullShare} f := by
  rw [← pointsTo_biUnion (ℓ := ktL c) Finset.univ hSet fun t _ t' _ h => hSet_disj h, hSet_cover]
theorem vt_parts (c : Dev nD) (f : HBuf F) : (vtL c ↦{fullShare} f : sProp 𝕄) = bigSep Finset.univ fun s => vtL c ↦[hSet s]{fullShare} f := by
  rw [← pointsTo_biUnion (ℓ := vtL c) Finset.univ hSet fun t _ t' _ h => hSet_disj h, hSet_cover]

end Cert.Proof.Att
-- ==== Proof.PhaseB.lean ====
module

public import proofs.«01_k».proof.Proof.Trip
public import proofs.«01_k».proof.Proof.Around

/-! The queries, and the waits for the copies. -/

@[expose] public section
noncomputable section

namespace Cert.Proof.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (Z : Cts F) (K : GSem nD τ sig → ℕ) (c : Dev nD)
local notation "wpc" => wp frame (wpE (defs₀ (F := F)) 𝒱₀ (c : Thread nD τ) none) Set.univ

/-- Head slot `h` of the scratch of queries, replaced. -/
abbrev stq (f : QBuf F) (o : Fin 3 → ℕ) (h : ∀ a, o a + S1x512x64.size a ≤ S16x512x64.size a) (w : Vec F S1x512x64 .bf16) : QBuf F :=
  put (Rect.unit (s := S16x512x64) o S1x512x64.size h) f w

/-- The two halves of the operand, as the queries' product takes them. -/
abbrev x0T (x : XBuf F) : Vec F S1x512x768 .bf16 := sub (Rect.unit (s := S2x512x768) ![0, 0, 0] S1x512x768.size inb_S2x512x768_S1x512x768_0_0_0) x
abbrev x1T (x : XBuf F) : Vec F S1x512x768 .bf16 := sub (Rect.unit (s := S2x512x768) ![1, 0, 0] S1x512x768.size inb_S2x512x768_S1x512x768_1_0_0) x
abbrev wqT (wq : WqBuf F) : Vec F S768x512 .bf16 := sub (Rect.unit (s := S768x512) ![0, 0] S768x512.size inb_S768x512_S768x512_0_0) wq

/-- The scratch of queries after each stretch of its stores. -/
def q25 (x : XBuf F) (wq : WqBuf F) (q : QBuf F) : QBuf F := stq (q) ![0, 0, 0] inb_S16x512x64_S1x512x64_0_0_0 (k0_pay54 (wqT wq) (x0T x))
def q26 (u : FVec F S512x512 .bf16) (v : FVec F S1x512x64 .bf16) (q : QBuf F) : QBuf F :=
  stq (stq (stq (stq (stq (stq (stq (q) ![1, 0, 0] inb_S16x512x64_S1x512x64_1_0_0 (v)) ![2, 0, 0] inb_S16x512x64_S1x512x64_2_0_0 (k0_pay56 u)) ![3, 0, 0] inb_S16x512x64_S1x512x64_3_0_0 (k0_pay57 u)) ![4, 0, 0] inb_S16x512x64_S1x512x64_4_0_0 (k0_pay58 u)) ![5, 0, 0] inb_S16x512x64_S1x512x64_5_0_0 (k0_pay59 u)) ![6, 0, 0] inb_S16x512x64_S1x512x64_6_0_0 (k0_pay60 u)) ![7, 0, 0] inb_S16x512x64_S1x512x64_7_0_0 (k0_pay61 u)
def q27 (u : FVec F S512x512 .bf16) (q : QBuf F) : QBuf F :=
  stq (stq (stq (stq (stq (stq (stq (q) ![8, 0, 0] inb_S16x512x64_S1x512x64_8_0_0 (k0_pay63 u)) ![9, 0, 0] inb_S16x512x64_S1x512x64_9_0_0 (k0_pay64 u)) ![10, 0, 0] inb_S16x512x64_S1x512x64_10_0_0 (k0_pay65 u)) ![11, 0, 0] inb_S16x512x64_S1x512x64_11_0_0 (k0_pay66 u)) ![12, 0, 0] inb_S16x512x64_S1x512x64_12_0_0 (k0_pay67 u)) ![13, 0, 0] inb_S16x512x64_S1x512x64_13_0_0 (k0_pay68 u)) ![14, 0, 0] inb_S16x512x64_S1x512x64_14_0_0 (k0_pay69 u)
def q28 (v : FVec F S512x64 .bf16) (q : QBuf F) : QBuf F := stq (q) ![15, 0, 0] inb_S16x512x64_S1x512x64_15_0_0 (k0_pay71 v)

/-- The copies of the device's own keys and values, and the first head's queries. -/
theorem wp_part25 (w : BitVec 32) (x : XBuf F) (wq : WqBuf F) (q : QBuf F) (Q : _ → sProp 𝕄) :
    env Z K ⊢ iprop(ktP Z c c -∗ kgA (F := F) c c -∗ fresh (F := F) (LC 0) c -∗ vtP Z c c -∗ vgA (F := F) c c -∗ fresh (F := F) (LC 1) c
      -∗ (xL c ↦{fullShare} x) -∗ (wqL c ↦{fullShare} wq) -∗ (qL c ↦{fullShare} q)
      -∗ (arm (F := F) (LC 0) c -∗ arm (F := F) (LC 1) c -∗ (xL c ↦{fullShare} x) -∗ (wqL c ↦{fullShare} wq) -∗ (qL c ↦{fullShare} q25 x wq q)
        -∗ Q ⟨k0_pay52 (wqT wq), k0_pay53 (wqT wq) (x0T x), k0_pay55 (wqT wq) (x0T x)⟩)
      -∗ wpc (ap (k0_part25 (F := F)) c w) Q) := by
  iintro #He K1 K2 K3 V1 V2 V3 Hx Hw Hq Hk
  simp only [ap, k0_part25_eq_skeleton, k0_part25_skel, Prog.bind_lift]
  iapply (op_ownK Z K c rfl) $$ He K1 K2 K3
  iintro A0
  iapply (op_ownV Z K c rfl) $$ He V1 V2 V3
  iintro A1
  iapply (ld_wq c wq) $$ Hw; iintro Hw
  iapply (ld_x c x) $$ Hx; iintro Hx
  iapply (ld_q c q) $$ Hq; iintro Hq
  iapply (st_q c q) $$ Hq; iintro Hq
  iapply (ld_q c _) $$ Hq; iintro Hq
  simp only [wp_pure]
  imodintro
  iapply Hk $$ A0 A1 Hx Hw [Hq]
  iexact Hq

/-- The queries of heads 1 to 7 of the first half. -/
theorem wp_part26 (u₀ : FVec F S768x512 .bf16) (u : FVec F S512x512 .bf16) (v : FVec F S1x512x64 .bf16) (x : XBuf F) (q : QBuf F) (Q : _ → sProp 𝕄) :
    ⊢ iprop((xL c ↦{fullShare} x) -∗ (qL c ↦{fullShare} q)
      -∗ ((xL c ↦{fullShare} x) -∗ (qL c ↦{fullShare} q26 u v q) -∗ Q (k0_pay62 u₀ (x1T x)))
      -∗ wpc (ap (k0_part26 (F := F)) u₀ u v) Q) := by
  iintro Hx Hq Hk
  simp only [ap, k0_part26_eq_skeleton, k0_part26_skel, Prog.bind_lift]
  iapply (st_q c q) $$ Hq; iintro Hq
  iterate 6
    (iapply (ld_q c _) $$ Hq; iintro Hq
     iapply (st_q c _) $$ Hq; iintro Hq)
  iapply (ld_x c x) $$ Hx; iintro Hx
  simp only [wp_pure]
  imodintro
  iapply Hk $$ Hx [Hq]
  iexact Hq

/-- The queries of heads 0 to 6 of the second half. -/
theorem wp_part27 (u : FVec F S512x512 .bf16) (q : QBuf F) (Q : _ → sProp 𝕄) :
    ⊢ iprop((qL c ↦{fullShare} q) -∗ ((qL c ↦{fullShare} q27 u q) -∗ Q (k0_pay70 u)) -∗ wpc (ap (k0_part27 (F := F)) u) Q) := by
  iintro Hq Hk
  simp only [ap, k0_part27_eq_skeleton, k0_part27_skel, Prog.bind_lift]
  iterate 7
    (iapply (ld_q c _) $$ Hq; iintro Hq
     iapply (st_q c _) $$ Hq; iintro Hq)
  simp only [wp_pure]
  imodintro
  iapply Hk $$ [Hq]
  iexact Hq

/-- What a wait leaves: the semaphore spent, and what the landing handed over. -/
def got (n : Cl) (c : Dev nD) : sProp 𝕄 := iprop(semVal (cell n c) 0 ∗ pay Z n c)

section
variable {α : Type} {Q : α → sProp (MT nD τ sig Unit (Elt F) ℕ UU ℕ)} {k : PUnit → Prog (TpuEff nD τ sig (Elt F) Λ₀ .tc) α}
/-- A wait, at a place of the program past every step the waiting device owes at the cell's rank. -/
theorem op_get (n : Cl) (l : ℕ) (hl : ∀ s ∈ steps.drop l, stRank (.inr n) < stRank s) {sem : DmaSem sig} (hs : sem = dsem n)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = amt n) :
    env Z K ⊢ iprop(ow l c -∗ arm (F := F) n c -∗ (ow l c -∗ got Z n c -∗ wpc (k ⟨⟩) Q)
        -∗ wpc (.op (.waitDma2 sem src dst hsrc hdst) k) Q) := by
  unfold got
  iintro #He HO HA Hk
  iapply (op_wait' Z K c n l hl hs hN) $$ He HO HA
  iintro HO Hv Hp
  iapply Hk $$ HO [Hv Hp]
  isplitl [Hv] <;> iassumption
end

/-- The four waits of step `i`: for the copies of the keys and the values, sent and received. -/
abbrev arm4 (i : Fin 7) (c : Dev nD) : sProp 𝕄 := iprop(arm (F := F) (KS i) c ∗ arm (F := F) (KR i) c ∗ arm (F := F) (VS i) c ∗ arm (F := F) (VR i) c)
abbrev got4 (i : Fin 7) (c : Dev nD) : sProp 𝕄 := iprop(got Z (KS i) c ∗ got Z (KR i) c ∗ got Z (VS i) c ∗ got Z (VR i) c)

/-- The result set to zero. -/
abbrev o0 (o : OBuf F) : OBuf F := put (Rect.unit (s := S2x512x768) ![0, 0, 0] S2x512x768.size inb_S2x512x768_S2x512x768_0_0_0) o (k0_pay72 (F := F))

/-- The last head's queries, the result set to zero, and the waits for the device's own copies. -/
theorem wp_part28 (v : FVec F S512x64 .bf16) (q : QBuf F) (o : OBuf F) (Q : _ → sProp 𝕄) :
    env Z K ⊢ iprop((qL c ↦{fullShare} q) -∗ (oL c ↦{fullShare} o) -∗ ow 21 c -∗ arm (F := F) (LC 0) c -∗ arm (F := F) (LC 1) c
      -∗ ((qL c ↦{fullShare} q28 v q) -∗ (oL c ↦{fullShare} o0 o) -∗ ow 21 c -∗ got Z (LC 0) c -∗ got Z (LC 1) c -∗ Q ⟨⟩)
      -∗ wpc (ap (k0_part28 (F := F)) c v) Q) := by
  iintro #He Hq Ho HO A0 A1 Hk
  simp only [ap, k0_part28_eq_skeleton, k0_part28_skel, Prog.bind_lift]
  iapply (ld_q c q) $$ Hq; iintro Hq
  iapply (st_q c q) $$ Hq; iintro Hq
  iapply (ld_o c o) $$ Ho; iintro Ho
  iapply (st_o c o) $$ Ho; iintro Ho
  iapply (op_get Z K c (LC 0) 21 (by intro s hs; fin_cases hs <;> decide) ?_ ?_) $$ He HO A0
  · rfl
  · rfl
  iintro HO G0
  iapply (op_get Z K c (LC 1) 21 (by intro s hs; fin_cases hs <;> decide) ?_ ?_) $$ He HO A1
  · rfl
  · rfl
  iintro HO G1
  simp only [wp_pure]
  imodintro
  iapply Hk $$ [Hq] [Ho] HO G0 G1
  · iexact Hq
  · iexact Ho

end Cert.Proof.Att
-- ==== Proof.Gather.lean ====
module

public import proofs.«01_k».proof.Proof.PhaseB

/-! The waits for the copies, and the loop. -/

@[expose] public section
noncomputable section

namespace Cert.Proof.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (Z : Cts F) (K : GSem nD τ sig → ℕ) (c : Dev nD)
local notation "wpc" => wp frame (wpE (defs₀ (F := F)) 𝒱₀ (c : Thread nD τ) none) Set.univ

/-- The semaphores of the copies of keys and values, spent. -/
def kvSems (c : Dev nD) : sProp 𝕄 :=
  iprop((bigSep Finset.univ fun i : Fin 7 => iprop(semVal (cell (KS i) c) 0 ∗ semVal (cell (KR i) c) 0 ∗ semVal (cell (VS i) c) 0 ∗ semVal (cell (VR i) c) 0))
    ∗ semVal (cell (LC 0) c) 0 ∗ semVal (cell (LC 1) c) 0)

/-- The landings put together: both gather buffers filled, both re-laid operands whole again. -/
theorem gathered :
    iprop((bigSep Finset.univ fun i : Fin 7 => got4 Z i c) ∗ got Z (LC 0) c ∗ got Z (LC 1) c)
      ⊢ iprop(kvSems (F := F) c ∗ (kgL c ↦{fullShare} gath Z.kt c) ∗ (vgL c ↦{fullShare} gath Z.vt c) ∗ (ktL c ↦{fullShare} Z.kt c) ∗ (vtL c ↦{fullShare} Z.vt c)) := by
  rw [kg_slots, vg_slots, kt_parts, vt_parts, all_src c (fun s => kgL c ↦[gSet s]{fullShare} gath Z.kt c), all_src c (fun s => vgL c ↦[gSet s]{fullShare} gath Z.vt c),
    all_tgt c (fun s => ktL c ↦[hSet s]{fullShare} Z.kt c), all_tgt c (fun s => vtL c ↦[hSet s]{fullShare} Z.vt c)]
  unfold kvSems got4 got
  simp only [bsep]
  rw [show pay Z (LC 0) c = iprop(kgP Z c c ∗ ktP Z c c) from rfl, show pay Z (LC 1) c = iprop(vgP Z c c ∗ vtP Z c c) from rfl]
  iintro ⟨⟨⟨S1, P1⟩, ⟨S2, P2⟩, ⟨S3, P3⟩, S4, P4⟩, ⟨S5, P5, P6⟩, S6, P7, P8⟩
  isplitl [S1 S2 S3 S4 S5 S6]
  · isplitl [S1 S2 S3 S4]
    · isplitl [S1]; · iexact S1
      isplitl [S2]; · iexact S2
      isplitl [S3] <;> iassumption
    · isplitl [S5] <;> iassumption
  isplitl [P5 P2]; · isplitl [P5]; · iexact P5
                     iexact P2
  isplitl [P7 P4]; · isplitl [P7]; · iexact P7
                     iexact P4
  isplitl [P6 P1]; · isplitl [P6]; · iexact P6
                     iexact P1
  isplitl [P8]; · iexact P8
  iexact P3

section
variable {α : Type} {Q : α → sProp (MT nD τ sig Unit (Elt F) ℕ UU ℕ)} {k : PUnit → Prog (TpuEff nD τ sig (Elt F) Λ₀ .tc) α}
/-- The four waits of a step, in the program's order. -/
theorem op_get4 (i : Fin 7) {s₁ s₂ s₃ s₄ : DmaSem sig} (h₁ : s₁ = dsem (KS i)) (h₂ : s₂ = dsem (KR i)) (h₃ : s₃ = dsem (VS i)) (h₄ : s₄ = dsem (VR i))
    {d₁ : Memref sig .tc .vmem S2x8x4x128x64 .bf16} {d₂ : Memref sig .tc .vmem S2x8x4x128x64 .bf16}
    {e₁ e₂ e₃ e₄ : Memref sig .tc .hbm S2x8x4x128x64 .bf16} {d₃ d₄ : Memref sig .tc .vmem S2x8x4x128x64 .bf16}
    {a₁ : d₁.view.WordExact} {b₁ : e₁.view.WordExact} {a₂ : e₂.view.WordExact} {b₂ : d₂.view.WordExact}
    {a₃ : d₃.view.WordExact} {b₃ : e₃.view.WordExact} {a₄ : e₄.view.WordExact} {b₄ : d₄.view.WordExact}
    (n₁ : e₁.view.dmaCredit = NG) (n₂ : d₂.view.dmaCredit = NG) (n₃ : e₃.view.dmaCredit = NG) (n₄ : d₄.view.dmaCredit = NG) :
    env Z K ⊢ iprop(ow 21 c -∗ arm4 (F := F) i c -∗ (ow 21 c -∗ got4 Z i c -∗ wpc (k ⟨⟩) Q)
        -∗ wpc (.op (.waitDma2 s₁ d₁ e₁ a₁ b₁) fun _ => .op (.waitDma2 s₂ e₂ d₂ a₂ b₂) fun _ => .op (.waitDma2 s₃ d₃ e₃ a₃ b₃) fun _ => .op (.waitDma2 s₄ e₄ d₄ a₄ b₄) k) Q) := by
  have hl : ∀ (j : Fin 4), ∀ s ∈ steps.drop 21, stRank (.inr (.inl (j, i))) < stRank s := by
    intro j s hs
    have : ∀ j : Fin 4, stRank (.inr (.inl (j, i))) < 3 := by clear h₁ h₂ h₃ h₄; clear hs s j; revert i; decide
    refine (this j).trans_le ?_
    fin_cases hs <;> decide
  iintro #He HO ⟨A1, A2, A3, A4⟩ Hk
  iapply (op_get Z K c (KS i) 21 (hl 0) h₁ n₁) $$ He HO A1
  iintro HO G1
  iapply (op_get Z K c (KR i) 21 (hl 1) h₂ n₂) $$ He HO A2
  iintro HO G2
  iapply (op_get Z K c (VS i) 21 (hl 2) h₃ n₃) $$ He HO A3
  iintro HO G3
  iapply (op_get Z K c (VR i) 21 (hl 3) h₄ n₄) $$ He HO A4
  iintro HO G4
  iapply Hk $$ HO [G1 G2 G3 G4]
  isplitl [G1]; · iexact G1
  isplitl [G2]; · iexact G2
  isplitl [G3] <;> iassumption
end

/-- The result after `n` trips. -/
def oLoop (q : QBuf F) (wo : WoBuf F) (kg vg : GBuf F) (f : OBuf F) : ℕ → OBuf F
  | 0 => f
  | n + 1 => if h : n < k0_t1_loop.trips then oTrip q wo kg vg ⟨n, h⟩ (oLoop q wo kg vg f n) else oLoop q wo kg vg f n

/-- The waits for the seven steps' copies, and the loop over the filled gather buffers. -/
theorem wp_gather (v2 v105 v136 v167 v198 v229 v260 v291 : BitVec 32) (q : QBuf F) (wo : WoBuf F) (f : OBuf F)
    (Q : _ → sProp 𝕄) :
    env Z K ⊢ iprop(ow 21 c -∗ (bigSep Finset.univ fun i : Fin 7 => arm4 (F := F) i c) -∗ got Z (LC 0) c -∗ got Z (LC 1) c
        -∗ (qL c ↦{fullShare} q) -∗ (woL c ↦{fullShare} wo) -∗ (oL c ↦{fullShare} f)
        -∗ (∀ r, ow 21 c -∗ kvSems (F := F) c -∗ tripR c q wo (gath Z.kt c) (gath Z.vt c) -∗ (oL c ↦{fullShare} oLoop q wo (gath Z.kt c) (gath Z.vt c) f k0_t1_loop.trips)
            -∗ (ktL c ↦{fullShare} Z.kt c) -∗ (vtL c ↦{fullShare} Z.vt c) -∗ Q r)
        -∗ wpc (ap (k0_part29 (F := F)) c v105) fun _ => wpc (ap (k0_part30 (F := F)) c v136) fun _ => wpc (ap (k0_part31 (F := F)) c v136 v167) fun _ =>
            wpc (ap (k0_part32 (F := F)) c v167 v198) fun r => wpc (ap (k0_part33 (F := F)) c v198 r.1 r.2) fun _ => wpc (ap (k0_part34 (F := F)) c v229) fun _ =>
            wpc (ap (k0_part35 (F := F)) c v260) fun _ => wpc (ap (k0_part36 (F := F)) c v260 v291) fun _ => wpc (ap (k0_part37 (F := F)) c v2 v291) Q) := by
  rw [fin7]
  iintro #He HO ⟨A0, A1, A2, A3, A4, A5, A6⟩ L0 L1 Hq Hw Ho Hk
  simp only [← wp_bind]
  simp only [ap, k0_part29_eq_skeleton, k0_part29_skel, k0_part30_eq_skeleton, k0_part30_skel, k0_part31_eq_skeleton, k0_part31_skel, k0_part32_eq_skeleton, k0_part32_skel,
    k0_part33_eq_skeleton, k0_part33_skel, k0_part34_eq_skeleton, k0_part34_skel, k0_part35_eq_skeleton, k0_part35_skel, k0_part36_eq_skeleton, k0_part36_skel,
    k0_part37_eq_skeleton, k0_part37_skel, Prog.bind_lift, Prog.bind_op, Prog.bind_ret, Prog.pure_eq_ret]
  iapply (op_get4 Z K c 0 ?_ ?_ ?_ ?_ ?_ ?_ ?_ ?_) $$ He HO A0
  iterate 8 rfl
  iintro HO G0
  iapply (op_get4 Z K c 1 ?_ ?_ ?_ ?_ ?_ ?_ ?_ ?_) $$ He HO A1
  iterate 8 rfl
  iintro HO G1
  iapply (op_get4 Z K c 2 ?_ ?_ ?_ ?_ ?_ ?_ ?_ ?_) $$ He HO A2
  iterate 8 rfl
  iintro HO G2
  iapply (op_get4 Z K c 3 ?_ ?_ ?_ ?_ ?_ ?_ ?_ ?_) $$ He HO A3
  iterate 8 rfl
  iintro HO G3
  iapply (op_get4 Z K c 4 ?_ ?_ ?_ ?_ ?_ ?_ ?_ ?_) $$ He HO A4
  iterate 8 rfl
  iintro HO G4
  iapply (op_get4 Z K c 5 ?_ ?_ ?_ ?_ ?_ ?_ ?_ ?_) $$ He HO A5
  iterate 8 rfl
  iintro HO G5
  iapply (op_get4 Z K c 6 ?_ ?_ ?_ ?_ ?_ ?_ ?_ ?_) $$ He HO A6
  iterate 8 rfl
  iintro HO G6
  ihave HG := (gathered Z c) $$ [G0 G1 G2 G3 G4 G5 G6 L0 L1]
  · rw [fin7]
    isplitr [L0 L1]
    · isplitl [G0]; · iexact G0
      isplitl [G1]; · iexact G1
      isplitl [G2]; · iexact G2
      isplitl [G3]; · iexact G3
      isplitl [G4]; · iexact G4
      isplitl [G5] <;> iassumption
    · isplitl [L0] <;> iassumption
  icases HG with ⟨HS, HK, HV, Hkt, Hvt⟩
  rw [wp_bind]
  iapply (Scf.wp_for frame (wpE (defs₀ (F := F)) 𝒱₀ (c : Thread nD τ) none) Set.univ _ _ _ k0_t1_ok () _
    (fun n _ => iprop(tripR c q wo (gath Z.kt c) (gath Z.vt c) ∗ (oL c ↦{fullShare} oLoop q wo (gath Z.kt c) (gath Z.vt c) f n))) ?_)
  · rintro t ⟨⟩
    iintro ⟨HR, Ho⟩
    iapply (wp_trip c v2 v291 t () q wo (gath Z.kt c) (gath Z.vt c))
    isplitl [HR]; · iexact HR
    isplitl [Ho]; · iexact Ho
    iintro HR Ho
    isplitl [HR]; · iexact HR
    rw [oLoop, dif_pos t.isLt]
    iexact Ho
  isplitl [Hq Hw HK HV Ho]
  · unfold tripR
    isplitr [Ho]
    · isplitl [Hq]; · iexact Hq
      isplitl [Hw]; · iexact Hw
      isplitl [HK] <;> iassumption
    · iexact Ho
  iintro %u ⟨HR, Ho⟩
  simp only [wp_ret]
  imodintro
  iapply Hk $$ HO HS HR Ho Hkt Hvt

end Cert.Proof.Att
-- ==== Proof.Blocks.lean ====
module

public import proofs.«01_k».proof.Proof.Gather

/-! The halving and the doubling. -/

@[expose] public section
noncomputable section

namespace Cert.Proof.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- What a device sends in each step, read off its result; and the result with what it received. -/
def sR0 (o : OBuf F) (c : Dev nD) : Vec F S1x2x256x768 .bf16 := k0_pay74 (sub (Rect.unit (s := S2x512x768) (k0_off46 c) S2x256x768.size (k0_off46_inb c)) o)
def sR1 (o : OBuf F) (c : Dev nD) : Vec F S1x2x128x768 .bf16 := k0_pay76 (sub (Rect.unit (s := S2x512x768) (k0_off48 c) S2x128x768.size (k0_off48_inb c)) o)
def sR2 (o : OBuf F) (c : Dev nD) : Vec F S1x2x64x768 .bf16 := k0_pay78 (sub (Rect.unit (s := S2x512x768) (k0_off50 c) S2x64x768.size (k0_off50_inb c)) o)
abbrev tR0 (o : OBuf F) (v : Vec F S1x2x256x768 .bf16) (c : Dev nD) : OBuf F := put (Rect.unit (s := S2x512x768) (k0_off47 c) S2x256x768.size (k0_off47_inb c)) o (k0_pay75 (sub (Rect.unit (s := S2x512x768) (k0_off47 c) S2x256x768.size (k0_off47_inb c)) o) v)
abbrev tR1 (o : OBuf F) (v : Vec F S1x2x128x768 .bf16) (c : Dev nD) : OBuf F := put (Rect.unit (s := S2x512x768) (k0_off49 c) S2x128x768.size (k0_off49_inb c)) o (k0_pay77 (sub (Rect.unit (s := S2x512x768) (k0_off49 c) S2x128x768.size (k0_off49_inb c)) o) v)
abbrev tR2 (o : OBuf F) (v : Vec F S1x2x64x768 .bf16) (c : Dev nD) : OBuf F := put (Rect.unit (s := S2x512x768) (k0_off51 c) S2x64x768.size (k0_off51_inb c)) o (k0_pay79 (sub (Rect.unit (s := S2x512x768) (k0_off51 c) S2x64x768.size (k0_off51_inb c)) o) v)
def sA2 (o : OBuf F) (c : Dev nD) : Vec F S1x2x64x768 .bf16 := k0_pay80 (sub (Rect.unit (s := S2x512x768) (k0_off51 c) S2x64x768.size (k0_off51_inb c)) o)
def sA1 (o : OBuf F) (c : Dev nD) : Vec F S1x2x128x768 .bf16 := k0_pay82 (sub (Rect.unit (s := S2x512x768) (k0_off53 c) S2x128x768.size (k0_off53_inb c)) o)
def sA0 (o : OBuf F) (c : Dev nD) : Vec F S1x2x256x768 .bf16 := k0_pay84 (sub (Rect.unit (s := S2x512x768) (k0_off55 c) S2x256x768.size (k0_off55_inb c)) o)
abbrev tA2 (o : OBuf F) (v : Vec F S1x2x64x768 .bf16) (c : Dev nD) : OBuf F := put (Rect.unit (s := S2x512x768) (k0_off52 c) S2x64x768.size (k0_off52_inb c)) o (k0_pay81 v)
abbrev tA1 (o : OBuf F) (v : Vec F S1x2x128x768 .bf16) (c : Dev nD) : OBuf F := put (Rect.unit (s := S2x512x768) (k0_off54 c) S2x128x768.size (k0_off54_inb c)) o (k0_pay83 v)
abbrev tA0 (o : OBuf F) (v : Vec F S1x2x256x768 .bf16) (c : Dev nD) : OBuf F := put (Rect.unit (s := S2x512x768) (k0_off56 c) S2x256x768.size (k0_off56_inb c)) o (k0_pay1 v)

/-- The results of all devices after each step, from those after the loop. -/
def stR0 (O : Dev nD → OBuf F) (c : Dev nD) : OBuf F := tR0 (O c) (sR0 (O (xr 0 c)) (xr 0 c)) c
def stR1 (O : Dev nD → OBuf F) (c : Dev nD) : OBuf F := tR1 (O c) (sR1 (O (xr 1 c)) (xr 1 c)) c
def stR2 (O : Dev nD → OBuf F) (c : Dev nD) : OBuf F := tR2 (O c) (sR2 (O (xr 2 c)) (xr 2 c)) c
def stA2 (O : Dev nD → OBuf F) (c : Dev nD) : OBuf F := tA2 (O c) (sA2 (O (xr 2 c)) (xr 2 c)) c
def stA1 (O : Dev nD → OBuf F) (c : Dev nD) : OBuf F := tA1 (O c) (sA1 (O (xr 1 c)) (xr 1 c)) c
def stA0 (O : Dev nD → OBuf F) (c : Dev nD) : OBuf F := tA0 (O c) (sA0 (O (xr 0 c)) (xr 0 c)) c
abbrev oR1 (O : Dev nD → OBuf F) := stR0 O
abbrev oR2 (O : Dev nD → OBuf F) := stR1 (oR1 O)
abbrev oR3 (O : Dev nD → OBuf F) := stR2 (oR2 O)
abbrev oA2 (O : Dev nD → OBuf F) := stA2 (oR3 O)
abbrev oA1 (O : Dev nD → OBuf F) := stA1 (oA2 O)
abbrev oA0 (O : Dev nD → OBuf F) := stA0 (oA1 O)
/-- What arrives in each step. -/
def rbOf (O : Dev nD → OBuf F) (k : Fin 3) (c : Dev nD) : (rR k).shape.Idx → Elt F .bf16 :=
  match k with
  | 0 => sR0 (O (xr 0 c)) (xr 0 c)
  | 1 => sR1 (oR1 O (xr 1 c)) (xr 1 c)
  | 2 => sR2 (oR2 O (xr 2 c)) (xr 2 c)
def raOf (O : Dev nD → OBuf F) (k : Fin 3) (c : Dev nD) : (rR k).shape.Idx → Elt F .bf16 :=
  match k with
  | 0 => sA0 (oA1 O (xr 0 c)) (xr 0 c)
  | 1 => sA1 (oA2 O (xr 1 c)) (xr 1 c)
  | 2 => sA2 (oR3 O (xr 2 c)) (xr 2 c)

variable (c : Dev nD)
local notation "wpc" => wp frame (wpE (defs₀ (F := F)) 𝒱₀ (c : Thread nD τ) none) Set.univ

section
variable {α : Type} {Q : α → sProp (MT nD τ sig Unit (Elt F) ℕ UU ℕ)}
/-- A load of elements held. -/
theorem op_ldS {cs : CoreSpace} {s : Shape} {e : EltTy} (m : Memref sig .tc cs s e) {r : Rect s} {hl : m.view.LoadsAt r}
    {k : (r.shape.Idx → Elt F e) → Prog (TpuEff nD τ sig (Elt F) Λ₀ .tc) α} (S : Finset (Idx ((m.access r).loc (c : Thread nD τ)))) (f : Buf (Elt F) ((m.access r).loc (c : Thread nD τ)))
    (hS : (m.access r).set ⊆ S) :
    ((m.access r).loc (c : Thread nD τ) ↦[S]{fullShare} f)
      ⊢ iprop((((m.access r).loc (c : Thread nD τ) ↦[S]{fullShare} f) -∗ wpc (k ((m.access r).read (Elt F) f)) Q) -∗ wpc (.op (.load m r hl) k) Q) :=
  wp_load_rect 𝒱₀ (c : Thread nD τ) none Set.univ hS
/-- A store of elements held writes the box. -/
theorem op_stS {cs : CoreSpace} {s : Shape} {e : EltTy} (m : Memref sig .tc cs s e) {r : Rect s} {w : r.shape.Idx → Elt F e}
    {hx : (m.access r).Stores Finset.univ} {hm : Finset.univ = Finset.univ ∨ ∀ a, r.stride a = 1}
    {k : PUnit → Prog (TpuEff nD τ sig (Elt F) Λ₀ .tc) α} (S : Finset (Idx ((m.access r).loc (c : Thread nD τ)))) (f : Buf (Elt F) ((m.access r).loc (c : Thread nD τ)))
    (hS : (m.access r).setOn Finset.univ ⊆ S) :
    ((m.access r).loc (c : Thread nD τ) ↦[S]{fullShare} f)
      ⊢ iprop((((m.access r).loc (c : Thread nD τ) ↦[S]{fullShare} ((m.access r).write (Elt F) f w Finset.univ)) -∗ wpc (k ⟨⟩) Q)
        -∗ wpc (.op (.store m r w Finset.univ hx hm) k) Q) :=
  wp_store 𝒱₀ (c : Thread nD τ) none Set.univ hS

variable {S : Finset S3x2x256x768.Idx}
/-- A load of a block held. -/
theorem ld_bs {r : Rect S3x2x256x768} (hS : r.set = S) {hl : bsM.view.LoadsAt r} {k : (r.shape.Idx → Elt F .bf16) → Prog (TpuEff nD τ sig (Elt F) Λ₀ .tc) α} (f : BBuf F) :
    (bsL c ↦[S]{fullShare} f) ⊢ iprop(((bsL c ↦[S]{fullShare} f) -∗ wpc (k (sub r f)) Q) -∗ wpc (.op (.load bsM r hl) k) Q) := by
  have h : (bsM.access r).set ⊆ S := by rw [← hS, ← View.set_slice_whole cc0_scratch3 r]
  exact op_ldS (Q := Q) c (r := r) (hl := hl) (k := k) bsM S f h
/-- A load of a block held. -/
theorem ld_br {r : Rect S3x2x256x768} (hS : r.set = S) {hl : brM.view.LoadsAt r} {k : (r.shape.Idx → Elt F .bf16) → Prog (TpuEff nD τ sig (Elt F) Λ₀ .tc) α} (f : BBuf F) :
    (brL c ↦[S]{fullShare} f) ⊢ iprop(((brL c ↦[S]{fullShare} f) -∗ wpc (k (sub r f)) Q) -∗ wpc (.op (.load brM r hl) k) Q) := by
  have h : (brM.access r).set ⊆ S := by rw [← hS, ← View.set_slice_whole cc0_scratch4 r]
  exact op_ldS (Q := Q) c (r := r) (hl := hl) (k := k) brM S f h
/-- A load of a block held. -/
theorem ld_as {r : Rect S3x2x256x768} (hS : r.set = S) {hl : asM.view.LoadsAt r} {k : (r.shape.Idx → Elt F .bf16) → Prog (TpuEff nD τ sig (Elt F) Λ₀ .tc) α} (f : BBuf F) :
    (asL c ↦[S]{fullShare} f) ⊢ iprop(((asL c ↦[S]{fullShare} f) -∗ wpc (k (sub r f)) Q) -∗ wpc (.op (.load asM r hl) k) Q) := by
  have h : (asM.access r).set ⊆ S := by rw [← hS, ← View.set_slice_whole cc0_scratch5 r]
  exact op_ldS (Q := Q) c (r := r) (hl := hl) (k := k) asM S f h
/-- A load of a block held. -/
theorem ld_ar {r : Rect S3x2x256x768} (hS : r.set = S) {hl : arM.view.LoadsAt r} {k : (r.shape.Idx → Elt F .bf16) → Prog (TpuEff nD τ sig (Elt F) Λ₀ .tc) α} (f : BBuf F) :
    (arL c ↦[S]{fullShare} f) ⊢ iprop(((arL c ↦[S]{fullShare} f) -∗ wpc (k (sub r f)) Q) -∗ wpc (.op (.load arM r hl) k) Q) := by
  have h : (arM.access r).set ⊆ S := by rw [← hS, ← View.set_slice_whole cc0_scratch6 r]
  exact op_ldS (Q := Q) c (r := r) (hl := hl) (k := k) arM S f h
/-- A store of a block held. -/
theorem st_bs {r : Rect S3x2x256x768} (hS : r.set = S) {w : r.shape.Idx → Elt F .bf16} {hx : (bsM.access r).Stores Finset.univ} {hm : Finset.univ = Finset.univ ∨ ∀ a, r.stride a = 1}
    {k : PUnit → Prog (TpuEff nD τ sig (Elt F) Λ₀ .tc) α} (f : BBuf F) :
    (bsL c ↦[S]{fullShare} f) ⊢ iprop(((bsL c ↦[S]{fullShare} put r f w) -∗ wpc (k ⟨⟩) Q) -∗ wpc (.op (.store bsM r w Finset.univ hx hm) k) Q) := by
  have h : (bsM.access r).setOn Finset.univ ⊆ S := by rw [← hS, ← View.set_slice_whole cc0_scratch3 r]; exact Finset.Subset.refl _
  rw [← show (bsM.access r).write (Elt F) f w Finset.univ = put r f w from write_put cc0_scratch3 r f w]
  exact op_stS (Q := Q) c (r := r) (w := w) (hx := hx) (hm := hm) (k := k) bsM S f h
/-- A store of a block held. -/
theorem st_as {r : Rect S3x2x256x768} (hS : r.set = S) {w : r.shape.Idx → Elt F .bf16} {hx : (asM.access r).Stores Finset.univ} {hm : Finset.univ = Finset.univ ∨ ∀ a, r.stride a = 1}
    {k : PUnit → Prog (TpuEff nD τ sig (Elt F) Λ₀ .tc) α} (f : BBuf F) :
    (asL c ↦[S]{fullShare} f) ⊢ iprop(((asL c ↦[S]{fullShare} put r f w) -∗ wpc (k ⟨⟩) Q) -∗ wpc (.op (.store asM r w Finset.univ hx hm) k) Q) := by
  have h : (asM.access r).setOn Finset.univ ⊆ S := by rw [← hS, ← View.set_slice_whole cc0_scratch5 r]; exact Finset.Subset.refl _
  rw [← show (asM.access r).write (Elt F) f w Finset.univ = put r f w from write_put cc0_scratch5 r f w]
  exact op_stS (Q := Q) c (r := r) (w := w) (hx := hx) (hm := hm) (k := k) asM S f h
end

end Cert.Proof.Att
-- ==== Proof.Tail.lean ====
module

public import proofs.«01_k».proof.Proof.Blocks

/-! The halving and the doubling, run. -/

@[expose] public section
noncomputable section

namespace Cert.Proof.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (Z : Cts F) (K : GSem nD τ sig → ℕ) (c : Dev nD)
local notation "wpc" => wp frame (wpE (defs₀ (F := F)) 𝒱₀ (c : Thread nD τ) none) Set.univ

theorem sub_put {s : Shape} {e : EltTy} (r : Rect s) (f : s.Idx → Elt F e) (w : r.shape.Idx → Elt F e) : sub r (put r f w) = w :=
  funext fun i => put_emb r f w i

/-- The blocks a device sends and receives through, and what it takes to send. -/
def rsIn (c : Dev nD) (k : Fin 3) : sProp 𝕄 := iprop(bsA (F := F) c k ∗ sR (F := F) c k ∗ arm (F := F) (RR k) c)
def agIn (c : Dev nD) (k : Fin 3) : sProp 𝕄 := iprop(asA (F := F) c k ∗ sA (F := F) c k ∗ arm (F := F) (AR k) c)
/-- What is left of a step: the semaphores spent, the two blocks. -/
def rsOut (c : Dev nD) (k : Fin 3) : sProp 𝕄 := iprop(bsA (F := F) c k ∗ brA (F := F) c k ∗ semVal (cell (RS k) c) 0 ∗ semVal (cell (RR k) c) 0)
def agOut (c : Dev nD) (k : Fin 3) : sProp 𝕄 := iprop(asA (F := F) c k ∗ arA (F := F) c k ∗ semVal (cell (AS k) c) 0 ∗ semVal (cell (AR k) c) 0)

theorem got_RR (k : Fin 3) : got Z (RR k) c ⊢ iprop(semVal (cell (RR k) c) 0 ∗ ∃ h : BBuf F, ⌜rd k h = Z.rb k c⌝ ∗ brL c ↦[bSet k]{fullShare} h) := BIBase.Entails.refl
theorem got_RS (k : Fin 3) : got Z (RS k) c ⊢ iprop(semVal (cell (RS k) c) 0 ∗ bsA c k) := BIBase.Entails.refl
theorem got_AS (k : Fin 3) : got Z (AS k) c ⊢ iprop(semVal (cell (AS k) c) 0 ∗ asA c k) := BIBase.Entails.refl
theorem got_AR (k : Fin 3) : got Z (AR k) c ⊢ iprop(semVal (cell (AR k) c) 0 ∗ ∃ h : BBuf F, ⌜rd k h = Z.ra k c⌝ ∗ arL c ↦[bSet k]{fullShare} h) := BIBase.Entails.refl
theorem foldR0 (O : Dev nD → OBuf F) (hrb : Z.rb = rbOf O) (h : BBuf F) (e : rd 0 h = Z.rb 0 c) :
    (oL c ↦{fullShare} tR0 (O c) (sub (Rect.unit (s := S3x2x256x768) ![0, 0, 0, 0] S1x2x256x768.size inb_S3x2x256x768_S1x2x256x768_0_0_0_0) h) c : sProp 𝕄) ⊢ (oL c ↦{fullShare} oR1 O c) := by
  rw [hrb] at e
  rw [show sub (Rect.unit (s := S3x2x256x768) ![0, 0, 0, 0] S1x2x256x768.size inb_S3x2x256x768_S1x2x256x768_0_0_0_0) h = sR0 (O (xr 0 c)) (xr 0 c) from e]; exact BIBase.Entails.refl
theorem foldR1 (O : Dev nD → OBuf F) (hrb : Z.rb = rbOf O) (h : BBuf F) (e : rd 1 h = Z.rb 1 c) :
    (oL c ↦{fullShare} tR1 (oR1 O c) (sub (Rect.unit (s := S3x2x256x768) ![1, 0, 0, 0] S1x2x128x768.size inb_S3x2x256x768_S1x2x128x768_1_0_0_0) h) c : sProp 𝕄) ⊢ (oL c ↦{fullShare} oR2 O c) := by
  rw [hrb] at e
  rw [show sub (Rect.unit (s := S3x2x256x768) ![1, 0, 0, 0] S1x2x128x768.size inb_S3x2x256x768_S1x2x128x768_1_0_0_0) h = sR1 (oR1 O (xr 1 c)) (xr 1 c) from e]; exact BIBase.Entails.refl
theorem foldR2 (O : Dev nD → OBuf F) (hrb : Z.rb = rbOf O) (h : BBuf F) (e : rd 2 h = Z.rb 2 c) :
    (oL c ↦{fullShare} tR2 (oR2 O c) (sub (Rect.unit (s := S3x2x256x768) ![2, 0, 0, 0] S1x2x64x768.size inb_S3x2x256x768_S1x2x64x768_2_0_0_0) h) c : sProp 𝕄) ⊢ (oL c ↦{fullShare} oR3 O c) := by
  rw [hrb] at e
  rw [show sub (Rect.unit (s := S3x2x256x768) ![2, 0, 0, 0] S1x2x64x768.size inb_S3x2x256x768_S1x2x64x768_2_0_0_0) h = sR2 (oR2 O (xr 2 c)) (xr 2 c) from e]; exact BIBase.Entails.refl
theorem foldA2 (O : Dev nD → OBuf F) (hra : Z.ra = raOf O) (h : BBuf F) (e : rd 2 h = Z.ra 2 c) :
    (oL c ↦{fullShare} tA2 (oR3 O c) (sub (Rect.unit (s := S3x2x256x768) ![2, 0, 0, 0] S1x2x64x768.size inb_S3x2x256x768_S1x2x64x768_2_0_0_0) h) c : sProp 𝕄) ⊢ (oL c ↦{fullShare} oA2 O c) := by
  rw [hra] at e
  rw [show sub (Rect.unit (s := S3x2x256x768) ![2, 0, 0, 0] S1x2x64x768.size inb_S3x2x256x768_S1x2x64x768_2_0_0_0) h = sA2 (oR3 O (xr 2 c)) (xr 2 c) from e]; exact BIBase.Entails.refl
theorem foldA1 (O : Dev nD → OBuf F) (hra : Z.ra = raOf O) (h : BBuf F) (e : rd 1 h = Z.ra 1 c) :
    (oL c ↦{fullShare} tA1 (oA2 O c) (sub (Rect.unit (s := S3x2x256x768) ![1, 0, 0, 0] S1x2x128x768.size inb_S3x2x256x768_S1x2x128x768_1_0_0_0) h) c : sProp 𝕄) ⊢ (oL c ↦{fullShare} oA1 O c) := by
  rw [hra] at e
  rw [show sub (Rect.unit (s := S3x2x256x768) ![1, 0, 0, 0] S1x2x128x768.size inb_S3x2x256x768_S1x2x128x768_1_0_0_0) h = sA1 (oA2 O (xr 1 c)) (xr 1 c) from e]; exact BIBase.Entails.refl
theorem foldA0 (O : Dev nD → OBuf F) (hra : Z.ra = raOf O) (h : BBuf F) (e : rd 0 h = Z.ra 0 c) :
    (oL c ↦{fullShare} tA0 (oA1 O c) (sub (Rect.unit (s := S3x2x256x768) ![0, 0, 0, 0] S1x2x256x768.size inb_S3x2x256x768_S1x2x256x768_0_0_0_0) h) c : sProp 𝕄) ⊢ (oL c ↦{fullShare} oA0 O c) := by
  rw [hra] at e
  rw [show sub (Rect.unit (s := S3x2x256x768) ![0, 0, 0, 0] S1x2x256x768.size inb_S3x2x256x768_S1x2x256x768_0_0_0_0) h = sA0 (oA1 O (xr 0 c)) (xr 0 c) from e]; exact BIBase.Entails.refl

/-- The halving's three steps and the doubling's first two, and the third up to its sending. -/
theorem wp_tail (O : Dev nD → OBuf F) (hrb : Z.rb = rbOf O) (hra : Z.ra = raOf O) (v2 v583 v584 z : BitVec 32)
    (Q : _ → _ → sProp 𝕄) :
    env Z K ⊢ iprop(ow 21 c -∗ (oL c ↦{fullShare} O c) -∗ (bigSep Finset.univ fun k => rsIn (F := F) c k) -∗ (bigSep Finset.univ fun k => agIn (F := F) c k)
        -∗ (∀ a b, ow 27 c -∗ (oL c ↦{fullShare} oA1 O c) -∗ (bigSep Finset.univ fun k => rsOut (F := F) c k) -∗ agOut (F := F) c 2 -∗ agOut (F := F) c 1
            -∗ arm (F := F) (AS 0) c -∗ arm (F := F) (AR 0) c -∗ Q a b)
        -∗ wpc (ap (k0_part38 (F := F)) c v2 v583 v584 z) fun v591 => wpc (ap (k0_part39 (F := F)) c v2 v584 v591) fun r39 =>
            wpc (ap (k0_part40 (F := F)) c v591 r39.1 r39.2.1 r39.2.2) fun v641 => wpc (ap (k0_part41 (F := F)) c v2 r39.1 v641) fun r41 =>
            wpc (ap (k0_part42 (F := F)) c r41.1) fun _ => wpc (ap (k0_part43 (F := F)) c v2 r41.2) fun r43 =>
            wpc (ap (k0_part44 (F := F)) c r41.2 r43.1 r43.2.1 r43.2.2) fun v770 => wpc (ap (k0_part45 (F := F)) c v2 r43.2.1 v770) fun r45 =>
            wpc (ap (k0_part46 (F := F)) c v770 r45.1 r45.2) fun r46 => wpc (ap (k0_part47 (F := F)) c v2 r46.1 r46.2.1 r46.2.2) fun r47 => Q r46 r47) := by
  rw [fin3, fin3, fin3]
  unfold rsIn agIn
  iintro #He HO Ho ⟨⟨⟨%f0, B0⟩, S0, R0⟩, ⟨⟨%f1, B1⟩, S1, R1⟩, ⟨%f2, B2⟩, S2, R2⟩ ⟨⟨⟨%g0, A0⟩, T0, U0⟩, ⟨⟨%g1, A1⟩, T1, U1⟩, ⟨%g2, A2⟩, T2, U2⟩ Hk
  simp only [← wp_bind]
  simp only [ap, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel,
    Prog.bind_lift, Prog.bind_op, Prog.bind_ret, Prog.pure_eq_ret]
  iapply (ld_o c (O c)) $$ Ho; iintro Ho
  iapply (ld_bs c ?_ f0) $$ B0; · rfl
  iintro B0
  iapply (st_bs c ?_ f0) $$ B0; · rfl
  iintro B0
  iapply (op_sendR Z K c 0 21 rfl _ ?_ (dev22 c) rfl rfl) $$ He HO B0 S0
  · rw [hrb]; show _ = sR0 (O (xr 0 (xr 0 c))) (xr 0 (xr 0 c)); rw [xr_xr]; exact sub_put (rR 0) _ _
  iintro HO W0
  iapply (op_get Z K c (RS 0) 22 (by intro s hs; fin_cases hs <;> decide) ?_ ?_) $$ He HO W0
  · rfl
  · rfl
  iintro HO G0
  iapply (op_get Z K c (RR 0) 22 (by intro s hs; fin_cases hs <;> decide) ?_ ?_) $$ He HO R0
  · rfl
  · rfl
  iintro HO H0
  ihave H0 := (got_RR Z c 0) $$ H0
  icases H0 with ⟨H0, %h0, %e0, P0⟩
  iapply (ld_o c _) $$ Ho; iintro Ho
  iapply (ld_br c ?_ h0) $$ P0; · rfl
  iintro P0
  iapply (ld_o c _) $$ Ho; iintro Ho
  iapply (st_o c _) $$ Ho; iintro Ho
  ihave Ho := (foldR0 Z c O hrb h0 e0) $$ Ho
  iapply (ld_o c (oR1 O c)) $$ Ho; iintro Ho
  iapply (ld_bs c ?_ f1) $$ B1; · rfl
  iintro B1
  iapply (st_bs c ?_ f1) $$ B1; · rfl
  iintro B1
  iapply (op_sendR Z K c 1 22 rfl _ ?_ (dev23 c) rfl rfl) $$ He HO B1 S1
  · rw [hrb]; show _ = sR1 (oR1 O (xr 1 (xr 1 c))) (xr 1 (xr 1 c)); rw [xr_xr]; exact sub_put (rR 1) _ _
  iintro HO W1
  iapply (op_get Z K c (RS 1) 23 (by intro s hs; fin_cases hs <;> decide) ?_ ?_) $$ He HO W1
  · rfl
  · rfl
  iintro HO G1
  iapply (op_get Z K c (RR 1) 23 (by intro s hs; fin_cases hs <;> decide) ?_ ?_) $$ He HO R1
  · rfl
  · rfl
  iintro HO H1
  ihave H1 := (got_RR Z c 1) $$ H1
  icases H1 with ⟨H1, %h1, %e1, P1⟩
  iapply (ld_o c _) $$ Ho; iintro Ho
  iapply (ld_br c ?_ h1) $$ P1; · rfl
  iintro P1
  iapply (ld_o c _) $$ Ho; iintro Ho
  iapply (st_o c _) $$ Ho; iintro Ho
  ihave Ho := (foldR1 Z c O hrb h1 e1) $$ Ho
  iapply (ld_o c (oR2 O c)) $$ Ho; iintro Ho
  iapply (ld_bs c ?_ f2) $$ B2; · rfl
  iintro B2
  iapply (st_bs c ?_ f2) $$ B2; · rfl
  iintro B2
  iapply (op_sendR Z K c 2 23 rfl _ ?_ (dev24 c) rfl rfl) $$ He HO B2 S2
  · rw [hrb]; show _ = sR2 (oR2 O (xr 2 (xr 2 c))) (xr 2 (xr 2 c)); rw [xr_xr]; exact sub_put (rR 2) _ _
  iintro HO W2
  iapply (op_get Z K c (RS 2) 24 (by intro s hs; fin_cases hs <;> decide) ?_ ?_) $$ He HO W2
  · rfl
  · rfl
  iintro HO G2
  iapply (op_get Z K c (RR 2) 24 (by intro s hs; fin_cases hs <;> decide) ?_ ?_) $$ He HO R2
  · rfl
  · rfl
  iintro HO H2
  ihave H2 := (got_RR Z c 2) $$ H2
  icases H2 with ⟨H2, %h2, %e2, P2⟩
  iapply (ld_o c _) $$ Ho; iintro Ho
  iapply (ld_br c ?_ h2) $$ P2; · rfl
  iintro P2
  iapply (ld_o c _) $$ Ho; iintro Ho
  iapply (st_o c _) $$ Ho; iintro Ho
  ihave Ho := (foldR2 Z c O hrb h2 e2) $$ Ho
  iapply (ld_o c (oR3 O c)) $$ Ho; iintro Ho
  iapply (ld_as c ?_ g2) $$ A2; · rfl
  iintro A2
  iapply (st_as c ?_ g2) $$ A2; · rfl
  iintro A2
  iapply (op_sendA Z K c 2 24 rfl _ ?_ (dev25 c) rfl rfl) $$ He HO A2 T2
  · rw [hra]; show _ = sA2 (oR3 O (xr 2 (xr 2 c))) (xr 2 (xr 2 c)); rw [xr_xr]; exact sub_put (rR 2) _ _
  iintro HO X2
  iapply (op_get Z K c (AS 2) 25 (by intro s hs; fin_cases hs <;> decide) ?_ ?_) $$ He HO X2
  · rfl
  · rfl
  iintro HO I2
  iapply (op_get Z K c (AR 2) 25 (by intro s hs; fin_cases hs <;> decide) ?_ ?_) $$ He HO U2
  · rfl
  · rfl
  iintro HO J2
  ihave J2 := (got_AR Z c 2) $$ J2
  icases J2 with ⟨J2, %i2, %j2, Y2⟩
  iapply (ld_ar c ?_ i2) $$ Y2; · rfl
  iintro Y2
  iapply (ld_o c _) $$ Ho; iintro Ho
  iapply (st_o c _) $$ Ho; iintro Ho
  ihave Ho := (foldA2 Z c O hra i2 j2) $$ Ho
  iapply (ld_o c (oA2 O c)) $$ Ho; iintro Ho
  iapply (ld_as c ?_ g1) $$ A1; · rfl
  iintro A1
  iapply (st_as c ?_ g1) $$ A1; · rfl
  iintro A1
  iapply (op_sendA Z K c 1 25 rfl _ ?_ (dev26 c) rfl rfl) $$ He HO A1 T1
  · rw [hra]; show _ = sA1 (oA2 O (xr 1 (xr 1 c))) (xr 1 (xr 1 c)); rw [xr_xr]; exact sub_put (rR 1) _ _
  iintro HO X1
  iapply (op_get Z K c (AS 1) 26 (by intro s hs; fin_cases hs <;> decide) ?_ ?_) $$ He HO X1
  · rfl
  · rfl
  iintro HO I1
  iapply (op_get Z K c (AR 1) 26 (by intro s hs; fin_cases hs <;> decide) ?_ ?_) $$ He HO U1
  · rfl
  · rfl
  iintro HO J1
  ihave J1 := (got_AR Z c 1) $$ J1
  icases J1 with ⟨J1, %i1, %j1, Y1⟩
  iapply (ld_ar c ?_ i1) $$ Y1; · rfl
  iintro Y1
  simp only [wp_ret]
  imodintro
  iapply (ld_o c _) $$ Ho; iintro Ho
  iapply (st_o c _) $$ Ho; iintro Ho
  ihave Ho := (foldA1 Z c O hra i1 j1) $$ Ho
  iapply (ld_o c (oA1 O c)) $$ Ho; iintro Ho
  iapply (ld_as c ?_ g0) $$ A0; · rfl
  iintro A0
  iapply (st_as c ?_ g0) $$ A0; · rfl
  iintro A0
  iapply (op_sendA Z K c 0 26 rfl _ ?_ (dev27 c) rfl rfl) $$ He HO A0 T0
  · rw [hra]; show _ = sA0 (oA1 O (xr 0 (xr 0 c))) (xr 0 (xr 0 c)); rw [xr_xr]; exact sub_put (rR 0) _ _
  iintro HO X0
  unfold rsOut agOut
  simp only [wp_ret]
  imodintro
  iapply Hk $$ HO Ho [G0 G1 G2 H0 H1 H2 P0 P1 P2] [I2 J2 Y2] [I1 J1 Y1] X0 U0
  · isplitl [G0 H0 P0]
    · ihave G0 := (got_RS Z c 0) $$ G0; icases G0 with ⟨G0, G0b⟩
      isplitl [G0b]; · iexact G0b
      isplitl [P0]; · iexists h0; iexact P0
      isplitl [G0] <;> iassumption
    isplitl [G1 H1 P1]
    · ihave G1 := (got_RS Z c 1) $$ G1; icases G1 with ⟨G1, G1b⟩
      isplitl [G1b]; · iexact G1b
      isplitl [P1]; · iexists h1; iexact P1
      isplitl [G1] <;> iassumption
    ihave G2 := (got_RS Z c 2) $$ G2; icases G2 with ⟨G2, G2b⟩
    isplitl [G2b]; · iexact G2b
    isplitl [P2]; · iexists h2; iexact P2
    isplitl [G2] <;> iassumption
  · ihave I2 := (got_AS Z c 2) $$ I2; icases I2 with ⟨I2, I2b⟩
    isplitl [I2b]; · iexact I2b
    isplitl [Y2]; · iexists i2; iexact Y2
    isplitl [I2] <;> iassumption
  · ihave I1 := (got_AS Z c 1) $$ I1; icases I1 with ⟨I1, I1b⟩
    isplitl [I1b]; · iexact I1b
    isplitl [Y1]; · iexists i1; iexact Y1
    isplitl [I1] <;> iassumption

end Cert.Proof.Att
-- ==== Proof.Give.lean ====
module

public import proofs.«01_k».proof.Proof.Tail

/-! What the barrier gives and takes. -/

@[expose] public section
noncomputable section

namespace Cert.Proof.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- One place of a family held, nothing elsewhere. -/
theorem at_place {I : Type} [Fintype I] [DecidableEq I] (i₀ : I) (p : I → Prop) [DecidablePred p] (hp : ∀ i, p i ↔ i = i₀) (B : sProp 𝕄) :
    (bigSep Finset.univ fun i => if p i then B else iprop(emp)) = B := by
  rw [bigSep_univ_split i₀, if_pos ((hp i₀).mpr rfl)]
  rw [bigSep_congr (Ψ := fun _ => iprop(emp)) fun i hi => if_neg fun h => (Finset.mem_erase.mp hi).1 ((hp i).mp h), show (bigSep (Finset.univ.erase i₀) fun _ => iprop(emp) : sProp 𝕄) = iprop(emp) from bigSep_emp_const _]
  exact equiv_iff.mp sep_emp

/-- The copy that goes to a device's partner of step `k`. -/
def xi (k : Fin 3) (c : Dev nD) : Fin 7 :=
  match k with
  | 0 => ![0, 6, 0, 6, 0, 6, 0, 6] c
  | 1 => ![1, 1, 5, 5, 1, 1, 5, 5] c
  | 2 => 3
theorem xi_iff (k : Fin 3) (c : Dev nD) (i : Fin 7) : kvTgt i c = xr k c ↔ i = xi k c := by revert k c i; decide
theorem xi_iff' (k : Fin 3) (c : Dev nD) (i : Fin 7) : c = xr k (kvTgt i c) ↔ i = xi k c := by revert k c i; decide
theorem kvTgt_bk_kvTgt (i : Fin 7) (c : Dev nD) : kvTgt (bk i) (kvTgt i c) = c := by revert c i; decide
def bkE : Fin 7 ≃ Fin 7 := ⟨bk, bk, bk_bk, bk_bk⟩

/-- What a device signals away: its gather slots to the devices that fill them, its receiving blocks to its partners. -/
theorem give_all (c : Dev nD) :
    iprop((bigSep Finset.univ fun i : Fin 7 => barKV (F := F) i c) ∗ (bigSep Finset.univ fun k : Fin 3 => barR (F := F) k c))
      ⊢ bigSep Finset.univ fun i : Fin 7 => barPay (F := F) (bk i) (kvTgt i c) := by
  unfold barPay
  simp only [kvTgt_bk_kvTgt, bsep]
  rw [bigSep_univ_comm (fun (i : Fin 7) (k : Fin 3) => if c = xr k (kvTgt i c) then barR (F := F) k c else iprop(emp))]
  simp only [at_place (F := F) (xi _ c) (fun i => c = xr _ (kvTgt i c)) (xi_iff' _ c)]
  rw [bigSep_univ_equiv bkE (fun i => barKV (F := F) i c)]
  exact BIBase.Entails.refl
/-- What a device has from the barrier. -/
theorem take_all (c : Dev nD) :
    (bigSep Finset.univ fun i : Fin 7 => barPay (F := F) i c)
      ⊢ iprop((bigSep Finset.univ fun i : Fin 7 => barKV (F := F) i (kvTgt i c)) ∗ (bigSep Finset.univ fun k : Fin 3 => barR (F := F) k (xr k c))) := by
  have h : ∀ (i : Fin 7) (k : Fin 3), (if kvTgt i c = xr k c then barR (F := F) k (kvTgt i c) else iprop(emp)) = (if kvTgt i c = xr k c then barR (F := F) k (xr k c) else iprop(emp)) := by
    intro i k; split
    · rename_i e; rw [e]
    · rfl
  unfold barPay
  simp only [h, bsep]
  rw [bigSep_univ_comm (fun (i : Fin 7) (k : Fin 3) => if kvTgt i c = xr k c then barR (F := F) k (xr k c) else iprop(emp))]
  simp only [at_place (F := F) (xi _ c) (fun i => kvTgt i c = xr _ c) (xi_iff _ c)]
  exact BIBase.Entails.refl

end Cert.Proof.Att
-- ==== Proof.Fix.lean ====
module

public import proofs.«01_k».proof.Proof.Tail
public import proofs.«01_k».proof.Proof.Give

/-! The queries as one array; blocks cut out of a buffer and put back; the semaphores of the exchange, kind by kind. -/

@[expose] public section
noncomputable section

namespace Cert.Proof.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- An index of a box is one of the box's. -/
theorem mem_emb {s : Shape} (r : Rect s) {j : s.Idx} (h : j ∈ r.set) : ∃ i, r.emb i = j := by
  choose k hk e using (LoadRect.mem_set r.toLoadRect).mp h
  exact ⟨fun a => ⟨k a, hk a⟩, funext fun a => Fin.ext (e a).symm⟩
/-- Within the box, a replaced array is what was put there. -/
theorem put_agree {s : Shape} {X : Type} (r : Rect s) (f f' : s.Idx → X) (w : r.shape.Idx → X) {j : s.Idx} (h : j ∈ r.set) : put r f w j = put r f' w j := by
  obtain ⟨i, rfl⟩ := mem_emb r h
  rw [put_emb, put_emb]
theorem any_intro (ℓ : Loc nD τ sig) (S : Finset (Idx ℓ)) (f : Buf (Elt F) ℓ) : (ℓ ↦[S]{fullShare} f : sProp 𝕄) ⊢ iprop(∃ f : Buf (Elt F) ℓ, ℓ ↦[S]{fullShare} f) := by
  iintro H; iexists f; iexact H

/-- Head slots below `n + 1` agree after head slot `n` is replaced alike, if those below `n` did. -/
theorem stq_step (n : ℕ) (h : ∀ a, (![n, 0, 0] : Fin 3 → ℕ) a + S1x512x64.size a ≤ S16x512x64.size a) (w : Vec F S1x512x64 .bf16) {q q' : QBuf F}
    (H : ∀ j : S16x512x64.Idx, (j 0).val < n → q j = q' j) : ∀ j : S16x512x64.Idx, (j 0).val < n + 1 → stq q ![n, 0, 0] h w j = stq q' ![n, 0, 0] h w j := by
  intro j hj
  rcases Classical.em (j ∈ (Rect.unit (s := S16x512x64) ![n, 0, 0] S1x512x64.size h).set) with hm | hm
  · exact put_agree (Rect.unit (s := S16x512x64) ![n, 0, 0] S1x512x64.size h) q q' w hm
  · refine (put_of_not (Rect.unit (s := S16x512x64) ![n, 0, 0] S1x512x64.size h) q w j hm).trans (Eq.trans ?_ (put_of_not (Rect.unit (s := S16x512x64) ![n, 0, 0] S1x512x64.size h) q' w j hm).symm)
    refine H j (Nat.lt_of_le_of_ne (Nat.lt_succ_iff.mp hj) fun hn => hm ?_)
    rw [Rect.mem_set_unit]
    intro a
    have h1 : (j 1).val < 512 := (j 1).isLt
    have h2 : (j 2).val < 64 := (j 2).isLt
    fin_cases a
    · exact ⟨by simp [hn], by show (j 0).val < n + 1; omega⟩
    · exact ⟨by simp, by show (j 1).val < 0 + 512; omega⟩
    · exact ⟨by simp, by show (j 2).val < 0 + 64; omega⟩

/-- The scratch of queries after all sixteen stores. -/
def qAll (x : XBuf F) (wq : WqBuf F) (q : QBuf F) : QBuf F :=
  q28 (k0_pay70 (k0_pay62 (k0_pay52 (wqT wq)) (x1T x))) (q27 (k0_pay62 (k0_pay52 (wqT wq)) (x1T x))
    (q26 (k0_pay53 (wqT wq) (x0T x)) (k0_pay55 (wqT wq) (x0T x)) (q25 x wq q)))
/-- The queries of a device. -/
def qF (x : XBuf F) (wq : WqBuf F) : QBuf F := qAll x wq fun _ => FloatOps.ofBits .bf16 0#16

/-- The sixteen stores leave nothing of what was there. -/
theorem qAll_eq (x : XBuf F) (wq : WqBuf F) (q : QBuf F) : qAll x wq q = qF x wq := by
  funext j
  have h0 : ∀ j : S16x512x64.Idx, (j 0).val < 0 → q j = (fun _ => FloatOps.ofBits .bf16 0#16 : QBuf F) j := fun j hj => absurd hj (Nat.not_lt_zero _)
  unfold qF qAll q28 q27 q26 q25
  have := stq_step 15 inb_S16x512x64_S1x512x64_15_0_0 (k0_pay71 (k0_pay70 (k0_pay62 (k0_pay52 (wqT wq)) (x1T x))))
    (stq_step 14 inb_S16x512x64_S1x512x64_14_0_0 (k0_pay69 (k0_pay62 (k0_pay52 (wqT wq)) (x1T x)))
    (stq_step 13 inb_S16x512x64_S1x512x64_13_0_0 (k0_pay68 (k0_pay62 (k0_pay52 (wqT wq)) (x1T x)))
    (stq_step 12 inb_S16x512x64_S1x512x64_12_0_0 (k0_pay67 (k0_pay62 (k0_pay52 (wqT wq)) (x1T x)))
    (stq_step 11 inb_S16x512x64_S1x512x64_11_0_0 (k0_pay66 (k0_pay62 (k0_pay52 (wqT wq)) (x1T x)))
    (stq_step 10 inb_S16x512x64_S1x512x64_10_0_0 (k0_pay65 (k0_pay62 (k0_pay52 (wqT wq)) (x1T x)))
    (stq_step 9 inb_S16x512x64_S1x512x64_9_0_0 (k0_pay64 (k0_pay62 (k0_pay52 (wqT wq)) (x1T x)))
    (stq_step 8 inb_S16x512x64_S1x512x64_8_0_0 (k0_pay63 (k0_pay62 (k0_pay52 (wqT wq)) (x1T x)))
    (stq_step 7 inb_S16x512x64_S1x512x64_7_0_0 (k0_pay61 (k0_pay53 (wqT wq) (x0T x)))
    (stq_step 6 inb_S16x512x64_S1x512x64_6_0_0 (k0_pay60 (k0_pay53 (wqT wq) (x0T x)))
    (stq_step 5 inb_S16x512x64_S1x512x64_5_0_0 (k0_pay59 (k0_pay53 (wqT wq) (x0T x)))
    (stq_step 4 inb_S16x512x64_S1x512x64_4_0_0 (k0_pay58 (k0_pay53 (wqT wq) (x0T x)))
    (stq_step 3 inb_S16x512x64_S1x512x64_3_0_0 (k0_pay57 (k0_pay53 (wqT wq) (x0T x)))
    (stq_step 2 inb_S16x512x64_S1x512x64_2_0_0 (k0_pay56 (k0_pay53 (wqT wq) (x0T x)))
    (stq_step 1 inb_S16x512x64_S1x512x64_1_0_0 (k0_pay55 (wqT wq) (x0T x))
    (stq_step 0 inb_S16x512x64_S1x512x64_0_0_0 (k0_pay54 (wqT wq) (x0T x))
    h0)))))))))))))))
  exact this j (j 0).isLt

/-- The result before the loop. -/
def oZ : OBuf F := o0 fun _ => FloatOps.ofBits .f32 0#32
theorem o0_eq (o : OBuf F) : o0 o = oZ := by
  funext j
  have hm : j ∈ (Rect.unit (s := S2x512x768) ![0, 0, 0] S2x512x768.size inb_S2x512x768_S2x512x768_0_0_0).set := by
    rw [Rect.mem_set_unit]
    intro a
    have h0 : (j 0).val < 2 := (j 0).isLt
    have h1 : (j 1).val < 512 := (j 1).isLt
    have h2 : (j 2).val < 768 := (j 2).isLt
    fin_cases a
    · exact ⟨by simp, by show (j 0).val < 0 + 2; omega⟩
    · exact ⟨by simp, by show (j 1).val < 0 + 512; omega⟩
    · exact ⟨by simp, by show (j 2).val < 0 + 768; omega⟩
  exact put_agree _ o (fun _ => FloatOps.ofBits .f32 0#32) _ hm

/-- A buffer held is its rest and its three blocks, at contents not chosen; and back. -/
theorem blk_split (ℓ : Loc nD τ sig) (B : Fin 3 → Finset (Idx ℓ)) (hB : ∀ s t, s ≠ t → Disjoint (B s) (B t)) (f : Buf (Elt F) ℓ) :
    (ℓ ↦{fullShare} f : sProp 𝕄) ⊢ iprop((ℓ ↦[Finset.univ \ Finset.univ.biUnion B]{fullShare} f) ∗ bigSep Finset.univ fun k : Fin 3 => iprop(∃ f : Buf (Elt F) ℓ, ℓ ↦[B k]{fullShare} f)) := by
  iintro H
  ihave H := (pointsTo_split_subset (I := Finset.univ.biUnion B) (S := Finset.univ) (Finset.subset_univ _)).1 $$ H
  icases H with ⟨H, HR⟩
  isplitl [HR]; · iexact HR
  ihave H := (show (ℓ ↦[Finset.univ.biUnion B]{fullShare} f : sProp 𝕄) ⊢ bigSep Finset.univ fun k : Fin 3 => (ℓ ↦[B k]{fullShare} f)
    from Entails.of_eq (pointsTo_biUnion Finset.univ B fun t _ t' _ h => hB t t' h)) $$ H
  iapply (show (bigSep Finset.univ fun k : Fin 3 => (ℓ ↦[B k]{fullShare} f : sProp 𝕄)) ⊢ bigSep Finset.univ fun k : Fin 3 => iprop(∃ f : Buf (Elt F) ℓ, ℓ ↦[B k]{fullShare} f)
    from bigSep_mono fun k _ => any_intro ℓ (B k) f) $$ H
theorem blk_join (ℓ : Loc nD τ sig) (B : Fin 3 → Finset (Idx ℓ)) (hB : ∀ s t, s ≠ t → Disjoint (B s) (B t)) (f : Buf (Elt F) ℓ) :
    iprop((ℓ ↦[Finset.univ \ Finset.univ.biUnion B]{fullShare} f) ∗ bigSep Finset.univ fun k : Fin 3 => iprop(∃ f : Buf (Elt F) ℓ, ℓ ↦[B k]{fullShare} f))
      ⊢ (iprop(∃ f : Buf (Elt F) ℓ, ℓ ↦{fullShare} f) : sProp 𝕄) := by
  rw [fin3]
  iintro ⟨HR, ⟨%f0, H0⟩, ⟨%f1, H1⟩, %f2, H2⟩
  ihave H := (show iprop((ℓ ↦[B 0]{fullShare} f0) ∗ (ℓ ↦[B 1]{fullShare} f1) ∗ (ℓ ↦[B 2]{fullShare} f2)) ⊢ (bigSep Finset.univ fun k : Fin 3 => (ℓ ↦[B k]{fullShare} (match k with | 0 => f0 | 1 => f1 | 2 => f2) : sProp 𝕄))
    from Entails.of_eq (by rw [fin3])) $$ [H0 H1 H2]
  · isplitl [H0]; · iexact H0
    isplitl [H1] <;> iassumption
  ihave H := (pointsTo_biUnion_join Finset.univ B (fun k : Fin 3 => (match k with | 0 => f0 | 1 => f1 | 2 => f2)) f0 fun t _ t' _ h => hB t t' h) $$ H
  icases H with ⟨%g, -, H⟩
  iexists (Finset.univ.biUnion B).piecewise g f
  iapply (pointsTo_join_subset (I := Finset.univ.biUnion B) (S := Finset.univ) (Finset.subset_univ _))
  isplitl [H] <;> iassumption

theorem fin4 (Φ : Fin 4 → sProp 𝕄) : bigSep Finset.univ Φ = iprop(Φ 0 ∗ Φ 1 ∗ Φ 2 ∗ Φ 3) := by
  rw [show (Finset.univ : Finset (Fin 4)) = {0, 1, 2, 3} by decide]
  iterate 3 rw [bigSep_insert (by decide)]
  rw [bigSep_singleton]; rfl
theorem fin2 (Φ : Fin 2 → sProp 𝕄) : bigSep Finset.univ Φ = iprop(Φ 0 ∗ Φ 1) := by
  rw [show (Finset.univ : Finset (Fin 2)) = {0, 1} by decide, bigSep_insert (by decide), bigSep_singleton]; rfl
/-- The semaphores of the exchange, kind by kind. -/
theorem all_cl (Φ : Cl → sProp 𝕄) : bigSep Finset.univ Φ =
    iprop(((bigSep Finset.univ fun i => Φ (KS i)) ∗ (bigSep Finset.univ fun i => Φ (KR i)) ∗ (bigSep Finset.univ fun i => Φ (VS i)) ∗ (bigSep Finset.univ fun i => Φ (VR i)))
      ∗ ((bigSep Finset.univ fun k => Φ (RS k)) ∗ (bigSep Finset.univ fun k => Φ (RR k)) ∗ (bigSep Finset.univ fun k => Φ (AS k)) ∗ (bigSep Finset.univ fun k => Φ (AR k)))
      ∗ Φ (LC 0) ∗ Φ (LC 1)) := by
  rw [bigSep_univ_sum, bigSep_univ_sum, bigSep_univ_prod, bigSep_univ_prod, fin4, fin4, fin2]; rfl

end Cert.Proof.Att
-- ==== Proof.Stage.lean ====
module

public import proofs.«01_k».proof.Proof.Fix

/-! What a device holds when its body starts, dealt to the steps; what the steps leave, collected. -/

@[expose] public section
noncomputable section

namespace Cert.Proof.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (Z : Cts F) (c : Dev nD)

/-- The device whose semaphore `n` device `c` pays with the landing of a copy it sends. -/
def payee : Cl → Dev nD → Dev nD
  | .inl (1, i), c => kvTgt i c
  | .inl (3, i), c => kvTgt i c
  | .inr (.inl (1, k)), c => xr k c
  | .inr (.inl (3, k)), c => xr k c
  | _, c => c

/-- The places, the tokens a device pays with, that its semaphores are open, and the credit for what it receives. -/
def places (c : Dev nD) : sProp 𝕄 := bigSep Finset.univ fun n : Cl => atPos ER (cell n c) 0 ∅ 0
def opens (c : Dev nD) : sProp 𝕄 := bigSep Finset.univ fun n : Cl => reached ER (cell n c) 0
def tokens (c : Dev nD) : sProp 𝕄 := bigSep Finset.univ fun n : Cl => dutyTok ER (cell n (payee n c)) 0 (0 : Fin 7)
def credits (c : Dev nD) : sProp 𝕄 :=
  iprop((bigSep Finset.univ fun i : Fin 7 => cred (tallyAt (cell (KR i) c) () (amt (KR i)))) ∗ (bigSep Finset.univ fun i : Fin 7 => cred (tallyAt (cell (VR i) c) () (amt (VR i))))
    ∗ (bigSep Finset.univ fun k : Fin 3 => cred (tallyAt (cell (RR k) c) () (amt (RR k)))) ∗ (bigSep Finset.univ fun k : Fin 3 => cred (tallyAt (cell (AR k) c) () (amt (AR k)))))

instance opens_persistent : BI.Persistent (opens (F := F) c) := by unfold opens; infer_instance

/-- A buffer at contents not chosen; and what is left of a half buffer besides its blocks. -/
abbrev anyB (ℓ : Loc nD τ sig) : sProp 𝕄 := iprop(∃ f : Buf (Elt F) ℓ, ℓ ↦{fullShare} f)
abbrev rest3 (ℓ : Loc nD τ sig) (B : Fin 3 → Finset (Idx ℓ)) : sProp 𝕄 := iprop(∃ f : Buf (Elt F) ℓ, ℓ ↦[Finset.univ \ Finset.univ.biUnion B]{fullShare} f)

theorem blkS (ℓ : Loc nD τ sig) (B : Fin 3 → Finset (Idx ℓ)) (hB : ∀ s t, s ≠ t → Disjoint (B s) (B t)) :
    anyB (F := F) ℓ ⊢ iprop(rest3 (F := F) ℓ B ∗ bigSep Finset.univ fun k : Fin 3 => iprop(∃ f : Buf (Elt F) ℓ, ℓ ↦[B k]{fullShare} f)) := by
  iintro ⟨%f, H⟩
  ihave H := (blk_split ℓ B hB f) $$ H
  icases H with ⟨HR, H⟩
  isplitl [HR]; · iexists f; iexact HR
  iexact H
theorem blkJ (ℓ : Loc nD τ sig) (B : Fin 3 → Finset (Idx ℓ)) (hB : ∀ s t, s ≠ t → Disjoint (B s) (B t)) :
    iprop(rest3 (F := F) ℓ B ∗ bigSep Finset.univ fun k : Fin 3 => iprop(∃ f : Buf (Elt F) ℓ, ℓ ↦[B k]{fullShare} f)) ⊢ anyB (F := F) ℓ := by
  iintro ⟨⟨%f, HR⟩, H⟩
  iapply (blk_join ℓ B hB f)
  isplitl [HR] <;> iassumption

theorem bs_split : anyB (F := F) (bsL c) ⊢ iprop(rest3 (F := F) (bsL c) bSet ∗ bigSep Finset.univ fun k : Fin 3 => bsA (F := F) c k) := blkS (bsL c) bSet fun _ _ h => bSet_disj h
theorem br_split : anyB (F := F) (brL c) ⊢ iprop(rest3 (F := F) (brL c) bSet ∗ bigSep Finset.univ fun k : Fin 3 => brA (F := F) c k) := blkS (brL c) bSet fun _ _ h => bSet_disj h
theorem as_split : anyB (F := F) (asL c) ⊢ iprop(rest3 (F := F) (asL c) bSet ∗ bigSep Finset.univ fun k : Fin 3 => asA (F := F) c k) := blkS (asL c) bSet fun _ _ h => bSet_disj h
theorem ar_split : anyB (F := F) (arL c) ⊢ iprop(rest3 (F := F) (arL c) bSet ∗ bigSep Finset.univ fun k : Fin 3 => arA (F := F) c k) := blkS (arL c) bSet fun _ _ h => bSet_disj h
theorem bs_join : iprop(rest3 (F := F) (bsL c) bSet ∗ bigSep Finset.univ fun k : Fin 3 => bsA (F := F) c k) ⊢ anyB (F := F) (bsL c) := blkJ (bsL c) bSet fun _ _ h => bSet_disj h
theorem br_join : iprop(rest3 (F := F) (brL c) bSet ∗ bigSep Finset.univ fun k : Fin 3 => brA (F := F) c k) ⊢ anyB (F := F) (brL c) := blkJ (brL c) bSet fun _ _ h => bSet_disj h
theorem as_join : iprop(rest3 (F := F) (asL c) bSet ∗ bigSep Finset.univ fun k : Fin 3 => asA (F := F) c k) ⊢ anyB (F := F) (asL c) := blkJ (asL c) bSet fun _ _ h => bSet_disj h
theorem ar_join : iprop(rest3 (F := F) (arL c) bSet ∗ bigSep Finset.univ fun k : Fin 3 => arA (F := F) c k) ⊢ anyB (F := F) (arL c) := blkJ (arL c) bSet fun _ _ h => bSet_disj h

/-- The slots of the gather buffers: the device's own, and those of the devices that fill them. -/
theorem kg_split : anyB (F := F) (kgL c) ⊢ iprop(kgA (F := F) c c ∗ bigSep Finset.univ fun i : Fin 7 => kgA (F := F) c (kvSrc i c)) := by
  iintro ⟨%f, H⟩
  ihave H := (Entails.of_eq (kg_slots c f)) $$ H
  iapply (Entails.of_eq (all_src c fun s => kgA (F := F) c s))
  iapply (show (bigSep Finset.univ fun s => (kgL c ↦[gSet s]{fullShare} f : sProp 𝕄)) ⊢ bigSep Finset.univ fun s => kgA (F := F) c s
    from bigSep_mono fun s _ => any_intro (kgL c) (gSet s) f) $$ H
theorem vg_split : anyB (F := F) (vgL c) ⊢ iprop(vgA (F := F) c c ∗ bigSep Finset.univ fun i : Fin 7 => vgA (F := F) c (kvSrc i c)) := by
  iintro ⟨%f, H⟩
  ihave H := (Entails.of_eq (vg_slots c f)) $$ H
  iapply (Entails.of_eq (all_src c fun s => vgA (F := F) c s))
  iapply (show (bigSep Finset.univ fun s => (vgL c ↦[gSet s]{fullShare} f : sProp 𝕄)) ⊢ bigSep Finset.univ fun s => vgA (F := F) c s
    from bigSep_mono fun s _ => any_intro (vgL c) (gSet s) f) $$ H
theorem kt_split : (ktL c ↦{fullShare} Z.kt c : sProp 𝕄) ⊢ iprop(ktP Z c c ∗ bigSep Finset.univ fun i : Fin 7 => ktP Z c (kvTgt i c)) :=
  Entails.of_eq ((kt_parts c (Z.kt c)).trans (all_tgt c fun s => ktP Z c s))
theorem vt_split : (vtL c ↦{fullShare} Z.vt c : sProp 𝕄) ⊢ iprop(vtP Z c c ∗ bigSep Finset.univ fun i : Fin 7 => vtP Z c (kvTgt i c)) :=
  Entails.of_eq ((vt_parts c (Z.vt c)).trans (all_tgt c fun s => vtP Z c s))

/-- What the seven signals give away. -/
theorem stage_give :
    iprop(opens (F := F) c ∗ anyB (F := F) (kgL c) ∗ anyB (F := F) (vgL c) ∗ anyB (F := F) (brL c) ∗ anyB (F := F) (arL c))
      ⊢ iprop((bigSep Finset.univ fun i : Fin 7 => barPay (F := F) (bk i) (kvTgt i c)) ∗ kgA (F := F) c c ∗ vgA (F := F) c c
          ∗ rest3 (F := F) (brL c) bSet ∗ rest3 (F := F) (arL c) bSet) := by
  unfold opens
  rw [all_cl]
  iintro ⟨⟨⟨-, oKR, -, oVR⟩, ⟨-, oRR, -, oAR⟩, -⟩, kg, vg, br, ar⟩
  ihave kg := (kg_split c) $$ kg; icases kg with ⟨kg0, kg⟩
  ihave vg := (vg_split c) $$ vg; icases vg with ⟨vg0, vg⟩
  ihave br := (br_split c) $$ br; icases br with ⟨br0, br⟩
  ihave ar := (ar_split c) $$ ar; icases ar with ⟨ar0, ar⟩
  isplitl [oKR oVR oRR oAR kg vg br ar]
  · iapply (give_all c)
    unfold barKV barR
    simp only [bsep]
    isplitl [oKR oVR kg vg]
    · isplitl [kg]; · iexact kg
      isplitl [vg]; · iexact vg
      isplitl [oKR] <;> iassumption
    · isplitl [br]; · iexact br
      isplitl [ar]; · iexact ar
      isplitl [oRR] <;> iassumption
  isplitl [kg0]; · iexact kg0
  isplitl [vg0]; · iexact vg0
  isplitl [br0] <;> iassumption

/-- What is ready after the barrier: the copies of keys and values, those of the reduction, and the waits for what is received. -/
def ready (c : Dev nD) : sProp 𝕄 :=
  iprop((bigSep Finset.univ fun i : Fin 7 => sK Z c i) ∗ (bigSep Finset.univ fun i : Fin 7 => sV Z c i)
    ∗ (bigSep Finset.univ fun i : Fin 7 => arm (F := F) (KR i) c) ∗ (bigSep Finset.univ fun i : Fin 7 => arm (F := F) (VR i) c)
    ∗ (fresh (F := F) (LC 0) c ∗ fresh (F := F) (LC 1) c ∗ ktP Z c c ∗ vtP Z c c)
    ∗ (bigSep Finset.univ fun k => rsIn (F := F) c k) ∗ (bigSep Finset.univ fun k => agIn (F := F) c k)
    ∗ rest3 (F := F) (bsL c) bSet ∗ rest3 (F := F) (asL c) bSet)

set_option maxHeartbeats 1000000 in
theorem stage_take :
    iprop(places (F := F) c ∗ opens (F := F) c ∗ tokens (F := F) c ∗ credits (F := F) c ∗ (ktL c ↦{fullShare} Z.kt c) ∗ (vtL c ↦{fullShare} Z.vt c)
        ∗ anyB (F := F) (bsL c) ∗ anyB (F := F) (asL c) ∗ bigSep Finset.univ fun i : Fin 7 => barPay (F := F) i c) ⊢ ready Z c := by
  unfold places opens tokens credits
  rw [all_cl, all_cl, all_cl]
  iintro ⟨⟨⟨aKS, aKR, aVS, aVR⟩, ⟨aRS, aRR, aAS, aAR⟩, aL0, aL1⟩, ⟨⟨oKS, -, oVS, -⟩, ⟨oRS, -, oAS, -⟩, oL0, oL1⟩,
    ⟨⟨tKS, tKR, tVS, tVR⟩, ⟨tRS, tRR, tAS, tAR⟩, tL0, tL1⟩, ⟨cKR, cVR, cRR, cAR⟩, kt, vt, bs, as_, H⟩
  ihave H := (take_all c) $$ H
  icases H with ⟨HK, HR⟩
  ihave kt := (kt_split Z c) $$ kt; icases kt with ⟨kt0, kt⟩
  ihave vt := (vt_split Z c) $$ vt; icases vt with ⟨vt0, vt⟩
  ihave bs := (bs_split c) $$ bs; icases bs with ⟨bs0, bs⟩
  ihave as_ := (as_split c) $$ as_; icases as_ with ⟨as0, as_⟩
  ihave HK := (show (bigSep Finset.univ fun i : Fin 7 => barKV (F := F) i (kvTgt i c))
      ⊢ iprop((bigSep Finset.univ fun i : Fin 7 => kgA (F := F) (kvTgt i c) c) ∗ (bigSep Finset.univ fun i : Fin 7 => vgA (F := F) (kvTgt i c) c)
          ∗ (bigSep Finset.univ fun i : Fin 7 => reached ER (cell (KR i) (kvTgt i c)) 0) ∗ (bigSep Finset.univ fun i : Fin 7 => reached ER (cell (VR i) (kvTgt i c)) 0)) from by
    unfold barKV; simp only [kvSrc_kvTgt, bsep]; exact BIBase.Entails.refl) $$ HK
  icases HK with ⟨hkg, hvg, hKR, hVR⟩
  ihave HR := (show (bigSep Finset.univ fun k : Fin 3 => barR (F := F) k (xr k c))
      ⊢ iprop((bigSep Finset.univ fun k : Fin 3 => brA (F := F) (xr k c) k) ∗ (bigSep Finset.univ fun k : Fin 3 => arA (F := F) (xr k c) k)
          ∗ (bigSep Finset.univ fun k : Fin 3 => reached ER (cell (RR k) (xr k c)) 0) ∗ (bigSep Finset.univ fun k : Fin 3 => reached ER (cell (AR k) (xr k c)) 0)) from by
    unfold barR; simp only [bsep]; exact BIBase.Entails.refl) $$ HR
  icases HR with ⟨hbr, har, hRR, hAR⟩
  unfold ready sK sV rsIn agIn sR sA fresh arm
  simp only [bsep]
  isplitl [kt hkg aKS oKS tKS tKR hKR]
  · isplitl [kt]; · iexact kt
    isplitl [hkg]; · iexact hkg
    isplitl [aKS oKS tKS]
    · isplitl [aKS]; · iexact aKS
      isplitl [oKS]; · iexact oKS
      iexact tKS
    isplitl [tKR]; · iexact tKR
    iexact hKR
  isplitl [vt hvg aVS oVS tVS tVR hVR]
  · isplitl [vt]; · iexact vt
    isplitl [hvg]; · iexact hvg
    isplitl [aVS oVS tVS]
    · isplitl [aVS]; · iexact aVS
      isplitl [oVS]; · iexact oVS
      iexact tVS
    isplitl [tVR]; · iexact tVR
    iexact hVR
  isplitl [cKR aKR]; · isplitl [cKR]; · iexact cKR
                       iexact aKR
  isplitl [cVR aVR]; · isplitl [cVR]; · iexact cVR
                       iexact aVR
  isplitl [aL0 aL1 oL0 oL1 tL0 tL1 kt0 vt0]
  · isplitl [aL0 oL0 tL0]
    · isplitl [aL0]; · iexact aL0
      isplitl [oL0]; · iexact oL0
      iexact tL0
    isplitl [aL1 oL1 tL1]
    · isplitl [aL1]; · iexact aL1
      isplitl [oL1]; · iexact oL1
      iexact tL1
    isplitl [kt0] <;> iassumption
  isplitl [bs hbr aRS oRS tRS tRR hRR cRR aRR]
  · isplitl [bs]; · iexact bs
    isplitl [hbr aRS oRS tRS tRR hRR]
    · isplitl [hbr]; · iexact hbr
      isplitl [aRS oRS tRS]
      · isplitl [aRS]; · iexact aRS
        isplitl [oRS]; · iexact oRS
        iexact tRS
      isplitl [tRR]; · iexact tRR
      iexact hRR
    isplitl [cRR]; · iexact cRR
    iexact aRR
  isplitl [as_ har aAS oAS tAS tAR hAR cAR aAR]
  · isplitl [as_]; · iexact as_
    isplitl [har aAS oAS tAS tAR hAR]
    · isplitl [har]; · iexact har
      isplitl [aAS oAS tAS]
      · isplitl [aAS]; · iexact aAS
        isplitl [oAS]; · iexact oAS
        iexact tAS
      isplitl [tAR]; · iexact tAR
      iexact hAR
    isplitl [cAR]; · iexact cAR
    iexact aAR
  isplitl [bs0] <;> iassumption

/-- Every semaphore of the exchange is spent. -/
def spent (c : Dev nD) : sProp 𝕄 := bigSep Finset.univ fun n : Cl => semVal (cell n c) 0

/-- What the steps leave: the half buffers whole again, and every semaphore spent. -/
theorem stage_close :
    iprop(kvSems (F := F) c ∗ (bigSep Finset.univ fun k => rsOut (F := F) c k) ∗ (bigSep Finset.univ fun k => agOut (F := F) c k)
        ∗ rest3 (F := F) (bsL c) bSet ∗ rest3 (F := F) (brL c) bSet ∗ rest3 (F := F) (asL c) bSet ∗ rest3 (F := F) (arL c) bSet)
      ⊢ iprop(spent (F := F) c ∗ anyB (F := F) (bsL c) ∗ anyB (F := F) (brL c) ∗ anyB (F := F) (asL c) ∗ anyB (F := F) (arL c)) := by
  unfold spent kvSems rsOut agOut
  rw [all_cl]
  simp only [bsep]
  iintro ⟨⟨⟨a1, a2, a3, a4⟩, l0, l1⟩, ⟨bs, br, r1, r2⟩, ⟨as_, ar, g1, g2⟩, bs0, br0, as0, ar0⟩
  isplitl [a1 a2 a3 a4 l0 l1 r1 r2 g1 g2]
  · isplitl [a1 a2 a3 a4]
    · isplitl [a1]; · iexact a1
      isplitl [a2]; · iexact a2
      isplitl [a3] <;> iassumption
    isplitl [r1 r2 g1 g2]
    · isplitl [r1]; · iexact r1
      isplitl [r2]; · iexact r2
      isplitl [g1] <;> iassumption
    isplitl [l0] <;> iassumption
  isplitl [bs bs0]; · iapply (bs_join c); isplitl [bs0] <;> iassumption
  isplitl [br br0]; · iapply (br_join c); isplitl [br0] <;> iassumption
  isplitl [as_ as0]; · iapply (as_join c); isplitl [as0] <;> iassumption
  iapply (ar_join c); isplitl [ar0] <;> iassumption

end Cert.Proof.Att
-- ==== Proof.PhaseA.lean ====
module

public import proofs.«01_k».proof.Proof.Exch

/-! The start of the body: the barrier's signals and its wait, and the fourteen copies of keys and values. -/

@[expose] public section
noncomputable section

namespace Cert.Proof.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (Z : Cts F) (K : GSem nD τ sig → ℕ) (c : Dev nD)
local notation "wpc" => wp frame (wpE (defs₀ (F := F)) 𝒱₀ (c : Thread nD τ) none) Set.univ

/-- What signal `i` takes: the token of its duty and what it gives. -/
def sg (i : Fin 7) : sProp 𝕄 := iprop(dutyTok ER (barCell (kvTgt i c)) 0 (bk i) ∗ barPay (F := F) (bk i) (kvTgt i c))

/-- The barrier's array. -/
abbrev barA : Sems sig S_ := SemArray.scalar (sig.barrier 0 rfl)

/-- The first two signals. -/
theorem wp_part14 (Q : _ → sProp 𝕄) :
    env Z K ⊢ iprop(ow 0 c -∗ sg (F := F) c 0 -∗ sg (F := F) c 1
      -∗ (∀ v2 v30 c8 v31, ow 2 c -∗ Q ⟨c, v2, barA, v30, c8, v31⟩) -∗ wpc (ap (k0_part14 (F := F))) Q) := by
  unfold sg
  iintro #He HO ⟨T0, P0⟩ ⟨T1, P1⟩ Hk
  simp only [ap, k0_part14_eq_skeleton, k0_part14_skel, Prog.bind_lift, semSignalWord, Prog.bind_op, Prog.bind_ret, wp_deviceId]
  iapply (op_signal' Z K c 0 0 rfl (dev_sig1 c) rfl) $$ He HO T0 P0
  iintro HO
  iapply (op_signal' Z K c 1 1 rfl (dev_sig2 c) rfl) $$ He HO T1 P1
  iintro HO
  simp only [wp_pure]
  imodintro
  iapply Hk $$ HO

/-- The next two signals. -/
theorem wp_part15 (w₁ w₂ w₃ : BitVec 32) (w₄ : BitVec 1) (Q : _ → sProp 𝕄) :
    env Z K ⊢ iprop(ow 2 c -∗ sg (F := F) c 2 -∗ sg (F := F) c 3
      -∗ (∀ w, ow 4 c -∗ Q w) -∗ wpc (ap (k0_part15 (F := F)) c w₁ barA w₂ w₃ w₄) Q) := by
  unfold sg
  iintro #He HO ⟨T0, P0⟩ ⟨T1, P1⟩ Hk
  simp only [ap, k0_part15_eq_skeleton, k0_part15_skel, Prog.bind_lift, semSignalWord, Prog.bind_op, Prog.bind_ret]
  iapply (op_signal' Z K c 2 2 rfl (dev_sig3 c) rfl) $$ He HO T0 P0
  iintro HO
  iapply (op_signal' Z K c 3 3 rfl (dev_sig4 c) rfl) $$ He HO T1 P1
  iintro HO
  simp only [wp_pure]
  imodintro
  iapply Hk $$ HO

/-- The last three signals, and the wait for the seven other devices. -/
theorem wp_part16 (w₁ w₂ : BitVec 32) (w₃ : BitVec 1) (w₄ : BitVec 32) (Q : _ → sProp 𝕄) :
    env Z K ⊢ iprop(ow 4 c -∗ sg (F := F) c 4 -∗ sg (F := F) c 5 -∗ sg (F := F) c 6 -∗ cred (tallyAt (barCell c) () 7) -∗ atPos ER (barCell c) 0 ∅ 0
      -∗ (∀ w, ow 7 c -∗ semVal (barCell c) 0 -∗ (bigSep Finset.univ fun i => barPay (F := F) i c) -∗ Q w)
      -∗ wpc (ap (k0_part16 (F := F)) c w₁ barA w₂ w₃ w₄) Q) := by
  unfold sg
  iintro #He HO ⟨T0, P0⟩ ⟨T1, P1⟩ ⟨T2, P2⟩ Hc Ha Hk
  simp only [ap, k0_part16_eq_skeleton, k0_part16_skel, Prog.bind_lift, semSignalWord, semWaitWord, Prog.bind_op, Prog.bind_ret]
  iapply (op_signal' Z K c 4 4 rfl (dev_sig5 c) rfl) $$ He HO T0 P0
  iintro HO
  iapply (op_signal' Z K c 5 5 rfl (dev_sig6 c) rfl) $$ He HO T1 P1
  iintro HO
  iapply (op_signal' Z K c 6 6 rfl (dev_sig7 c) rfl) $$ He HO T2 P2
  iintro HO
  iapply (op_barrier Z K c) $$ [HO Hc Ha]
  · isplitr; · iexact He
    isplitl [HO]; · iexact HO
    isplitl [Hc] <;> iassumption
  iintro ⟨HO, Hv, Hp⟩
  simp only [wp_pure]
  imodintro
  iapply Hk $$ HO Hv Hp

/-- Copy 0 of the keys. -/
theorem wp_part17 (w₁ : BitVec 32) (Q : _ → sProp 𝕄) :
    env Z K ⊢ iprop(ow 7 c -∗ sK Z c 0 -∗ (∀ w, ow 8 c -∗ arm (F := F) (KS 0) c -∗ Q w)
      -∗ wpc (ap (k0_part17 (F := F)) c w₁) Q) := by
  iintro #He HO S0 Hk
  simp only [ap, k0_part17_eq_skeleton, k0_part17_skel, Prog.bind_lift]
  iapply (op_sendK Z K c 0 7 rfl (dev8 c) rfl rfl) $$ He HO S0
  iintro HO A0
  simp only [wp_pure]
  imodintro
  iapply Hk $$ HO A0

/-- Copy 0 of the values; copy 1 of the keys. -/
theorem wp_part18 (w0 : BitVec 32) (Q : _ → sProp 𝕄) :
    env Z K ⊢ iprop(ow 8 c -∗ sV Z c 0 -∗ sK Z c 1 -∗ (∀ w, ow 10 c -∗ arm (F := F) (VS 0) c -∗ arm (F := F) (KS 1) c -∗ Q w)
      -∗ wpc (ap (k0_part18 (F := F)) c w0) Q) := by
  iintro #He HO S0 S1 Hk
  simp only [ap, k0_part18_eq_skeleton, k0_part18_skel, Prog.bind_lift]
  iapply (op_sendV Z K c 0 8 rfl (dev9 c) rfl rfl) $$ He HO S0
  iintro HO A0
  iapply (op_sendK Z K c 1 9 rfl (dev10 c) rfl rfl) $$ He HO S1
  iintro HO A1
  simp only [wp_pure]
  imodintro
  iapply Hk $$ HO A0 A1

/-- Copy 1 of the values; copy 2 of the keys. -/
theorem wp_part19 (w0 : BitVec 32) (Q : _ → sProp 𝕄) :
    env Z K ⊢ iprop(ow 10 c -∗ sV Z c 1 -∗ sK Z c 2 -∗ (∀ w, ow 12 c -∗ arm (F := F) (VS 1) c -∗ arm (F := F) (KS 2) c -∗ Q w)
      -∗ wpc (ap (k0_part19 (F := F)) c w0) Q) := by
  iintro #He HO S0 S1 Hk
  simp only [ap, k0_part19_eq_skeleton, k0_part19_skel, Prog.bind_lift]
  iapply (op_sendV Z K c 1 10 rfl (dev11 c) rfl rfl) $$ He HO S0
  iintro HO A0
  iapply (op_sendK Z K c 2 11 rfl (dev12 c) rfl rfl) $$ He HO S1
  iintro HO A1
  simp only [wp_pure]
  imodintro
  iapply Hk $$ HO A0 A1

/-- Copy 2 of the values. -/
theorem wp_part20 (w0 : BitVec 32) (w1 : BitVec 32) (Q : _ → sProp 𝕄) :
    env Z K ⊢ iprop(ow 12 c -∗ sV Z c 2 -∗ (∀ w, ow 13 c -∗ arm (F := F) (VS 2) c -∗ Q w)
      -∗ wpc (ap (k0_part20 (F := F)) c w0 w1) Q) := by
  iintro #He HO S0 Hk
  simp only [ap, k0_part20_eq_skeleton, k0_part20_skel, Prog.bind_lift]
  iapply (op_sendV Z K c 2 12 rfl (dev13 c) rfl rfl) $$ He HO S0
  iintro HO A0
  simp only [wp_pure]
  imodintro
  iapply Hk $$ HO A0

/-- Copy 3 of the keys; copy 3 of the values. -/
theorem wp_part21 (w0 : BitVec 32) (w1 : BitVec 32) (Q : _ → sProp 𝕄) :
    env Z K ⊢ iprop(ow 13 c -∗ sK Z c 3 -∗ sV Z c 3 -∗ (∀ w, ow 15 c -∗ arm (F := F) (KS 3) c -∗ arm (F := F) (VS 3) c -∗ Q w)
      -∗ wpc (ap (k0_part21 (F := F)) c w0 w1) Q) := by
  iintro #He HO S0 S1 Hk
  simp only [ap, k0_part21_eq_skeleton, k0_part21_skel, Prog.bind_lift]
  iapply (op_sendK Z K c 3 13 rfl (dev14 c) rfl rfl) $$ He HO S0
  iintro HO A0
  iapply (op_sendV Z K c 3 14 rfl (dev15 c) rfl rfl) $$ He HO S1
  iintro HO A1
  simp only [wp_pure]
  imodintro
  iapply Hk $$ HO A0 A1

/-- Copy 4 of the keys; copy 4 of the values. -/
theorem wp_part22 (w0 : BitVec 32) (w1 : BitVec 32) (Q : _ → sProp 𝕄) :
    env Z K ⊢ iprop(ow 15 c -∗ sK Z c 4 -∗ sV Z c 4 -∗ (∀ w, ow 17 c -∗ arm (F := F) (KS 4) c -∗ arm (F := F) (VS 4) c -∗ Q w)
      -∗ wpc (ap (k0_part22 (F := F)) c w0 w1) Q) := by
  iintro #He HO S0 S1 Hk
  simp only [ap, k0_part22_eq_skeleton, k0_part22_skel, Prog.bind_lift]
  iapply (op_sendK Z K c 4 15 rfl (dev16 c) rfl rfl) $$ He HO S0
  iintro HO A0
  iapply (op_sendV Z K c 4 16 rfl (dev17 c) rfl rfl) $$ He HO S1
  iintro HO A1
  simp only [wp_pure]
  imodintro
  iapply Hk $$ HO A0 A1

/-- Copy 5 of the keys; copy 5 of the values. -/
theorem wp_part23 (w0 : BitVec 32) (w1 : BitVec 32) (Q : _ → sProp 𝕄) :
    env Z K ⊢ iprop(ow 17 c -∗ sK Z c 5 -∗ sV Z c 5 -∗ (∀ w, ow 19 c -∗ arm (F := F) (KS 5) c -∗ arm (F := F) (VS 5) c -∗ Q w)
      -∗ wpc (ap (k0_part23 (F := F)) c w0 w1) Q) := by
  iintro #He HO S0 S1 Hk
  simp only [ap, k0_part23_eq_skeleton, k0_part23_skel, Prog.bind_lift]
  iapply (op_sendK Z K c 5 17 rfl (dev18 c) rfl rfl) $$ He HO S0
  iintro HO A0
  iapply (op_sendV Z K c 5 18 rfl (dev19 c) rfl rfl) $$ He HO S1
  iintro HO A1
  simp only [wp_pure]
  imodintro
  iapply Hk $$ HO A0 A1

/-- Copy 6 of the keys; copy 6 of the values. -/
theorem wp_part24 (w0 : BitVec 32) (w1 : BitVec 32) (w2 : BitVec 32) (w3 : BitVec 1) (w4 : BitVec 1) (w5 : BitVec 1) (Q : _ → sProp 𝕄) :
    env Z K ⊢ iprop(ow 19 c -∗ sK Z c 6 -∗ sV Z c 6 -∗ (∀ w, ow 21 c -∗ arm (F := F) (KS 6) c -∗ arm (F := F) (VS 6) c -∗ Q w)
      -∗ wpc (ap (k0_part24 (F := F)) c w0 w1 w2 w3 w4 w5) Q) := by
  iintro #He HO S0 S1 Hk
  simp only [ap, k0_part24_eq_skeleton, k0_part24_skel, Prog.bind_lift]
  iapply (op_sendK Z K c 6 19 rfl (dev20 c) rfl rfl) $$ He HO S0
  iintro HO A0
  iapply (op_sendV Z K c 6 20 rfl (dev21 c) rfl rfl) $$ He HO S1
  iintro HO A1
  simp only [wp_pure]
  imodintro
  iapply Hk $$ HO A0 A1

end Cert.Proof.Att
-- ==== Proof.Body.lean ====
module

public import proofs.«01_k».proof.Proof.Stage
public import proofs.«01_k».proof.Proof.PhaseA

/-! The whole body of one device. -/

@[expose] public section
noncomputable section

namespace Cert.Proof.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (Z : Cts F) (K : GSem nD τ sig → ℕ) (c : Dev nD)
local notation "wpc" => wp frame (wpE (defs₀ (F := F)) 𝒱₀ (c : Thread nD τ) none) Set.univ

/-- What a device's body takes from the launch. -/
def given (c : Dev nD) : sProp 𝕄 :=
  iprop(places (F := F) c ∗ opens (F := F) c ∗ tokens (F := F) c ∗ credits (F := F) c
    ∗ (bigSep Finset.univ fun i : Fin 7 => dutyTok ER (barCell (kvTgt i c)) 0 (bk i)) ∗ cred (tallyAt (barCell c) () 7) ∗ atPos ER (barCell c) 0 ∅ 0)
/-- The scratch buffers, at contents not chosen. -/
def scratch (c : Dev nD) : sProp 𝕄 :=
  iprop(anyB (F := F) (kgL c) ∗ anyB (F := F) (vgL c) ∗ anyB (F := F) (qL c) ∗ anyB (F := F) (bsL c) ∗ anyB (F := F) (brL c) ∗ anyB (F := F) (asL c) ∗ anyB (F := F) (arL c))
/-- The staged operands and the re-laid keys and values, as the body finds and leaves them. -/
def operands (x : XBuf F) (wq : WqBuf F) (wo : WoBuf F) : sProp 𝕄 :=
  iprop((xL c ↦{fullShare} x) ∗ (wqL c ↦{fullShare} wq) ∗ (woL c ↦{fullShare} wo) ∗ (ktL c ↦{fullShare} Z.kt c) ∗ (vtL c ↦{fullShare} Z.vt c))

theorem arms4 : iprop((bigSep Finset.univ fun i : Fin 7 => arm (F := F) (KS i) c) ∗ (bigSep Finset.univ fun i : Fin 7 => arm (F := F) (KR i) c)
      ∗ (bigSep Finset.univ fun i : Fin 7 => arm (F := F) (VS i) c) ∗ (bigSep Finset.univ fun i : Fin 7 => arm (F := F) (VR i) c))
    ⊢ bigSep Finset.univ fun i : Fin 7 => arm4 (F := F) i c := by
  unfold arm4; simp only [bsep]; exact BIBase.Entails.refl

/-- The last step of the doubling: the waits, and the other half put in place. -/
theorem foldEnd (O : Dev nD → OBuf F) (hra : Z.ra = raOf O) (h : BBuf F) (e : rd 0 h = Z.ra 0 c) : tA0 (oA1 O c) (sub (rR 0) h) c = oA0 O c := by
  have : sub (rR 0) h = sA0 (oA1 O (xr 0 c)) (xr 0 c) := by
    rw [hra] at e; exact e
  rw [this]; rfl

set_option maxHeartbeats 1600000 in
/-- The body of device `c`: from what the launch gives, the staged operands and any scratch, to the summed result, the
    scratch back and every semaphore spent. -/
theorem wp_body (O : Dev nD → OBuf F) (hrb : Z.rb = rbOf O) (hra : Z.ra = raOf O) (x : XBuf F) (wq : WqBuf F) (wo : WoBuf F)
    (hO : O c = oLoop (qF x wq) wo (gath Z.kt c) (gath Z.vt c) oZ k0_t1_loop.trips) (Q : PUnit → sProp 𝕄) :
    env Z K ⊢ iprop(given (F := F) c -∗ ow 0 c -∗ operands Z c x wq wo -∗ anyB (F := F) (oL c) -∗ scratch (F := F) c
      -∗ (ow 27 c -∗ operands Z c x wq wo -∗ (oL c ↦{fullShare} oA0 O c) -∗ scratch (F := F) c -∗ semVal (barCell c) 0 -∗ spent (F := F) c -∗ Q ⟨⟩)
      -∗ wpc (ap (cc0_body (F := F))) Q) := by
  unfold given scratch operands
  iintro #He ⟨Hpl, #Hop, Htk, Hcr, Hbt, Hbc, Hba⟩ HO ⟨Hx, Hwq, Hwo, Hkt, Hvt⟩ ⟨%o, Ho⟩ ⟨kg, vg, ⟨%q, Hq⟩, bs, br, as_, ar⟩ Hk
  ihave Hg := (stage_give c) $$ [kg vg br ar]
  · isplitr; · iexact Hop
    isplitl [kg]; · iexact kg
    isplitl [vg]; · iexact vg
    isplitl [br] <;> iassumption
  icases Hg with ⟨Hg, kg0, vg0, br0, ar0⟩
  ihave Hs := (show iprop((bigSep Finset.univ fun i : Fin 7 => dutyTok ER (barCell (kvTgt i c)) 0 (bk i)) ∗ bigSep Finset.univ fun i : Fin 7 => barPay (F := F) (bk i) (kvTgt i c))
      ⊢ iprop(sg (F := F) c 0 ∗ sg (F := F) c 1 ∗ sg (F := F) c 2 ∗ sg (F := F) c 3 ∗ sg (F := F) c 4 ∗ sg (F := F) c 5 ∗ sg (F := F) c 6) from
    Entails.of_eq ((bsep _ _ _).symm.trans (fin7 fun i => sg (F := F) c i))) $$ [Hbt Hg]
  · isplitl [Hbt] <;> iassumption
  icases Hs with ⟨s0, s1, s2, s3, s4, s5, s6⟩
  simp only [ap, cc0_body_eq_skeleton, cc0_body_skel, k0_part48_eq_skeleton, k0_part48_skel]
  simp only [wp_bind]
  iapply (wp_part14 Z K c _) $$ He HO s0 s1
  iintro %v2 %v30 %c8 %v31 HO
  iapply (wp_part15 Z K c _ _ _ _ _) $$ He HO s2 s3
  iintro %r15 HO
  iapply (wp_part16 Z K c _ _ _ _ _) $$ He HO s4 s5 s6 Hbc Hba
  iintro %v95 HO Hb0 Hp
  ihave Hr := (stage_take Z c) $$ [Hpl Htk Hcr Hkt Hvt bs as_ Hp]
  · isplitl [Hpl]; · iexact Hpl
    isplitr; · iexact Hop
    isplitl [Htk]; · iexact Htk
    isplitl [Hcr]; · iexact Hcr
    isplitl [Hkt]; · iexact Hkt
    isplitl [Hvt]; · iexact Hvt
    isplitl [bs]; · iexact bs
    isplitl [as_] <;> iassumption
  unfold ready
  icases Hr with ⟨HK, HV, aKR, aVR, ⟨f0, f1, kt0, vt0⟩, Hrs, Hag, bs0, as0⟩
  ihave HK := (Entails.of_eq (fin7 fun i => sK Z c i)) $$ HK
  icases HK with ⟨k0, k1, k2, k3, k4, k5, k6⟩
  ihave HV := (Entails.of_eq (fin7 fun i => sV Z c i)) $$ HV
  icases HV with ⟨w0, w1, w2, w3, w4, w5, w6⟩
  iapply (wp_part17 Z K c _ _) $$ He HO k0
  iintro %v105 HO a0
  iapply (wp_part18 Z K c _ _) $$ He HO w0 k1
  iintro %v136 HO b0 a1
  iapply (wp_part19 Z K c _ _) $$ He HO w1 k2
  iintro %v167 HO b1 a2
  iapply (wp_part20 Z K c _ _ _) $$ He HO w2
  iintro %v198 HO b2
  iapply (wp_part21 Z K c _ _ _) $$ He HO k3 w3
  iintro %v229 HO a3 b3
  iapply (wp_part22 Z K c _ _ _) $$ He HO k4 w4
  iintro %v260 HO a4 b4
  iapply (wp_part23 Z K c _ _ _) $$ He HO k5 w5
  iintro %r23 HO a5 b5
  iapply (wp_part24 Z K c _ _ _ _ _ _ _) $$ He HO k6 w6
  iintro %v291 HO a6 b6
  iapply (wp_part25 Z K c _ x wq q _) $$ He kt0 kg0 f0 vt0 vg0 f1 Hx Hwq Hq
  iintro l0 l1 Hx Hwq Hq
  iapply (wp_part26 c _ _ _ x _ _) $$ Hx Hq
  iintro Hx Hq
  iapply (wp_part27 c _ _ _) $$ Hq
  iintro Hq
  iapply (wp_part28 Z K c _ _ o _) $$ He Hq Ho HO l0 l1
  iintro Hq Ho HO g0 g1
  ihave Hq := (Entails.of_eq (congrArg (fun f : QBuf F => (qL c ↦{fullShare} f : sProp 𝕄)) (qAll_eq x wq q))) $$ [Hq]
  · iexact Hq
  ihave Ho := (Entails.of_eq (congrArg (fun f : OBuf F => (oL c ↦{fullShare} f : sProp 𝕄)) (o0_eq o))) $$ Ho
  ihave HA := (arms4 c) $$ [a0 a1 a2 a3 a4 a5 a6 b0 b1 b2 b3 b4 b5 b6 aKR aVR]
  · isplitl [a0 a1 a2 a3 a4 a5 a6]
    · iapply (Entails.of_eq (fin7 fun i => arm (F := F) (KS i) c).symm)
      isplitl [a0]; · iexact a0
      isplitl [a1]; · iexact a1
      isplitl [a2]; · iexact a2
      isplitl [a3]; · iexact a3
      isplitl [a4]; · iexact a4
      isplitl [a5] <;> iassumption
    isplitl [aKR]; · iexact aKR
    isplitr [aVR]
    · iapply (Entails.of_eq (fin7 fun i => arm (F := F) (VS i) c).symm)
      isplitl [b0]; · iexact b0
      isplitl [b1]; · iexact b1
      isplitl [b2]; · iexact b2
      isplitl [b3]; · iexact b3
      isplitl [b4]; · iexact b4
      isplitl [b5] <;> iassumption
    iexact aVR
  iapply (wp_gather Z K c _ _ _ _ _ _ _ _ (qF x wq) wo oZ _) $$ He HO HA g0 g1 Hq Hwo Ho
  unfold tripR
  iintro %r37 HO Hsem ⟨Hq, Hwo, kg, vg⟩ Ho Hkt Hvt
  ihave Ho := (Entails.of_eq (congrArg (fun f : OBuf F => (oL c ↦{fullShare} f : sProp 𝕄)) hO.symm)) $$ Ho
  iapply (wp_tail Z K c O hrb hra _ _ _ _ _) $$ He HO Ho Hrs Hag
  iintro %r46 %r47 HO Ho Hro Ha2 Ha1 aAS aAR
  simp only [← wp_bind]
  simp only [Prog.bind_lift, Prog.bind_op, Prog.bind_ret, Prog.pure_eq_ret]
  iapply (op_get Z K c (AS 0) 27 (by intro s hs; rw [show steps.drop 27 = [] from rfl] at hs; cases hs) ?_ ?_) $$ He HO aAS
  · rfl
  · rfl
  iintro HO I0
  iapply (op_get Z K c (AR 0) 27 (by intro s hs; rw [show steps.drop 27 = [] from rfl] at hs; cases hs) ?_ ?_) $$ He HO aAR
  · rfl
  · rfl
  iintro HO J0
  ihave I0 := (got_AS Z c 0) $$ I0
  icases I0 with ⟨I0, I0b⟩
  ihave J0 := (got_AR Z c 0) $$ J0
  icases J0 with ⟨J0, %i0, %j0, Y0⟩
  iapply (ld_ar c ?_ i0) $$ Y0; · rfl
  iintro Y0
  iapply (ld_o c _) $$ Ho; iintro Ho
  iapply (st_o c _) $$ Ho; iintro Ho
  ihave Ho := (Entails.of_eq (congrArg (fun f : OBuf F => (oL c ↦{fullShare} f : sProp 𝕄)) (foldEnd Z c O hra i0 j0))) $$ [Ho]
  · iexact Ho
  ihave Hc := (stage_close c) $$ [Hsem Hro Ha2 Ha1 I0 I0b J0 Y0 bs0 br0 as0 ar0]
  · isplitl [Hsem]; · iexact Hsem
    isplitl [Hro]; · iexact Hro
    isplitl [Ha2 Ha1 I0 I0b J0 Y0]
    · iapply (Entails.of_eq (fin3 fun k => agOut (F := F) c k).symm)
      isplitr [Ha2 Ha1]
      · unfold agOut
        isplitl [I0b]; · iexact I0b
        isplitl [Y0]; · iexists i0; iexact Y0
        isplitl [I0] <;> iassumption
      isplitl [Ha1] <;> iassumption
    isplitl [bs0]; · iexact bs0
    isplitl [br0]; · iexact br0
    isplitl [as0] <;> iassumption
  icases Hc with ⟨Hsp, bs, br, as_, ar⟩
  simp only [wp_ret]
  imodintro
  iapply Hk $$ HO [Hx Hwq Hwo Hkt Hvt] Ho [kg vg Hq bs br as_ ar] Hb0 Hsp
  · isplitl [Hx]; · iexact Hx
    isplitl [Hwq]; · iexact Hwq
    isplitl [Hwo]; · iexact Hwo
    isplitl [Hkt] <;> iassumption
  · isplitl [kg]; · iexists gath Z.kt c; iexact kg
    isplitl [vg]; · iexists gath Z.vt c; iexact vg
    isplitl [Hq]; · iexists qF x wq; iexact Hq
    isplitl [bs]; · iexact bs
    isplitl [br]; · iexact br
    isplitl [as_] <;> iassumption

end Cert.Proof.Att
-- ==== Proof.Region.lean ====
module

public import proofs.«01_k».proof.Proof.Body
public import Idealize.ShloMosaic.Lib.Pipeline.RegionTalk

/-! The kernel's call: what is staged, what is kept, and its body's obligation. -/

@[expose] public section
noncomputable section

namespace Cert.Proof.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (Dat Cfg BodyObligation cellOf)

variable (m : (ℓ : Loc nD τ sig) → Buf (Elt F) ℓ) (ρ : Dev nD → PrngReg) (c : Dev nD)

/-! ## What the run holds -/

/-- The staged operands of device `c`. -/
def xOf (c : Dev nD) : XBuf F := iblk m c 0 t0_0
def wqOf (c : Dev nD) : WqBuf F := iblk m c 1 t0_0
def woOf (c : Dev nD) : WoBuf F := iblk m c 2 t0_0
/-- The re-laid keys and values of each device. -/
def ktOf (c : Dev nD) : HBuf F := V m c main_v3
def vtOf (c : Dev nD) : HBuf F := V m c main_v6
/-- What each device has computed before the reduction. -/
def part (c : Dev nD) : OBuf F := oLoop (qF (xOf m c) (wqOf m c)) (woOf m c) (gath (ktOf m) c) (gath (vtOf m) c) oZ k0_t1_loop.trips
/-- What each device's result holds in the end. -/
@[irreducible] def outOf (c : Dev nD) : OBuf F := oA0 (part m) c
theorem outOf_eq (c : Dev nD) : outOf m c = oA0 (part m) c := by unfold outOf; rfl
/-- The contents the exchange moves. -/
def ZZ : Cts F := ⟨ktOf m, vtOf m, rbOf (part m), raOf (part m)⟩

/-- What a device keeps from the launch until its kernel starts. -/
def dormant (c : Dev nD) : sProp 𝕄 :=
  iprop((bigSep Finset.univ fun n : Cl => openTok ER (cell n c)) ∗ tokens (F := F) c ∗ credits (F := F) c
    ∗ (bigSep Finset.univ fun i : Fin 7 => dutyTok ER (barCell (kvTgt i c)) 0 (bk i)) ∗ cred (tallyAt (barCell c) () 7) ∗ atPos ER (barCell c) 0 ∅ 0)
def Tk (c : Dev nD) : sProp 𝕄 := iprop((∃ K, env (ZZ m) K) ∗ dormant (F := F) c)
def Xk (c : Dev nD) : sProp 𝕄 := iprop((∃ K, env (ZZ m) K) ∗ given (F := F) c)
def Yk (c : Dev nD) : sProp 𝕄 := semVal (barCell c) 0

/-- The relaid keys and values, as the kernel finds and leaves them. -/
def relaid (c : Dev nD) : sProp 𝕄 := iprop((ktL c ↦{fullShare} ktOf m c) ∗ (vtL c ↦{fullShare} vtOf m c))

/-- The kernel's proof data. -/
def dat (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outOf m c
    | ⟨_ + 4, h⟩ => absurd h (Nat.not_lt.2 (Nat.le_add_left _ _))
  Φ t := if t.val = 0 then iprop(Xk m c ∗ relaid m c ∗ scratch (F := F) c ∗ ∃ r, prngReg c r)
    else iprop(Yk (F := F) c ∗ relaid m c ∗ spent (F := F) c ∗ scratch (F := F) c ∗ ∃ r, prngReg c r)
  q _ := fullShare
  owed t := if t.val = 0 then due 0 c else 0

abbrev adm : (p : Fin 1) → (pcfgs (F := F) p).Adm := fun p => (cfgs p).toPCfg_adm
def pdats (p : Fin 1) (c : Dev nD) : Dat τ (Elt F) Unit ℕ UU ℕ (Pipeline.pin (pcfgs (F := F)) adm p) c := dat m c

theorem before_x (t : Fin cfg0.N) (d) : (dat m c).before 0 t d = iblk m c 0 t :=
  ((dat m c).before_in_eq_fetched 0 rfl (fun _ => rfl) (fun _ _ _ => rfl) (fun t => rfl) t d).trans rfl
theorem before_wq (t : Fin cfg0.N) (d) : (dat m c).before 1 t d = iblk m c 1 t :=
  ((dat m c).before_in_eq_fetched 1 rfl (fun _ => rfl) (fun _ _ _ => rfl) (fun t => rfl) t d).trans rfl
theorem before_wo (t : Fin cfg0.N) (d) : (dat m c).before 2 t d = iblk m c 2 t :=
  ((dat m c).before_in_eq_fetched 2 rfl (fun _ => rfl) (fun _ _ _ => rfl) (fun t => rfl) t d).trans rfl

theorem owed_first : (dat m c).owed t0_0.castSucc = due 0 c := by
  show (if (t0_0.castSucc : Fin (cfg0.N + 1)).val = 0 then due 0 c else 0) = due 0 c; exact if_pos rfl
theorem owed_last : (pdats m 0 c).owed (Fin.last _) = 0 := by
  show (if (Fin.last cfg0.N).val = 0 then due 0 c else 0) = 0
  rw [Fin.val_last, if_neg (by rw [show cfg0.N = 1 from N_0]; decide)]

/-! ## The kernel's call -/

theorem owes_start : ((dat m c).owesAt () t0_0.castSucc : sProp 𝕄) ⊢ ow 0 c := by
  unfold Dat.owesAt Pipeline.owesWithin ow; rw [owed_first]
  iintro ⟨%W, -, HO⟩; iexists W; iexact HO
theorem owes_end : ow 27 c ⊢ ((dat m c).owesAt () t0_0.succ : sProp 𝕄) := by
  unfold Dat.owesAt Pipeline.owesWithin Dat.bound ow
  rw [show (dat m c).owed t0_0.succ = due 27 c from rfl, show (dat m c).recorded t0_0.succ = Set.univ from rfl]
  iintro ⟨%W, HO⟩; iexists W; isplitr; · ipureintro; exact fun _ _ => Or.inl trivial
  iexact HO

set_option maxRecDepth 8000 in
set_option maxHeartbeats 1600000 in
/-- The body does what the proof data say. -/
theorem body_ob : BodyObligation (dat m c) (defs₀ (F := F)) 𝒱₀ () Set.univ := fun t => by
  obtain rfl := fin_N0 t
  rw [bigSep_W0, bigSep_W0]
  simp only [owns_whole_eq]
  rw [show (dat m c).Φ t0_0.castSucc = iprop(Xk m c ∗ relaid m c ∗ scratch (F := F) c ∗ ∃ r, prngReg c r) from rfl,
    show (dat m c).Φ t0_0.succ = iprop(Yk (F := F) c ∗ relaid m c ∗ spent (F := F) c ∗ scratch (F := F) c ∗ ∃ r, prngReg c r) from rfl]
  show iprop((Xk m c ∗ relaid m c ∗ scratch (F := F) c ∗ ∃ r, prngReg c r) ∗ (dat m c).owesAt () t0_0.castSucc
      ∗ (∃ d, ∃ f : Buf (Elt F) (xL c), ⌜f = (dat m c).before 0 t0_0 d⌝ ∗ (xL c ↦{fullShare} f))
      ∗ (∃ d, ∃ f : Buf (Elt F) (wqL c), ⌜f = (dat m c).before 1 t0_0 d⌝ ∗ (wqL c ↦{fullShare} f))
      ∗ (∃ d, ∃ f : Buf (Elt F) (woL c), ⌜f = (dat m c).before 2 t0_0 d⌝ ∗ (woL c ↦{fullShare} f))
      ∗ (∃ d, ∃ f : Buf (Elt F) (oL c), ⌜f = (dat m c).before 3 t0_0 d⌝ ∗ (oL c ↦{fullShare} f)))
    ⊢ wp frame (wpE (defs₀ (F := F)) 𝒱₀ (c : Thread nD τ) none) Set.univ (ap (cc0_body (F := F))) fun _ =>
      iprop((Yk (F := F) c ∗ relaid m c ∗ spent (F := F) c ∗ scratch (F := F) c ∗ ∃ r, prngReg c r) ∗ (dat m c).owesAt () t0_0.succ
        ∗ (∃ f : Buf (Elt F) (xL c), ⌜f = xOf m c⌝ ∗ (xL c ↦{fullShare} f))
        ∗ (∃ f : Buf (Elt F) (wqL c), ⌜f = wqOf m c⌝ ∗ (wqL c ↦{fullShare} f))
        ∗ (∃ f : Buf (Elt F) (woL c), ⌜f = woOf m c⌝ ∗ (woL c ↦{fullShare} f))
        ∗ (∃ f : Buf (Elt F) (oL c), ⌜f = outOf m c⌝ ∗ (oL c ↦{fullShare} f)))
  unfold Xk relaid Yk
  iintro ⟨⟨⟨⟨%K, He⟩, Hg⟩, ⟨Hkt, Hvt⟩, Hs, Hp⟩, HO, ⟨%d0, %f0, %e0, Hx⟩, ⟨%d1, %f1, %e1, Hwq⟩, ⟨%d2, %f2, %e2, Hwo⟩, ⟨%d3, %f3, -, Ho⟩⟩
  rw [before_x] at e0; rw [before_wq] at e1; rw [before_wo] at e2
  subst e0 e1 e2
  ihave HO := (owes_start m c) $$ HO
  iapply (wp_body (ZZ m) K c (part m) rfl rfl (xOf m c) (wqOf m c) (woOf m c) rfl _) $$ He Hg HO [Hx Hwq Hwo Hkt Hvt] [Ho] Hs
  · unfold operands
    isplitl [Hx]; · iexact Hx
    isplitl [Hwq]; · iexact Hwq
    isplitl [Hwo]; · iexact Hwo
    isplitl [Hkt]; · iexact Hkt
    iexact Hvt
  · iexists f3; iexact Ho
  unfold operands
  iintro HO ⟨Hx, Hwq, Hwo, Hkt, Hvt⟩ Ho Hs Hb Hsp
  isplitl [Hb Hkt Hvt Hsp Hs Hp]
  · isplitl [Hb]; · iexact Hb
    isplitl [Hkt Hvt]
    · isplitl [Hkt]; · iexact Hkt
      iexact Hvt
    isplitl [Hsp]; · iexact Hsp
    isplitl [Hs] <;> iassumption
  isplitl [HO]; · iapply (owes_end m c); iexact HO
  isplitl [Hx]; · iexists _; isplitr; · (ipureintro; rfl)
                  iexact Hx
  isplitl [Hwq]; · iexists _; isplitr; · (ipureintro; rfl)
                   iexact Hwq
  isplitl [Hwo]; · iexists _; isplitr; · (ipureintro; rfl)
                   iexact Hwo
  iexists _; isplitr; · (ipureintro; exact (outOf_eq m c).symm)
  iexact Ho

end Cert.Proof.Att
-- ==== Proof.Launch.lean ====
module

public import proofs.«01_k».proof.Proof.Region

/-! The region and the host's part before it. -/

@[expose] public section
noncomputable section

namespace Cert.Proof.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (Dat Cfg BodyObligation cellOf)

variable (m : (ℓ : Loc nD τ sig) → Buf (Elt F) ℓ) (ρ : Dev nD → PrngReg) (c : Dev nD)

/-! ## The region -/

/-- The re-laid keys and values: what the kernel addresses itself. -/
abbrev Hs : Finset (DevRef τ sig) := {Proc.devRef .tc main_v3, Proc.devRef .tc main_v6}
/-- The unscoped buffers that no window stages. -/
abbrev Sr : Finset (DevRef τ sig) := Pipeline.ucRefs τ sig \ Pipeline.arrRefs (τ := τ) spec0

/-- What the unscoped buffers hold when the kernel is called, and when it returns. -/
abbrev W0 (c : Dev nD) : Valuation τ sig (Elt F) := StableHlo.after hostOps0 (fun b => m (c, b))
def W1 (c : Dev nD) : Valuation τ sig (Elt F) := Function.update (W0 m c) (Proc.devRef .tc main_v7) ((dat m c).arrAt 3 cfg0.N)

theorem W1_ne (b : DevRef τ sig) (h : b ≠ Proc.devRef .tc main_v7) : W1 m c b = W0 m c b := Function.update_of_ne h _ _
theorem W1_out : W1 m c (Proc.devRef .tc main_v7) = (dat m c).arrAt 3 cfg0.N := Function.update_self _ _ _

theorem arr_mem (w : Fin 4) : Proc.devRef (τ := τ) .tc (Pipeline.arrRef spec0 w) ∈ Pipeline.arrRefs (τ := τ) spec0 :=
  Finset.mem_map_of_mem _ (Finset.mem_image_of_mem _ (Finset.mem_univ w))

theorem hHS : Hs ⊆ Sr := by
  intro b hb
  rw [Finset.mem_sdiff]
  have hu : ∀ r : Ref sig .tc, r.isScoped = false → Proc.devRef (τ := τ) .tc r ∈ Pipeline.ucRefs τ sig := fun r hr =>
    Finset.mem_filter.mpr ⟨Finset.mem_map_of_mem _ (Finset.mem_univ r), by show ¬ (r.isScoped = true); rw [hr]; decide⟩
  have hn : ∀ r : Ref sig .tc, (∀ w : Fin 4, Pipeline.arrRef spec0 w ≠ r) → Proc.devRef (τ := τ) .tc r ∉ Pipeline.arrRefs (τ := τ) spec0 := fun r hr h => by
    obtain ⟨r', h', e⟩ := Finset.mem_map.mp h
    obtain ⟨w, -, rfl⟩ := Finset.mem_image.mp h'
    exact hr w (Proc.devRef_injective _ e)
  rcases Finset.mem_insert.mp hb with rfl | hb
  · exact ⟨hu main_v3 rfl, hn main_v3 (by decide)⟩
  · rw [Finset.mem_singleton.mp hb]; exact ⟨hu main_v6 rfl, hn main_v6 (by decide)⟩

theorem held_Hs (c : Dev nD) (W : Valuation τ sig (Elt F)) : (StableHlo.held (c : Thread nD τ) Hs W : sProp 𝕄)
    = iprop((ktL c ↦{fullShare} W (Proc.devRef .tc main_v3)) ∗ (vtL c ↦{fullShare} W (Proc.devRef .tc main_v6))) := by
  unfold StableHlo.held
  rw [bigSep_insert (by rw [Finset.mem_singleton]; exact StableHlo.devRef_ne_of_ne (by decide)), bigSep_singleton]; rfl

theorem owns_scoped : Pipeline.OwnSemFacts spec0 osem where
  isScoped n := (by decide : ∀ k : DmaSem sig, (SemLoc.dma k : SemLoc sig).isScoped .tc = true) (dsem n)
  inj := osem_inj
  disj n w s := fun h => by
    have h4 : 4 ≤ num n := by rcases n with ⟨f, i⟩ | ⟨f, k⟩ | j <;> simp only [num] <;> omega
    have e := congrArg cls h
    rw [cls_osem] at e
    revert e
    have : ∀ (w : Fin 4) (s : Fin (spec0 w).nbuf), cls (.dma ((spec0 w).sem s)) = none := by decide
    rw [this]; intro e; cases e

theorem shares (w : Fin cfg0.W) : (dat m c).share w = fullShare := by unfold Dat.share; split <;> rfl

/-- Opening every semaphore of the exchange. -/
theorem open_all : iprop(Tk m c ∗ Pipeline.ownSems0 osem c ∗ levAts L lv) ⊢ (|={Set.univ}=> Xk m c : sProp 𝕄) := by
  unfold Tk Xk dormant given Pipeline.ownSems0
  iintro ⟨⟨⟨%K, #He⟩, Ho, Htk, Hcr, Hbt, Hbc, Hba⟩, Hs, -⟩
  have hone (n : Cl) : iprop(env (ZZ m) K ∗ (openTok ER (cell n c) ∗ semVal (cell n c) 0))
      ⊢ (|={Set.univ}=> (atPos ER (cell n c) 0 ∅ 0 ∗ reached ER (cell n c) 0) : sProp 𝕄) := by
    iintro ⟨#He, Ho, Hs⟩
    iapply (Rounds.cell_open ER (sch (ZZ m)) (g := cell n c) (Set.mem_univ (K (cell n c))))
    isplitr; · iapply (env_cell (ZZ m) K n c); iexact He
    isplitl [Ho] <;> iassumption
  ihave H := (bigSep_with_persistent (S := Finset.univ) (R := env (ZZ m) K) (Φ := fun n : Cl => iprop(openTok ER (cell n c) ∗ semVal (cell n c) 0)) fun n _ => hone n) $$ [Ho Hs]
  · isplitr; · iexact He
    iapply (Entails.of_eq (bsep _ _ _).symm)
    isplitl [Ho]; · iexact Ho
    iexact Hs
  imod (bigSep_fupd Finset.univ _) $$ H with H
  ihave H := (Entails.of_eq (bsep _ _ _)) $$ H
  icases H with ⟨Ha, Hr⟩
  imodintro
  isplitr; · iexists K; iexact He
  unfold places opens
  isplitl [Ha]; · iexact Ha
  isplitl [Hr]; · iexact Hr
  isplitl [Htk]; · iexact Htk
  isplitl [Hcr]; · iexact Hcr
  isplitl [Hbt]; · iexact Hbt
  isplitl [Hbc] <;> iassumption

theorem enter : iprop(Pipeline.scopedRest (Pipeline.pin (pcfgs (F := F)) adm 0).spec c ∗ (∃ r, prngReg c r) ∗ StableHlo.held (c.tc : Thread nD τ) Hs (W0 m c) ∗ Xk m c)
    ⊢ (pdats m 0 c).Φ 0 := by
  rw [show (pdats m 0 c).Φ 0 = iprop(Xk m c ∗ relaid m c ∗ scratch (F := F) c ∗ ∃ r, prngReg c r) from rfl,
    show (Pipeline.scopedRest (Ix := Unit) (Name := ℕ) (U := UU) (Lvl := ℕ) (Val := Elt F) (Pipeline.pin (pcfgs (F := F)) adm 0).spec c : sProp 𝕄) = scratch (F := F) c from scopedRest0_eq c, held_Hs]
  unfold relaid
  iintro ⟨Hs, Hp, Hh, HX⟩
  isplitl [HX]; · iexact HX
  isplitl [Hh]; · iexact Hh
  isplitl [Hs] <;> iassumption

theorem leave : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (W1 m c) ∗ Pipeline.ownSems0 osem c ∗ Yk (F := F) c) := by
  rw [show (pdats m 0 c).Φ (Fin.last _) = iprop(Yk (F := F) c ∗ relaid m c ∗ spent (F := F) c ∗ scratch (F := F) c ∗ ∃ r, prngReg c r) from rfl,
    show (Pipeline.scopedRest (Ix := Unit) (Name := ℕ) (U := UU) (Lvl := ℕ) (Val := Elt F) (Pipeline.pin (pcfgs (F := F)) adm 0).spec c : sProp 𝕄) = scratch (F := F) c from scopedRest0_eq c, held_Hs,
    show (Pipeline.ownSems0 osem c : sProp 𝕄) = spent (F := F) c from rfl,
    W1_ne m c _ (StableHlo.devRef_ne_of_ne (by decide)), W1_ne m c _ (StableHlo.devRef_ne_of_ne (by decide))]
  unfold relaid
  iintro ⟨Hb, Hh, Hsp, Hs, Hp⟩
  isplitl [Hs]; · iexact Hs
  isplitl [Hp]; · iexact Hp
  isplitl [Hh]; · iexact Hh
  isplitl [Hsp]; · iexact Hsp
  iexact Hb

theorem cut (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then due 0 c else 0 := rfl
  rw [e] at h
  split at h
  · obtain ⟨s, hs, rfl⟩ := owed_pos _ c g i h
    refine ⟨by rw [L_tc]; exact Finset.mem_singleton_self _, ?_⟩
    cases i; rw [lv_st]
    have : ∀ s ∈ steps, 0 < stRank s := by
      intro s hs
      simp only [steps, List.mem_cons, List.not_mem_nil, or_false] at hs
      rcases hs with rfl | rfl | rfl | rfl | rfl | rfl | rfl | rfl | rfl | rfl | rfl | rfl | rfl | rfl | rfl | rfl | rfl | rfl | rfl | rfl | rfl | rfl | rfl | rfl | rfl | rfl | rfl <;> decide
    exact this s hs
  · exact absurd h (Nat.lt_irrefl 0)

theorem arr_start (w : Fin cfg0.W) : (dat m c).arrAt w 0 = W0 m c (Proc.devRef .tc (Pipeline.arrRef spec0 w)) := rfl
theorem arr_end (w : Fin cfg0.W) : (dat m c).arrAt w cfg0.N = W1 m c (Proc.devRef .tc (Pipeline.arrRef spec0 w)) := by
  match w with
  | ⟨0, _⟩ => exact ((dat m c).arrAt_in 0 rfl _).trans (W1_ne m c (Proc.devRef .tc main_arg0) (StableHlo.devRef_ne_of_ne (by decide))).symm
  | ⟨1, _⟩ => exact ((dat m c).arrAt_in 1 rfl _).trans (W1_ne m c (Proc.devRef .tc main_arg1) (StableHlo.devRef_ne_of_ne (by decide))).symm
  | ⟨2, _⟩ => exact ((dat m c).arrAt_in 2 rfl _).trans (W1_ne m c (Proc.devRef .tc main_arg4) (StableHlo.devRef_ne_of_ne (by decide))).symm
  | ⟨3, _⟩ => exact (W1_out m c).symm
  | ⟨_ + 4, h⟩ => exact absurd h (Nat.not_lt.2 (Nat.le_add_left _ _))

set_option backward.isDefEq.respectTransparency.types false in
/-- The kernel's call. -/
def reg : Pipeline.RegionSeg (pcfgs (F := F)) adm (pdats m) () defs₀ 𝒱₀ L lv 0 :=
  Pipeline.RegionSeg.ofTalk (pcfgs (F := F)) adm (pdats m) () defs₀ 𝒱₀ L lv 0 osem owns_scoped
    Hs Sr hHS (launch0.toP) rfl (fun c => (body_ob m c).loose)
    (fun _ => 0) (due 0) (fun c => (zero_add _).symm) (owed_last m) (fun _ => rfl) (shares m)
    (W0 m) (W1 m) (fun c b hb => W1_ne m c b (by
      rintro rfl
      exact (Finset.mem_sdiff.mp (Finset.mem_sdiff.mp hb).1).2 (arr_mem 3)))
    (Tk m) (Yk (F := F)) (Xk m) (Yk (F := F)) (open_all m) (enter m) (leave m)
    (fun c => by iintro H; imodintro; iexact H)
    (fun _ => 0)
    ⟨fun c w s => by rw [L_tc]; exact Finset.mem_singleton_self _,
     fun c w s => by
       have : ∀ (w : Fin 4) (s : Fin (spec0 w).nbuf), lv ((c : Thread nD τ), .dma ((spec0 w).sem s)) () = 0 := by
         have h : ∀ (w : Fin 4) (s : Fin (spec0 w).nbuf), cls (.dma ((spec0 w).sem s)) = none := by decide
         intro w s; show rank (cls _) = 0; rw [h]; rfl
       exact (this w s).le,
     fun c t g i h => cut m c t g i h⟩
    (fun _ => iprop(emp))
    (arr_start m) (arr_end m)

/-! ## The host's part -/

/-- What rides beside the buffers up to the kernel. -/
def R (c : Dev nD) : sProp 𝕄 := iprop((Tk m c ∗ ∃ r, prngReg c r) ∗ ∃ W, owes (c : Thread nD τ) (due 0 c) W)

def seg : Pipeline.HostSeg (Name := ℕ) (U := UU) (pcfgs (F := F)) defs₀ 𝒱₀ L lv :=
  Pipeline.HostSeg.ofOps _ _ _ _ _ (Pipeline.ucRefs τ sig) hostOps0
    (fun op h => Pipeline.sub_ucRefs op (List.forall_iff_forall_mem.mp hostOps0_sub op h)) (List.forall_iff_forall_mem.mp hostOps0_fresh)
    (fun c b => m (c, b)) (R m)

def segs : List (Pipeline.Seg (pcfgs (F := F)) adm (pdats m) () defs₀ 𝒱₀ L lv) := [.host (seg m), .region (reg m)]

theorem main_eq (c : Dev nD) : main (F := F) c = Pipeline.Seg.run (segs m) :=
  main_segs adm (pdats m) () 𝒱₀ L lv (seg m) (reg m) rfl c

theorem arr_sub : Pipeline.arrRefs (τ := τ) spec0 ⊆ Pipeline.ucRefs τ sig := by
  intro b hb
  obtain ⟨r', h', rfl⟩ := Finset.mem_map.mp hb
  obtain ⟨w, -, rfl⟩ := Finset.mem_image.mp h'
  have hs : ∀ w : Fin 4, (Pipeline.arrRef spec0 w).isScoped = false := by decide
  exact Finset.mem_filter.mpr ⟨Finset.mem_map_of_mem _ (Finset.mem_univ _), by show ¬ ((Pipeline.arrRef spec0 w).isScoped = true); rw [hs]; decide⟩

theorem reg_pre : iprop(StableHlo.held (c : Thread nD τ) (Pipeline.ucRefs τ sig) (W0 m c) ∗ R m c) ⊢ (reg m).pre c := by
  show _ ⊢ iprop(StableHlo.held (c.tc : Thread nD τ) (Pipeline.arrRefs (τ := τ) spec0) (W0 m c) ∗ (∃ r, prngReg c r)
    ∗ (StableHlo.held (c.tc : Thread nD τ) Sr (W0 m c) ∗ emp) ∗ Tk m c ∗ ∃ Wd, owes (c : Thread nD τ) (0 + due 0 c) Wd)
  rw [StableHlo.held_sub_split (c.tc : Thread nD τ) arr_sub (W0 m c), zero_add]
  unfold R
  iintro ⟨⟨Ha, Hr⟩, ⟨HT, Hp⟩, HO⟩
  isplitl [Ha]; · iexact Ha
  isplitl [Hp]; · iexact Hp
  isplitl [Hr]
  · isplitl [Hr]; · iexact Hr
    iempintro
  isplitl [HT] <;> iassumption

theorem reg_post : (reg m).post c
    ⊢ iprop(StableHlo.held (c : Thread nD τ) (Pipeline.ucRefs τ sig) (W1 m c) ∗ (semVal (barCell c) 0 ∗ ∃ W, owes (c : Thread nD τ) (0 : CellTallies nD τ sig Unit) W)) := by
  show iprop(StableHlo.held (c.tc : Thread nD τ) (Pipeline.arrRefs (τ := τ) spec0) (W1 m c) ∗ (∃ r, prngReg c r)
    ∗ (StableHlo.held (c.tc : Thread nD τ) Sr (W1 m c) ∗ emp) ∗ Yk (F := F) c ∗ ∃ Wd, owes (c : Thread nD τ) (0 : CellTallies nD τ sig Unit) Wd) ⊢ _
  rw [StableHlo.held_sub_split (c.tc : Thread nD τ) arr_sub (W1 m c)]
  unfold Yk
  iintro ⟨Ha, -, ⟨Hr, -⟩, Hb, HO⟩
  isplitl [Ha Hr]
  · isplitl [Ha] <;> iassumption
  isplitl [Hb] <;> iassumption

end Cert.Proof.Att
-- ==== Proof.Run.lean ====
module

public import proofs.«01_k».proof.Proof.Launch
public import Idealize.ShloMosaic.Lib.Quiescent
public import Idealize.ShloMosaic.Lib.Pipeline.Value
public import Idealize.ShloMosaic.Lib.Pipeline.ValueKit.Geometry

/-! The launch deals the exchange's records; the run. -/

@[expose] public section
noncomputable section

namespace Cert.Proof.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (Dat Cfg BodyObligation cellOf)

variable (m : (ℓ : Loc nD τ sig) → Buf (Elt F) ℓ) (ρ : Dev nD → PrngReg) (c : Dev nD)

/-! ## The cells and the tokens -/

def barE : Dev nD ↪ GSem nD τ sig := ⟨fun c => barCell c, fun _ _ h => congrArg (fun g : GSem nD τ sig => g.1.1) h⟩
def cellE : Dev nD × Cl ↪ GSem nD τ sig :=
  ⟨fun cn => cell cn.2 cn.1, fun _ _ h => Prod.ext (congrArg (fun g : GSem nD τ sig => g.1.1) h) (osem_inj (congrArg Prod.snd h))⟩
abbrev barCells : Finset (GSem nD τ sig) := Finset.univ.map barE
abbrev copyCells : Finset (GSem nD τ sig) := Finset.univ.map cellE

def tokOf : Dev nD × (Fin 7 ⊕ Cl) → GSem nD τ sig × ℕ × Fin 7
  | (c, .inl i) => (barCell c, 0, i)
  | (c, .inr n) => (cell n c, 0, 0)
theorem tokOf_inj : Function.Injective tokOf := by
  rintro ⟨c, i | n⟩ ⟨c', i' | n'⟩ h
  · have h1 : c = c' := congrArg (fun x : GSem nD τ sig × ℕ × Fin 7 => x.1.1.1) h
    have h2 : i = i' := congrArg (fun x : GSem nD τ sig × ℕ × Fin 7 => x.2.2) h
    rw [h1, h2]
  · exact absurd (congrArg (fun x : GSem nD τ sig × ℕ × Fin 7 => x.1.2) h).symm (osem_ne_bar n' barS)
  · exact absurd (congrArg (fun x : GSem nD τ sig × ℕ × Fin 7 => x.1.2) h) (osem_ne_bar n barS)
  · have h1 : c = c' := congrArg (fun x : GSem nD τ sig × ℕ × Fin 7 => x.1.1.1) h
    have h2 : n = n' := osem_inj (congrArg (fun x : GSem nD τ sig × ℕ × Fin 7 => x.1.2) h)
    rw [h1, h2]
def toks : Finset (GSem nD τ sig × ℕ × Fin 7) := Finset.univ.map ⟨tokOf, tokOf_inj⟩

theorem cells_disj : Disjoint barCells copyCells := by
  rw [Finset.disjoint_left]
  rintro g h₁ h₂
  obtain ⟨c, -, rfl⟩ := Finset.mem_map.mp h₁
  obtain ⟨cn, -, h⟩ := Finset.mem_map.mp h₂
  exact osem_ne_bar cn.2 barS (congrArg Prod.snd h)

/-- What the launch starts the records with. -/
def u₀ : UU :=
  (initOf (Pipeline.cells (Pipeline.pin (pcfgs (F := F)) adm) cellOf_inj) (Pipeline.launchToks (Pipeline.pin (pcfgs (F := F)) adm) cellOf_inj),
    launchOf barCells copyCells toks)

/-- A resource given to one device alone. -/
def onDev (c₀ : Dev nD) (X : sProp 𝕄) (c : Dev nD) : sProp 𝕄 := if c = c₀ then X else iprop(emp)
theorem onDev_all (c₀ : Dev nD) (X : sProp 𝕄) : bigSep Finset.univ (onDev c₀ X) = X := by
  rw [bigSep_univ_at _ c₀, bigSep_congr (s := Finset.univ.erase c₀) (Ψ := fun _ => (BI.emp : sProp 𝕄))
      fun c hc => by unfold onDev; rw [if_neg (Finset.ne_of_mem_erase hc)]; rfl, bigSep_emp_const]
  unfold onDev; rw [if_pos rfl]
  exact BI.equiv_iff.mp sep_emp
def G : Dev nD → sProp 𝕄 := onDev 0 (BI.own (ER (launchOf barCells copyCells toks)))

/-- The payee of a semaphore's duty, as a permutation of the devices. -/
def payeeE (n : Cl) : Dev nD ≃ Dev nD :=
  match n with
  | .inl (1, i) => kvE i
  | .inl (3, i) => kvE i
  | .inr (.inl (1, k)) => xrE k
  | .inr (.inl (3, k)) => xrE k
  | .inl (0, _) => Equiv.refl _
  | .inl (2, _) => Equiv.refl _
  | .inr (.inl (0, _)) => Equiv.refl _
  | .inr (.inl (2, _)) => Equiv.refl _
  | .inr (.inr _) => Equiv.refl _
theorem payeeE_apply (n : Cl) (c : Dev nD) : payeeE n c = payee n c := by
  rcases n with ⟨f, i⟩ | ⟨f, k⟩ | j
  · fin_cases f <;> rfl
  · fin_cases f <;> rfl
  · rfl

/-- The tokens, each handed to the device that pays with it. -/
theorem toks_around : (bigSep toks fun x => (dutyTok ER x.1 x.2.1 x.2.2 : sProp 𝕄))
    ⊢ iprop((bigSep Finset.univ fun c : Dev nD => tokens (F := F) c)
      ∗ bigSep Finset.univ fun c : Dev nD => bigSep Finset.univ fun i : Fin 7 => dutyTok ER (barCell (kvTgt i c)) 0 (bk i)) := by
  have hA : (bigSep Finset.univ fun c : Dev nD => bigSep Finset.univ fun n : Cl => (dutyTok ER (cell n c) 0 (0 : Fin 7) : sProp 𝕄))
      = bigSep Finset.univ fun c : Dev nD => tokens (F := F) c := by
    unfold tokens
    rw [bigSep_univ_comm, bigSep_univ_comm fun (c : Dev nD) (n : Cl) => (dutyTok ER (cell n (payee n c)) 0 (0 : Fin 7) : sProp 𝕄)]
    refine bigSep_congr fun n _ => ?_
    rw [bigSep_univ_equiv (payeeE n) fun c : Dev nD => (dutyTok ER (cell n c) 0 (0 : Fin 7) : sProp 𝕄)]
    exact bigSep_congr fun c _ => by rw [payeeE_apply]
  have hB : (bigSep Finset.univ fun c : Dev nD => bigSep Finset.univ fun i : Fin 7 => (dutyTok ER (barCell c) 0 i : sProp 𝕄))
      = bigSep Finset.univ fun c : Dev nD => bigSep Finset.univ fun i : Fin 7 => dutyTok ER (barCell (kvTgt i c)) 0 (bk i) := by
    rw [bigSep_univ_comm, bigSep_univ_comm fun (c : Dev nD) (i : Fin 7) => (dutyTok ER (barCell (kvTgt i c)) 0 (bk i) : sProp 𝕄),
      bigSep_univ_equiv bkE fun i : Fin 7 => bigSep Finset.univ fun c : Dev nD => (dutyTok ER (barCell c) 0 i : sProp 𝕄)]
    refine bigSep_congr fun i _ => ?_
    rw [bigSep_univ_equiv (kvE i) fun c : Dev nD => (dutyTok ER (barCell c) 0 (bkE i) : sProp 𝕄)]
    rfl
  refine BIBase.Entails.trans ?_ (Entails.of_eq ((bsep _ _ _).trans (congr (congrArg BI.sep hA) hB)))
  unfold toks
  rw [bigSep_map, bigSep_univ_prod]
  refine Entails.of_eq (bigSep_congr fun c _ => ?_)
  rw [bigSep_univ_sum]
  exact BI.equiv_iff.mp ⟨BI.sep_comm, BI.sep_comm⟩

theorem sub_of {ι : Type} [DecidableEq ι] {s t : Finset ι} (h : t ⊆ s) (Φ : ι → sProp 𝕄) : bigSep s Φ ⊢ bigSep t Φ := bigSep_subset h
theorem union_of {ι : Type} [DecidableEq ι] {s t : Finset ι} (h : Disjoint s t) (Φ : ι → sProp 𝕄) : bigSep (s ∪ t) Φ ⊢ iprop(bigSep s Φ ∗ bigSep t Φ) :=
  Entails.of_eq (bigSep_union h)

/-! ## The launch credit -/

/-- Each payment comes to a device from exactly one other. -/
theorem step_one (s : Step) (c : Dev nD) : ∃ e : Dev nD, ∀ d, stTgt s d = c ↔ d = e := by
  rcases s with i | ⟨f, i⟩ | ⟨f, k⟩ | j
  · exact ⟨kvSrc i c, fun d => ⟨fun h => by rw [← h]; exact (kvSrc_kvTgt i d).symm, fun h => by rw [h]; exact kvTgt_kvSrc i c⟩⟩
  · exact ⟨kvSrc i c, fun d => ⟨fun h => by rw [← h]; exact (kvSrc_kvTgt i d).symm, fun h => by rw [h]; exact kvTgt_kvSrc i c⟩⟩
  · exact ⟨xr k c, fun d => ⟨fun h => by rw [← h]; exact (xr_xr k d).symm, fun h => by rw [h]; exact xr_xr k c⟩⟩
  · exact ⟨c, fun d => Iff.rfl⟩

open scoped Classical in
/-- All that the devices owe one semaphore is what the payments on that semaphore amount to. -/
theorem owed_sum (sm : SemLoc sig) (l : List Step) :
    (∑ d : Dev nD, owed l d ((c : Thread nD τ), sm) ()) = (l.map fun s => if stSem s = sm then stAmt s else 0).sum := by
  induction l with
  | nil => exact Finset.sum_const_zero
  | cons s l ih =>
    rw [List.map_cons, List.sum_cons, ← ih, add_comm, ← Finset.sum_add_distrib.trans (congrArg _ ?_)]
    · rfl
    obtain ⟨e, he⟩ := step_one s c
    have h1 : ∀ d : Dev nD, tallyAt ((stTgt s d : Thread nD τ), stSem s) () (stAmt s) ((c : Thread nD τ), sm) ()
        = if d = e then (if stSem s = sm then stAmt s else 0) else 0 := fun d => by
      rw [tallyAt_apply]
      by_cases hd : d = e
      · rw [if_pos hd]
        have hc := (he d).mpr hd
        by_cases hs : stSem s = sm
        · rw [if_pos hs, if_pos ⟨by rw [hc, hs], rfl⟩]
        · rw [if_neg hs, if_neg (fun h => hs (congrArg Prod.snd h.1).symm)]
      · rw [if_neg hd, if_neg (fun h => hd ((he d).mp (congrArg (fun g : GSem nD τ sig => g.1.1) h.1).symm))]
    rw [Finset.sum_congr rfl fun d _ => h1 d, Finset.sum_ite_eq' Finset.univ e fun _ => _, if_pos (Finset.mem_univ _)]

/-- A semaphore's number among the payments, the barrier at none. -/
def stN : Step → ℕ
  | .inl _ => 0
  | .inr n => num n
theorem num_inj {n n' : Cl} (h : num n = num n') : n = n' := osem_inj (by
  show (SemLoc.dma (dsem n) : SemLoc sig) = .dma (dsem n')
  exact congrArg SemLoc.dma (Fin.ext h))
theorem num_pos (n : Cl) : 0 < num n := by rcases n with ⟨f, i⟩ | ⟨f, k⟩ | j <;> simp only [num] <;> omega

open scoped Classical in
theorem owed_cell (n : Cl) : (∑ d : Dev nD, due 0 d (cell n c) ()) = (steps.map fun s => if stN s = num n then stAmt s else 0).sum := by
  rw [owed_sum c (osem n)]
  refine congrArg List.sum (List.map_congr_left fun s _ => ?_)
  refine if_congr ?_ rfl rfl
  rcases s with i | n'
  · exact ⟨fun h => absurd h.symm (osem_ne_bar n barS), fun h => absurd h (num_pos n).ne⟩
  · exact ⟨fun h => congrArg num (osem_inj h), fun h => congrArg osem (num_inj h)⟩
open scoped Classical in
theorem owed_bar : (∑ d : Dev nD, due 0 d (barCell c) ()) = (steps.map fun s => if stN s = 0 then stAmt s else 0).sum := by
  rw [owed_sum c (.reg barS)]
  refine congrArg List.sum (List.map_congr_left fun s _ => ?_)
  refine if_congr ?_ rfl rfl
  rcases s with i | n'
  · exact ⟨fun _ => rfl, fun _ => rfl⟩
  · exact ⟨fun h => absurd h (osem_ne_bar n' barS), fun h => absurd h (num_pos n').ne'⟩

theorem owed_bar7 : (∑ d : Dev nD, due 0 d (barCell c) ()) = 7 := by
  rw [owed_bar]; simp [steps, stN, num, stAmt]
theorem owed_KR (i : Fin 7) : (∑ d : Dev nD, due 0 d (cell (KR i) c) ()) = amt (KR i) := by
  rw [owed_cell]; fin_cases i <;> simp [steps, stN, num, stAmt]
theorem owed_VR (i : Fin 7) : (∑ d : Dev nD, due 0 d (cell (VR i) c) ()) = amt (VR i) := by
  rw [owed_cell]; fin_cases i <;> simp [steps, stN, num, stAmt]
theorem owed_RR (k : Fin 3) : (∑ d : Dev nD, due 0 d (cell (RR k) c) ()) = amt (RR k) := by
  rw [owed_cell]; fin_cases k <;> simp [steps, stN, num, stAmt]
theorem owed_AR (k : Fin 3) : (∑ d : Dev nD, due 0 d (cell (AR k) c) ()) = amt (AR k) := by
  rw [owed_cell]; fin_cases k <;> simp [steps, stN, num, stAmt]

theorem credit_of (g : GSem nD τ sig) (N : ℕ) (h : (∑ d : Dev nD, due 0 d g ()) = N) :
    tallyOn g (launchCredit (Pipeline.owing (due 0)) 0 g) = (tallyAt g () N : CellTallies nD τ sig Unit) := by
  unfold tallyAt; refine congrArg _ (Finsupp.ext fun u => ?_); cases u
  rw [Pipeline.launchCredit_owing, Finsupp.single_eq_same, h]

theorem creds : (Pipeline.launchCred (due 0) c : sProp 𝕄) ⊢ iprop(credits (F := F) c ∗ cred (tallyAt (barCell c) () 7)) := by
  unfold Pipeline.launchCred
  rw [bigSep_univ_at _ (SemLoc.reg barS), credit_of _ _ (owed_bar7 c)]
  have hsub : (Finset.univ.map ⟨osem, osem_inj⟩ : Finset (SemLoc sig)) ⊆ Finset.univ.erase (SemLoc.reg barS) := fun sm h => by
    obtain ⟨n, -, rfl⟩ := Finset.mem_map.mp h
    exact Finset.mem_erase.mpr ⟨osem_ne_bar n barS, Finset.mem_univ _⟩
  iintro ⟨Hb, H⟩
  isplitr [Hb]
  · ihave H := (sub_of hsub fun sm : SemLoc sig => (cred (tallyOn ((c.tc : Thread nD τ), sm) (launchCredit (Pipeline.owing (due 0)) 0 ((c.tc : Thread nD τ), sm))) : sProp 𝕄)) $$ H
    ihave H := (Entails.of_eq (bigSep_map (s := Finset.univ) ⟨osem, osem_inj⟩
      (Φ := fun sm : SemLoc sig => (cred (tallyOn ((c.tc : Thread nD τ), sm) (launchCredit (Pipeline.owing (due 0)) 0 ((c.tc : Thread nD τ), sm))) : sProp 𝕄)))) $$ H
    ihave H := (Entails.of_eq (all_cl fun n : Cl => (cred (tallyOn (cell n c) (launchCredit (Pipeline.owing (due 0)) 0 (cell n c))) : sProp 𝕄))) $$ H
    icases H with ⟨⟨-, HK, -, HV⟩, ⟨-, HR, -, HA⟩, -⟩
    unfold credits
    have e1 : (fun i : Fin 7 => (cred (tallyOn (cell (KR i) c) (launchCredit (Pipeline.owing (due 0)) 0 (cell (KR i) c))) : sProp 𝕄)) = fun i => cred (tallyAt (cell (KR i) c) () (amt (KR i))) :=
      funext fun i => by rw [credit_of _ _ (owed_KR c i)]
    have e2 : (fun i : Fin 7 => (cred (tallyOn (cell (VR i) c) (launchCredit (Pipeline.owing (due 0)) 0 (cell (VR i) c))) : sProp 𝕄)) = fun i => cred (tallyAt (cell (VR i) c) () (amt (VR i))) :=
      funext fun i => by rw [credit_of _ _ (owed_VR c i)]
    have e3 : (fun k : Fin 3 => (cred (tallyOn (cell (RR k) c) (launchCredit (Pipeline.owing (due 0)) 0 (cell (RR k) c))) : sProp 𝕄)) = fun k => cred (tallyAt (cell (RR k) c) () (amt (RR k))) :=
      funext fun k => by rw [credit_of _ _ (owed_RR c k)]
    have e4 : (fun k : Fin 3 => (cred (tallyOn (cell (AR k) c) (launchCredit (Pipeline.owing (due 0)) 0 (cell (AR k) c))) : sProp 𝕄)) = fun k => cred (tallyAt (cell (AR k) c) () (amt (AR k))) :=
      funext fun k => by rw [credit_of _ _ (owed_AR c k)]
    isplitl [HK]; · iapply (Entails.of_eq (congrArg (bigSep Finset.univ) e1)) $$ HK
    isplitl [HV]; · iapply (Entails.of_eq (congrArg (bigSep Finset.univ) e2)) $$ HV
    isplitl [HR]; · iapply (Entails.of_eq (congrArg (bigSep Finset.univ) e3)) $$ HR
    iapply (Entails.of_eq (congrArg (bigSep Finset.univ) e4)) $$ HA
  · iexact Hb

/-! ## The run -/

abbrev T₀ (c : Dev nD) : sProp 𝕄 := iprop(StableHlo.held (c : Thread nD τ) (Pipeline.ucRefs τ sig) (fun b => m (c, b)) ∗ R m c)
abbrev Tₙ (c : Dev nD) : sProp 𝕄 := iprop(StableHlo.held (c : Thread nD τ) (Pipeline.ucRefs τ sig) (W1 m c) ∗ semVal (barCell c) 0)

/-- What of a device's launch holdings is not the exchange's. -/
def bundle (c : Dev nD) : sProp 𝕄 :=
  iprop(StableHlo.held (c : Thread nD τ) (Pipeline.ucRefs τ sig) (fun b => m (c, b)) ∗ (credits (F := F) c ∗ cred (tallyAt (barCell c) () 7))
    ∗ owes (c : Thread nD τ) (due 0 c) ∅ ∗ ∃ r, prngReg c r)
/-- What of the exchange's is one device's. -/
def share1 (c : Dev nD) : sProp 𝕄 :=
  iprop((bigSep Finset.univ fun n : Cl => openTok ER (cell n c)) ∗ tokens (F := F) c
    ∗ (bigSep Finset.univ fun i : Fin 7 => dutyTok ER (barCell (kvTgt i c)) 0 (bk i)) ∗ atPos ER (barCell c) 0 ∅ 0)

theorem T₀_intro (K : GSem nD τ sig → ℕ) : iprop(env (ZZ m) K ∗ (share1 (F := F) c ∗ bundle m c)) ⊢ T₀ m c := by
  unfold T₀ share1 bundle R Tk dormant
  iintro ⟨#He, ⟨Ho, Ht, Hbt, Ha⟩, Hh, ⟨Hc, Hb⟩, HO, Hp⟩
  isplitl [Hh]; · iexact Hh
  isplitr [HO]
  · isplitr [Hp]
    · isplitr; · iexists K; iexact He
      isplitl [Ho]; · iexact Ho
      isplitl [Ht]; · iexact Ht
      isplitl [Hc]; · iexact Hc
      isplitl [Hbt]; · iexact Hbt
      isplitl [Hb] <;> iassumption
    iexact Hp
  iexists ∅; iexact HO

theorem unscoped_eq (sm : SemLoc sig) (h : sm.isScoped .tc = false) : sm = .reg barS := by
  rcases sm with s | s
  · exact congrArg SemLoc.reg ((by decide : ∀ s s' : Sem sig, s = s') s barS)
  · exact absurd h (by rw [(by decide : ∀ k : DmaSem sig, (SemLoc.dma k : SemLoc sig).isScoped .tc = true) s]; decide)

theorem unscopedSems_eq : (unscopedSems0 c : sProp 𝕄) = semVal (barCell c) 0 := by
  unfold unscopedSems0
  rw [show (Finset.univ.filter fun sm : SemLoc sig => ¬ sm.isScoped .tc) = {SemLoc.reg barS} from Finset.ext fun sm => by
    rw [Finset.mem_filter, Finset.mem_singleton]
    refine ⟨fun h => unscoped_eq sm (by simpa using h.2), fun h => ⟨Finset.mem_univ _, ?_⟩⟩
    rw [h]; decide, bigSep_singleton]

theorem core (c : Dev nD) : iprop(unscopedBufs c (fun b => m ((c : Thread nD τ).loc b)) ∗ unscopedSems0 c
      ∗ owes (c : Thread nD τ) (due 0 c) ∅ ∗ Pipeline.launchCred (due 0) c ∗ prngReg c (ρ c) ∗ G (F := F) c)
    ⊢ (iprop(bundle m c ∗ (semVal (barCell c) 0 ∗ G (F := F) c)) : sProp 𝕄) := by
  rw [show (unscopedBufs c (fun b => m ((c : Thread nD τ).loc b)) : sProp 𝕄) = StableHlo.held (c : Thread nD τ) (Pipeline.ucRefs τ sig) (fun b => m (c, b))
    from Pipeline.unscopedBufs_held c (fun b => m (c, b)), unscopedSems_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

/-- The launch deals every device its part. -/
theorem init :
    iprop((bigSep Finset.univ fun c : Dev nD => iprop(unscopedBufs c (fun b => m ((c : Thread nD τ).loc b)) ∗ unscopedSems0 c
          ∗ owes (c : Thread nD τ) (due 0 c) ∅ ∗ Pipeline.launchCred (due 0) c ∗ prngReg c (ρ c) ∗ G (F := F) c)) ∗ levAts L lv)
      ⊢ (|={Set.univ}=> bigSep Finset.univ (T₀ m) : sProp 𝕄) := by
  have hbar (Φ : GSem nD τ sig → sProp 𝕄) : bigSep barCells Φ = bigSep Finset.univ fun c : Dev nD => Φ (barCell c) :=
    bigSep_map (s := Finset.univ) barE (Φ := Φ)
  have hcell (Φ : GSem nD τ sig → sProp 𝕄) : bigSep copyCells Φ = bigSep Finset.univ fun cn : Dev nD × Cl => Φ (cell cn.2 cn.1) :=
    bigSep_map (s := Finset.univ) cellE (Φ := Φ)
  iintro ⟨H, #Hlev⟩
  ihave H := (show (bigSep Finset.univ fun c : Dev nD => iprop(unscopedBufs c (fun b => m ((c : Thread nD τ).loc b)) ∗ unscopedSems0 c
          ∗ owes (c : Thread nD τ) (due 0 c) ∅ ∗ Pipeline.launchCred (due 0) c ∗ prngReg c (ρ c) ∗ G (F := F) c))
      ⊢ (iprop((bigSep Finset.univ fun c : Dev nD => bundle m c) ∗ (bigSep Finset.univ fun c : Dev nD => semVal (barCell c) 0) ∗ bigSep Finset.univ (G (F := F))) : sProp 𝕄) from
    (bigSep_mono fun c _ => core m ρ c).trans (Entails.of_eq ((bsep _ _ _).trans (by rw [bsep])))) $$ H
  icases H with ⟨HB, Hv, HG⟩
  ihave Hu := (Entails.of_eq (onDev_all (F := F) 0 (BI.own (ER (launchOf barCells copyCells toks))))) $$ [HG]
  · iexact HG
  ihave Hv := (Entails.of_eq (hbar fun g => semVal g 0).symm) $$ Hv
  imod (Rounds.fund_launch ER (sch (ZZ m)) cells_disj (fun g _ h => h) toks) $$ [Hv Hu] with ⟨%K, -, Hinv, Hr, Hat, Hopen, Htok⟩
  · isplitl [Hv]
    · iexact Hv
    · iexact Hu
  ihave Hinv := (union_of cells_disj fun g => cellInv ER (sch (ZZ m)) (K g) g) $$ Hinv
  icases Hinv with ⟨Hi1, Hi2⟩
  ihave Hi1 := (Entails.of_eq (hbar fun g => cellInv ER (sch (ZZ m)) (K g) g)) $$ Hi1
  ihave Hi2 := (Entails.of_eq (hcell fun g => cellInv ER (sch (ZZ m)) (K g) g)) $$ Hi2
  ihave Hr := (Entails.of_eq (hbar fun g => reached ER g 0)) $$ Hr
  ihave Hat := (Entails.of_eq (hbar fun g => atPos ER g 0 ∅ 0)) $$ Hat
  ihave Hopen := (Entails.of_eq ((hcell fun g => openTok ER g).trans (bigSep_univ_prod _))) $$ Hopen
  ihave Htok := (toks_around (F := F)) $$ Htok
  icases Htok with ⟨Ht, Hbt⟩
  imodintro
  iapply (bigSep_with_persistent (R := env (ZZ m) K) (Φ := fun c => iprop(share1 (F := F) c ∗ bundle m c)) fun c _ => T₀_intro m c K)
  isplitl [Hi1 Hi2 Hr]
  · unfold env
    isplitl [Hi1]; · iexact Hi1
    isplitl [Hi2]; · iexact Hi2
    isplitl [Hr]; · iexact Hr
    iexact Hlev
  iapply (Entails.of_eq (bsep _ _ _).symm)
  isplitr [HB]
  · unfold share1
    iapply (Entails.of_eq (bsep _ _ _).symm); isplitl [Hopen]; · iexact Hopen
    iapply (Entails.of_eq (bsep _ _ _).symm); isplitl [Ht]; · iexact Ht
    iapply (Entails.of_eq (bsep _ _ _).symm); isplitl [Hbt]; · iexact Hbt
    iexact Hat
  · iexact HB

/-! ## What the run leaves -/

theorem out_array : (dat m c).arrAt 3 cfg0.N = outOf m c :=
  (dat m c).arrAt_eq_of_after_last 3 t0_0 (by decide +kernel) (outOf m c) fun _ => rfl

/-- The buffers the run's promise is read from. -/
abbrev kept : List (DevRef τ sig) := [Proc.devRef .tc main_arg0, Proc.devRef .tc main_arg1, Proc.devRef .tc main_arg2,
  Proc.devRef .tc main_arg3, Proc.devRef .tc main_arg4, Proc.devRef .tc main_v7]

theorem kept_nodup : kept.Nodup := by decide

theorem kept_sub : kept.toFinset ⊆ Pipeline.ucRefs τ sig := fun b hb => by
  have hu : ∀ r : Ref sig .tc, r.isScoped = false → Proc.devRef (τ := τ) .tc r ∈ Pipeline.ucRefs τ sig := fun r h =>
    Finset.mem_filter.mpr ⟨Finset.mem_map_of_mem _ (Finset.mem_univ r), by show ¬ (r.isScoped = true); rw [h]; decide⟩
  simp only [kept, List.mem_toFinset, List.mem_cons, List.not_mem_nil, or_false] at hb
  rcases hb with rfl | rfl | rfl | rfl | rfl | rfl <;> exact hu _ (by decide)

theorem held_kept (W : Valuation τ sig (Elt F)) : (StableHlo.held (c : Thread nD τ) (Pipeline.ucRefs τ sig) W : sProp 𝕄)
    ⊢ iprop(((c.tc : Thread nD τ).loc main_arg0 ↦{fullShare} W (Proc.devRef .tc main_arg0)) ∗ ((c.tc : Thread nD τ).loc main_arg1 ↦{fullShare} W (Proc.devRef .tc main_arg1))
      ∗ ((c.tc : Thread nD τ).loc main_arg2 ↦{fullShare} W (Proc.devRef .tc main_arg2)) ∗ ((c.tc : Thread nD τ).loc main_arg3 ↦{fullShare} W (Proc.devRef .tc main_arg3))
      ∗ ((c.tc : Thread nD τ).loc main_arg4 ↦{fullShare} W (Proc.devRef .tc main_arg4)) ∗ ((c.tc : Thread nD τ).loc main_v7 ↦{fullShare} W (Proc.devRef .tc main_v7))) := by
  unfold StableHlo.held
  refine (sub_of kept_sub _).trans (Entails.of_eq ?_)
  rw [bigSep_eq_bigSepL_of_eq kept rfl kept_nodup]
  rfl

set_option backward.isDefEq.respectTransparency.types false in
/-- From any memory with every semaphore at zero, the kernel ends, leaves its arguments as they were, the result at
    every device's last buffer, and every semaphore at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_v7) = outOf m c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := due 0) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [onDev_all]; iexact HX)
    (T₀ := T₀ m) (Tₙ := Tₙ m)
    (hch := by
      refine ⟨fun c => .rfl, fun c => reg_pre m c, fun c => (reg_post m c).trans ?_⟩
      iintro ⟨Hh, Hb0, HO⟩
      isplitr [HO]
      · isplitl [Hh] <;> iassumption
      · iexact HO)
    (hinit := init m ρ)
    (QY := fun c s => (s.mem ((c.tc : Thread nD τ).loc main_arg0) = W1 m c (Proc.devRef .tc main_arg0)
      ∧ s.mem ((c.tc : Thread nD τ).loc main_arg1) = W1 m c (Proc.devRef .tc main_arg1)
      ∧ s.mem ((c.tc : Thread nD τ).loc main_arg2) = W1 m c (Proc.devRef .tc main_arg2)
      ∧ s.mem ((c.tc : Thread nD τ).loc main_arg3) = W1 m c (Proc.devRef .tc main_arg3)
      ∧ s.mem ((c.tc : Thread nD τ).loc main_arg4) = W1 m c (Proc.devRef .tc main_arg4)
      ∧ s.mem ((c.tc : Thread nD τ).loc main_v7) = W1 m c (Proc.devRef .tc main_v7)) ∧ s.sem (barCell c) = 0)
    (hfin := fun c s' => by
      iintro ⟨⟨Hh, Hb0⟩, HSI⟩
      ihave Hh := (held_kept c (W1 m c)) $$ Hh
      icases Hh with ⟨H0, H1, H2, H3, H4, H5⟩
      icombine HSI H0 gives %h0
      icombine HSI H1 gives %h1
      icombine HSI H2 gives %h2
      icombine HSI H3 gives %h3
      icombine HSI H4 gives %h4
      icombine HSI H5 gives %h5
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, by simpa using hb⟩
      iexact HSI)
    (hQ := fun s h hs => ⟨fun c => by
        obtain ⟨⟨h0, h1, h2, h3, h4, h5⟩, -⟩ := h c
        rw [W1_ne m c (Proc.devRef .tc main_arg0) (StableHlo.devRef_ne_of_ne (by decide))] at h0
        rw [W1_ne m c (Proc.devRef .tc main_arg1) (StableHlo.devRef_ne_of_ne (by decide))] at h1
        rw [W1_ne m c (Proc.devRef .tc main_arg2) (StableHlo.devRef_ne_of_ne (by decide))] at h2
        rw [W1_ne m c (Proc.devRef .tc main_arg3) (StableHlo.devRef_ne_of_ne (by decide))] at h3
        rw [W1_ne m c (Proc.devRef .tc main_arg4) (StableHlo.devRef_ne_of_ne (by decide))] at h4
        rw [W1_out, out_array] at h5
        exact ⟨h0.trans (V_main_arg0 m c), h1.trans (V_main_arg1 m c), h2.trans (V_main_arg2 m c), h3.trans (V_main_arg3 m c), h4.trans (V_main_arg4 m c), h5⟩,
      sem_eq_zero hs fun c sm hsm => by
        obtain rfl := unscoped_eq sm hsm
        exact (h c).2⟩)

end Cert.Proof.Att
-- ==== Proof.Soft.lean ====
module

public import Idealize.ShloMosaic.PureOps.Ideal
public import Idealize.ShloMosaic.PureOps.Ideal.Laws

/-! The weighted mean that attention takes, over the extended reals: scores, values, a mask. -/

@[expose] public section
noncomputable section

namespace Cert.Proof.Att

open Idealize.ShloMosaic

/-- The values' mean weighted by the exponentials of the scores less their maximum. -/
def soft {ι : Type} [Fintype ι] (s v : ι → EReal) : EReal :=
  ∑ k, Ideal.div (Ideal.exp (s k - Finset.univ.fold max ⊥ s)) (∑ k', Ideal.exp (s k' - Finset.univ.fold max ⊥ s)) * v k

variable {ι κ : Type} [Fintype ι] [Fintype κ]

theorem fold_sup (s : ι → EReal) : Finset.univ.fold max ⊥ s = Finset.univ.sup s := rfl

/-- Naming the columns otherwise changes nothing. -/
theorem soft_equiv (e : ι ≃ κ) (s v : κ → EReal) : soft (fun k => s (e k)) (fun k => v (e k)) = soft s v := by
  have hM : Finset.univ.fold max ⊥ (fun k => s (e k)) = Finset.univ.fold max ⊥ s := by
    rw [fold_sup, fold_sup]
    refine le_antisymm (Finset.sup_le fun k _ => Finset.le_sup (Finset.mem_univ (e k))) (Finset.sup_le fun k _ => ?_)
    have := Finset.le_sup (f := fun k => s (e k)) (Finset.mem_univ (e.symm k))
    simpa using this
  unfold soft
  rw [hM, Equiv.sum_comp e fun k => Ideal.exp (s k - Finset.univ.fold max ⊥ s)]
  exact Equiv.sum_comp e fun k => Ideal.div (Ideal.exp (s k - Finset.univ.fold max ⊥ s)) (∑ k', Ideal.exp (s k' - Finset.univ.fold max ⊥ s)) * v k

theorem exp_nonneg (x : EReal) : 0 ≤ Ideal.exp x := by
  induction x with
  | bot => simp
  | top => exact le_top
  | coe r => exact EReal.coe_nonneg.mpr (Real.exp_pos r).le

/-- Of real scores, of which there is one at least, the weights' sum is not zero. -/
theorem den_ne_zero [Nonempty ι] (s : ι → EReal) (hs : ∀ k, ∃ r : ℝ, s k = r) :
    ∑ k, Ideal.exp (s k - Finset.univ.fold max ⊥ s) ≠ 0 := by
  obtain ⟨k, -, hk⟩ := Finset.exists_mem_eq_sup (Finset.univ : Finset ι) Finset.univ_nonempty s
  obtain ⟨r, hr⟩ := hs k
  have h1 : Ideal.exp (s k - Finset.univ.fold max ⊥ s) = 1 := by
    rw [fold_sup, hk, hr, ← EReal.coe_sub, sub_self]
    exact congrArg (fun x : ℝ => (x : EReal)) Real.exp_zero
  have h2 : (1 : EReal) ≤ ∑ k, Ideal.exp (s k - Finset.univ.fold max ⊥ s) := by
    rw [← h1]
    exact Finset.single_le_sum (f := fun k => Ideal.exp (s k - Finset.univ.fold max ⊥ s)) (fun i _ => exp_nonneg _) (Finset.mem_univ k)
  intro h
  rw [h] at h2
  exact absurd h2 (by norm_num)

/-- Columns masked by −∞ weigh nothing: what is left is the mean over the columns kept. -/
theorem soft_masked [Nonempty ι] (e : ι → κ) (he : Function.Injective e) (s v : κ → EReal)
    (hs : ∀ k, ∃ r : ℝ, s (e k) = r) (hm : ∀ j, (∀ k, e k ≠ j) → s j = ⊥) :
    soft s v = soft (fun k => s (e k)) (fun k => v (e k)) := by
  classical
  have hM : Finset.univ.fold max ⊥ s = Finset.univ.fold max ⊥ (fun k => s (e k)) := by
    rw [fold_sup, fold_sup]
    refine le_antisymm (Finset.sup_le fun j _ => ?_) (Finset.sup_le fun k _ => Finset.le_sup (f := s) (Finset.mem_univ (e k)))
    rcases Classical.em (∃ k, e k = j) with ⟨k, rfl⟩ | h
    · exact Finset.le_sup (f := fun k => s (e k)) (Finset.mem_univ k)
    · rw [hm j fun k hk => h ⟨k, hk⟩]; exact bot_le
  have hz : ∀ j, (∀ k, e k ≠ j) → ∀ M : EReal, Ideal.exp (s j - M) = 0 := fun j hj M => by
    rw [hm j hj, EReal.bot_sub]; simp
  have hsum : ∀ g : κ → EReal, (∀ j, (∀ k, e k ≠ j) → g j = 0) → ∑ j, g j = ∑ k, g (e k) := fun g hg => by
    rw [← Finset.sum_image (s := Finset.univ) (g := e) (f := g) fun a _ b _ h => he h]
    refine (Finset.sum_subset (Finset.subset_univ _) fun j _ hj => hg j fun k hk => hj ?_).symm
    exact Finset.mem_image.mpr ⟨k, Finset.mem_univ k, hk⟩
  unfold soft
  rw [hM, hsum (fun j => Ideal.exp (s j - Finset.univ.fold max ⊥ fun k => s (e k))) fun j hj => hz j hj _]
  refine hsum _ fun j hj => ?_
  rw [hz j hj, Ideal.div, if_neg (den_ne_zero _ hs), zero_mul, zero_mul]

end Cert.Proof.Att
-- ==== Proof.Blk.lean ====
module

public import proofs.«01_k».proof.Proof.Trip
public import proofs.«01_k».proof.Proof.Soft
public import Idealize.ShloMosaic.Lib.Pointwise

/-! One block of attention at an index. -/

@[expose] public section
set_option maxRecDepth 16384
noncomputable section

namespace Cert.Proof.Att

open Idealize.ShloMosaic
open Cert.KernelIdeal Cert.KernelIdeal.Gen

variable {F : FTy → Type} [FloatOps F]

/-- The head's part of a block of 128 rows of the result: the queries' attention through the output weight. -/
def po (wo : FVec F S64x768 .bf16) (qc : FVec F S128x64 .bf16) (kc vc : FVec F S1024x64 .bf16) : FVec F S128x768 .f32 :=
  have s : FVec F S128x1024 .f32 := matmul dot_S128x64_S1024x64_S128x1024_1_1_0_0_n_n none qc kc (constant S128x1024 .f32 0x00000000#32)
  have mx : FVec F S128 .f32 := multiReduction .maximumf [1] S128 s 0xFF800000#32 reduces_S128x1024_S128 (.inl rfl) rfl
  have w : FVec F S128x1024 .f32 := exp (subf s (broadcastTo S128x1024 (shapeCast S128x1 mx shapeCasts_S128_S128x1) broadcasts_S128x1_S128x1024))
  have den : FVec F S128 .f32 := multiReduction .add [1] S128 w 0x00000000#32 reduces_S128x1024_S128 (.inl rfl) rfl
  have wn : FVec F S128x1024 .bf16 := truncf .bf16 (divf w (broadcastTo S128x1024 (shapeCast S128x1 den shapeCasts_S128_S128x1) broadcasts_S128x1_S128x1024)) bitsLt_bf16_f32
  have ctx : FVec F S128x64 .f32 := matmul dot_S128x1024_S1024x64_S128x64_1_0_0_1_n_n none wn vc (constant S128x64 .f32 0x00000000#32)
  matmul dot_S128x64_S64x768_S128x768_1_0_0_1_n_n none (truncf .bf16 ctx bitsLt_bf16_f32) wo (constant S128x768 .f32 0x00000000#32)

/-- Its first 64 rows added to a block of the result; its last 64. -/
def blkA (wo : FVec F S64x768 .bf16) (qc : FVec F S128x64 .bf16) (kc vc : FVec F S1024x64 .bf16) (o : Vec F S1x64x768 .f32) : FVec F S1x64x768 .f32 :=
  shapeCast S1x64x768 (addf (shapeCast S64x768 o shapeCasts_S1x64x768_S64x768) (extractStridedSlice S64x768 ![0, 0] (po wo qc kc vc) slices_S128x768_o0_0_S64x768)) shapeCasts_S64x768_S1x64x768
def blkB (wo : FVec F S64x768 .bf16) (qc : FVec F S128x64 .bf16) (kc vc : FVec F S1024x64 .bf16) (o : Vec F S1x64x768 .f32) : FVec F S1x64x768 .f32 :=
  shapeCast S1x64x768 (addf (shapeCast S64x768 o shapeCasts_S1x64x768_S64x768) (extractStridedSlice S64x768 ![64, 0] (po wo qc kc vc) slices_S128x768_o64_0_S64x768)) shapeCasts_S64x768_S1x64x768

theorem neg_inf : Ideal.ofBits .f32 0xFF800000#32 = ⊥ := by simp [Ideal.ofBits, Ideal.ieee]

/-- An element of the head's part: over the columns of the head, the mean of the values times the weight. -/
theorem po_at (wo : FVec Ideal S64x768 .bf16) (qc : FVec Ideal S128x64 .bf16) (kc vc : FVec Ideal S1024x64 .bf16) (r : Fin 128) (e : Fin 768) :
    po wo qc kc vc (ix2 r e) = ∑ d : Fin 64, soft (fun k : Fin 1024 => ∑ x : Fin 64, qc (ix2 r x) * kc (ix2 k x)) (fun k => vc (ix2 k d)) * wo (ix2 d e) := by
  pointwise [po]
  rw [neg_inf]; rfl

theorem blkA_at (wo : FVec Ideal S64x768 .bf16) (qc : FVec Ideal S128x64 .bf16) (kc vc : FVec Ideal S1024x64 .bf16) (o : Vec Ideal S1x64x768 .f32) (r : Fin 64) (e : Fin 768) :
    blkA wo qc kc vc o (ix3 0 r e) = o (ix3 0 r e) + po wo qc kc vc (ix2 ⟨r.1, by omega⟩ e) := by
  pointwise [blkA]
theorem blkB_at (wo : FVec Ideal S64x768 .bf16) (qc : FVec Ideal S128x64 .bf16) (kc vc : FVec Ideal S1024x64 .bf16) (o : Vec Ideal S1x64x768 .f32) (r : Fin 64) (e : Fin 768) :
    blkB wo qc kc vc o (ix3 0 r e) = o (ix3 0 r e) + po wo qc kc vc (ix2 ⟨64 + r.1, by omega⟩ e) := by
  pointwise [blkB]

/-- The rows of eight devices, one device's under the other's. -/
theorem cat_at (a : Fin 8 → Vec Ideal S1x1x1x1x128x64 .bf16) (s : Fin 8) (r : Fin 128) (d : Fin 64) :
    k0_pay5 (a 0) (a 1) (a 2) (a 3) (a 4) (a 5) (a 6) (a 7) (ix2 ⟨r.1 + 128 * s.1, by omega⟩ d) = a s (ix6 0 0 0 0 r d) := by
  have hr := r.isLt
  pointwise [k0_pay5]
  fin_cases s <;> simp (discharger := omega) only [dif_pos, dif_neg] <;>
    exact congrArg (fun k => a _ (ix6 0 0 0 0 k d)) (Fin.ext (by dsimp only; omega))

end Cert.Proof.Att
-- ==== Proof.Real.lean ====
module

public import proofs.«01_k».proof.Proof.Blk

/-! Sums of products of reals among the extended reals, and the sum over the heads' features device by device. -/

@[expose] public section
noncomputable section

namespace Cert.Proof.Att

open Idealize.ShloMosaic

/-- A real number, among the extended reals. -/
def IsR (a : EReal) : Prop := ∃ r : ℝ, a = r

theorem IsR.mul {a b : EReal} (ha : IsR a) (hb : IsR b) : IsR (a * b) := by
  obtain ⟨r, rfl⟩ := ha
  obtain ⟨s, rfl⟩ := hb
  exact ⟨r * s, (EReal.coe_mul r s).symm⟩
theorem coe_sums {ι : Type} [Fintype ι] (f : ι → ℝ) : ∑ i, (f i : EReal) = ((∑ i, f i : ℝ) : EReal) := by
  classical
  refine Finset.induction_on (Finset.univ : Finset ι) (by simp) fun a S ha ih => ?_
  rw [Finset.sum_insert ha, Finset.sum_insert ha, ih, EReal.coe_add]
theorem IsR.sum {ι : Type} [Fintype ι] {f : ι → EReal} (h : ∀ i, IsR (f i)) : IsR (∑ i, f i) := by
  choose g hg using h
  exact ⟨∑ i, g i, by simp only [hg, coe_sums]⟩

/-- A real factor moves out of a sum of products of reals. -/
theorem scaled {ι : Type} [Fintype ι] {a k : ι → EReal} {t : EReal} (ha : ∀ i, IsR (a i)) (hk : ∀ i, IsR (k i)) (ht : IsR t) :
    ∑ i, (a i * t) * k i = (∑ i, a i * k i) * t := by
  choose f hf using ha
  choose g hg using hk
  obtain ⟨r, rfl⟩ := ht
  simp only [hf, hg, ← EReal.coe_mul, coe_sums]
  refine congrArg _ ?_
  rw [Finset.sum_mul]
  exact Finset.sum_congr rfl fun i _ => mul_right_comm _ _ _

/-- The scale of the scores is an eighth. -/
theorem eighth : IsR (Ideal.ofBits .f32 0x3E000000#32) := ⟨1 / 8, by
  simp [Ideal.ofBits, Ideal.ieee]
  rw [← EReal.coe_mul]
  norm_num⟩

/-- A row of the output weight by its device, head and feature. -/
def rowOf (c h : Fin 8) (d : Fin 64) : Fin 4096 := ⟨512 * c.1 + 64 * h.1 + d.1, by omega⟩

theorem sum_rows (f : Fin 4096 → EReal) : ∑ n, f n = ∑ c : Fin 8, ∑ h : Fin 8, ∑ d : Fin 64, f (rowOf c h d) := by
  let E : Fin 8 × Fin 8 × Fin 64 ≃ Fin 4096 :=
    { toFun := fun p => rowOf p.1 p.2.1 p.2.2
      invFun := fun n => (⟨n.1 / 512, by omega⟩, ⟨n.1 / 64 % 8, by omega⟩, ⟨n.1 % 64, by omega⟩)
      left_inv := fun ⟨c, h, d⟩ => by
        refine Prod.ext (Fin.ext ?_) (Prod.ext (Fin.ext ?_) (Fin.ext ?_))
        · show (512 * c.1 + 64 * h.1 + d.1) / 512 = c.1
          omega
        · show (512 * c.1 + 64 * h.1 + d.1) / 64 % 8 = h.1
          omega
        · show (512 * c.1 + 64 * h.1 + d.1) % 64 = d.1
          omega
      right_inv := fun n => Fin.ext (by
        show 512 * (n.1 / 512) + 64 * (n.1 / 64 % 8) + n.1 % 64 = n.1
        omega) }
  rw [← Equiv.sum_comp E f, Fintype.sum_prod_type]
  refine Finset.sum_congr rfl fun c _ => ?_
  rw [Fintype.sum_prod_type]
  rfl

/-- The key column that is row `r` of a device's rows of class `cl`. -/
def colOf (cl : Fin 4) (k : Fin 8 × Fin 128) : Fin 4096 := ⟨512 * k.1.1 + (k.2.1 / 64 * 256 + cl.1 * 64 + k.2.1 % 64), by omega⟩

theorem colOf_inj (cl : Fin 4) : Function.Injective (colOf cl) := fun ⟨s, r⟩ ⟨s', r'⟩ h => by
  have h := congrArg Fin.val h
  simp only [colOf] at h
  exact Prod.ext (Fin.ext (by dsimp only; omega)) (Fin.ext (by dsimp only; omega))
theorem colOf_cls (cl : Fin 4) (k : Fin 8 × Fin 128) : (colOf cl k).1 / 64 % 4 = cl.1 := by
  simp only [colOf]; omega
/-- Every column of the class is one. -/
theorem colOf_surj (cl : Fin 4) (j : Fin 4096) (h : j.1 / 64 % 4 = cl.1) : ∃ k, colOf cl k = j :=
  ⟨(⟨j.1 / 512, by omega⟩, ⟨j.1 / 256 % 2 * 64 + j.1 % 64, by omega⟩), Fin.ext (by simp only [colOf]; omega)⟩

end Cert.Proof.Att
-- ==== Proof.Step.lean ====
module

public import proofs.«01_k».proof.Proof.Blk

/-! One trip of the loop at an index: the rows of its batch take its head's part. -/

@[expose] public section
set_option maxRecDepth 16384
noncomputable section

namespace Cert.Proof.Att

open Idealize.ShloMosaic
open Cert.KernelIdeal Cert.KernelIdeal.Gen

theorem trips_eq : k0_t1_loop.trips = 16 := by decide +kernel

theorem off4_eq : ∀ t : Fin k0_t1_loop.trips, k0_off4 t = ![t.1, 0, 0] := by decide +kernel
theorem off5_eq : ∀ t : Fin k0_t1_loop.trips, k0_off5 t = ![64 * (t.1 % 8), 0] := by decide +kernel

/-- Where a trip reads the keys and values of the class `cl`, from each device's rows. -/
def kvOff (t : Fin k0_t1_loop.trips) (cl : Fin 4) (s : Fin 8) : Fin 6 → ℕ :=
  (![![k0_off6 t, k0_off7 t, k0_off8 t, k0_off9 t, k0_off10 t, k0_off11 t, k0_off12 t, k0_off13 t],
    ![k0_off16 t, k0_off17 t, k0_off18 t, k0_off19 t, k0_off20 t, k0_off21 t, k0_off22 t, k0_off23 t],
    ![k0_off26 t, k0_off27 t, k0_off28 t, k0_off29 t, k0_off30 t, k0_off31 t, k0_off32 t, k0_off33 t],
    ![k0_off36 t, k0_off37 t, k0_off38 t, k0_off39 t, k0_off40 t, k0_off41 t, k0_off42 t, k0_off43 t]] : Fin 4 → Fin 8 → Fin 6 → ℕ) cl s
theorem kvOff_eq : ∀ t cl s, kvOff t cl s = ![s.1, t.1 / 8, t.1 % 8, cl.1, 0, 0] := by decide +kernel
/-- The blocks of the result that a trip adds to. -/
def outOff (t : Fin k0_t1_loop.trips) (n : Fin 8) : Fin 3 → ℕ :=
  (![k0_off14 t, k0_off24 t, k0_off34 t, k0_off44 t, k0_off15 t, k0_off25 t, k0_off35 t, k0_off45 t] : Fin 8 → Fin 3 → ℕ) n
theorem outOff_eq : ∀ t n, outOff t n = ![t.1 / 8, 64 * n.1, 0] := by decide +kernel

theorem lt16 (t : Fin k0_t1_loop.trips) : t.1 < 16 := trips_eq ▸ t.2

theorem emb_val {s : Shape} (o sz : Fin s.rank → ℕ) (h : ∀ a, o a + sz a ≤ s.size a) (i : (Rect.unit (s := s) o sz h).shape.Idx) (a : Fin s.rank) :
    ((Rect.unit (s := s) o sz h).emb i a).val = o a + (i a).val := by
  rw [Rect.emb_apply]; simp [Rect.unit]

/-- What a box reads at an index. -/
theorem sub_unit {s : Shape} {X : Type} (o sz : Fin s.rank → ℕ) (h : ∀ a, o a + sz a ≤ s.size a) (f : s.Idx → X) (o' : Fin s.rank → ℕ) (ho : o = o')
    (i : (Rect.unit (s := s) o sz h).shape.Idx) (j : s.Idx) (hj : ∀ a, o' a + (i a).val = (j a).val) : sub (Rect.unit (s := s) o sz h) f i = f j := by
  subst ho
  exact congrArg f (funext fun a => Fin.ext ((emb_val o sz h i a).trans (hj a)))

/-- What an array with a box replaced has within the box. -/
theorem put_unit {s : Shape} {X : Type} (o sz : Fin s.rank → ℕ) (h : ∀ a, o a + sz a ≤ s.size a) (f : s.Idx → X)
    (w : (Rect.unit (s := s) o sz h).shape.Idx → X) (i : (Rect.unit (s := s) o sz h).shape.Idx) (j : s.Idx) (hj : ∀ a, o a + (i a).val = (j a).val) :
    put (Rect.unit (s := s) o sz h) f w j = w i := by
  rw [← put_emb (Rect.unit (s := s) o sz h) f w i]
  exact congrArg _ (funext fun a => Fin.ext ((hj a).symm.trans (emb_val o sz h i a).symm))

theorem put_unit_not {s : Shape} {X : Type} (o sz : Fin s.rank → ℕ) (h : ∀ a, o a + sz a ≤ s.size a) (f : s.Idx → X)
    (w : (Rect.unit (s := s) o sz h).shape.Idx → X) (j : s.Idx) (a : Fin s.rank) (ha : ¬ (o a ≤ (j a).val ∧ (j a).val < o a + sz a)) :
    put (Rect.unit (s := s) o sz h) f w j = f j :=
  put_of_not _ f w j fun hm => ha ((Rect.mem_set_unit).mp hm a)

/-- What a head gives row `i` of batch `b`, column `e`: the mean of the values over the blocks of the row's class,
    through the head's rows of the output weight. -/
def headPart (q : QBuf Ideal) (wo : WoBuf Ideal) (kg vg : GBuf Ideal) (b : Fin 2) (h : Fin 8) (i : Fin 512) (e : Fin 768) : EReal :=
  ∑ d : Fin 64, soft (fun k : Fin 8 × Fin 128 => ∑ x : Fin 64, q (ix3 ⟨8 * b.1 + h.1, by omega⟩ i x) * kg (ix6 k.1 b h ⟨i.1 / 64 % 4, by omega⟩ k.2 x))
    (fun k => vg (ix6 k.1 b h ⟨i.1 / 64 % 4, by omega⟩ k.2 d)) * wo (ix2 ⟨64 * h.1 + d.1, by omega⟩ e)

/-- The batch and the head of a trip. -/
def tb (t : Fin k0_t1_loop.trips) : Fin 2 := ⟨t.1 / 8, by have := lt16 t; omega⟩
def th (t : Fin k0_t1_loop.trips) : Fin 8 := ⟨t.1 % 8, by omega⟩

/-- The result with the trip's part added to block `n` of its rows. -/
def addBlk (q : QBuf Ideal) (wo : WoBuf Ideal) (kg vg : GBuf Ideal) (t : Fin k0_t1_loop.trips) (n : Fin 8) (f : OBuf Ideal) : OBuf Ideal := fun j =>
  if (j 0).val = t.1 / 8 ∧ (j 1).val / 64 = n.1 then f j + headPart q wo kg vg (tb t) (th t) (j 1) (j 2) else f j

/-- A store of the trip's sums into block `n` adds the trip's part there. -/
theorem sto_addBlk (q : QBuf Ideal) (wo : WoBuf Ideal) (kg vg : GBuf Ideal) (t : Fin k0_t1_loop.trips) (n : Fin 8) (f : OBuf Ideal)
    (o : Fin 3 → ℕ) (h : ∀ a, o a + S1x64x768.size a ≤ S2x512x768.size a) (ho : o = ![t.1 / 8, 64 * n.1, 0]) (w : Vec Ideal S1x64x768 .f32)
    (hw : ∀ (r : Fin 64) (e : Fin 768), w (ix3 0 r e) = f (ix3 (tb t) ⟨64 * n.1 + r.1, by omega⟩ e) + headPart q wo kg vg (tb t) (th t) ⟨64 * n.1 + r.1, by omega⟩ e) :
    sto f o h w = addBlk q wo kg vg t n f := by
  subst ho
  have ht := lt16 t
  funext j
  obtain ⟨j0, j1, j2, rfl⟩ : ∃ (j0 : Fin 2) (j1 : Fin 512) (j2 : Fin 768), j = ix3 j0 j1 j2 := ⟨j 0, j 1, j 2, eq_ix3 j⟩
  unfold addBlk
  rw [show (ix3 j0 j1 j2 : S2x512x768.Idx) 0 = j0 from rfl, show (ix3 j0 j1 j2 : S2x512x768.Idx) 1 = j1 from rfl, show (ix3 j0 j1 j2 : S2x512x768.Idx) 2 = j2 from rfl]
  by_cases hj : j0.val = t.1 / 8 ∧ j1.val / 64 = n.1
  · rw [if_pos hj]
    have hlt : j1.1 - 64 * n.1 < 64 := by omega
    have e0 : tb t = j0 := Fin.ext hj.1.symm
    have e1 : (⟨64 * n.1 + (⟨j1.1 - 64 * n.1, hlt⟩ : Fin 64).1, by omega⟩ : Fin 512) = j1 := Fin.ext (by dsimp only; omega)
    refine (put_unit (s := S2x512x768) _ _ h f w (ix3 0 ⟨j1.1 - 64 * n.1, hlt⟩ j2 : S1x64x768.Idx) (ix3 j0 j1 j2) ?_).trans ?_
    · intro a
      fin_cases a
      · simp [hj.1]
      · show 64 * n.1 + (j1.1 - 64 * n.1) = j1.1
        omega
      · simp
    · rw [hw, e0, e1]
  · rw [if_neg hj]
    rcases Classical.em (j0.val = t.1 / 8) with h0 | h0
    · refine put_unit_not (s := S2x512x768) _ _ h f w (ix3 j0 j1 j2) 1 ?_
      show ¬ (64 * n.1 ≤ j1.1 ∧ j1.1 < 64 * n.1 + 64)
      omega
    · refine put_unit_not (s := S2x512x768) _ _ h f w (ix3 j0 j1 j2) 0 ?_
      show ¬ (t.1 / 8 ≤ j0.1 ∧ j0.1 < t.1 / 8 + 1)
      omega

/-- What the boxes of a trip read. -/
theorem ld5_at (g : GBuf Ideal) (t : Fin k0_t1_loop.trips) (cl : Fin 4) (s : Fin 8) (h : ∀ a, kvOff t cl s a + S1x1x1x1x128x64.size a ≤ S8x2x8x4x128x64.size a)
    (r : Fin 128) (d : Fin 64) : ld5 g (kvOff t cl s) h (ix6 0 0 0 0 r d) = g (ix6 s (tb t) (th t) cl r d) := by
  refine sub_unit _ _ _ _ _ (kvOff_eq t cl s) _ _ fun a => ?_
  fin_cases a <;> simp [tb, th]
theorem qT_at (q : QBuf Ideal) (t : Fin k0_t1_loop.trips) (i : Fin 512) (x : Fin 64) :
    qT q t (ix3 0 i x) = q (ix3 ⟨8 * (tb t).1 + (th t).1, by omega⟩ i x) := by
  refine sub_unit _ _ _ _ _ (off4_eq t) _ _ fun a => ?_
  fin_cases a <;> simp [tb, th]
  omega
theorem woT_at (wo : WoBuf Ideal) (t : Fin k0_t1_loop.trips) (d : Fin 64) (e : Fin 768) :
    k0_pay3 (woT wo t) (ix2 d e) = wo (ix2 ⟨64 * (th t).1 + d.1, by omega⟩ e) := by
  pointwise [k0_pay3]
  refine sub_unit _ _ _ _ _ (off5_eq t) _ _ fun a => ?_
  fin_cases a <;> simp [th]
theorem ldo_at (f : OBuf Ideal) (t : Fin k0_t1_loop.trips) (n : Fin 8) (h : ∀ a, outOff t n a + S1x64x768.size a ≤ S2x512x768.size a) (r : Fin 64) (e : Fin 768) :
    ldo f (outOff t n) h (ix3 0 r e) = f (ix3 (tb t) ⟨64 * n.1 + r.1, by omega⟩ e) := by
  refine sub_unit _ _ _ _ _ (outOff_eq t n) _ _ fun a => ?_
  fin_cases a <;> simp [tb]

/-- A row of the trip's block is the head's part, whatever the row's place in the block. -/
theorem po_head (q : QBuf Ideal) (wo : WoBuf Ideal) (kg vg : GBuf Ideal) (t : Fin k0_t1_loop.trips) (cl : Fin 4)
    (inb : ∀ s a, kvOff t cl s a + S1x1x1x1x128x64.size a ≤ S8x2x8x4x128x64.size a) (qc : FVec Ideal S128x64 .bf16) (ρ : Fin 128) (i : Fin 512)
    (hi : i.1 / 64 % 4 = cl.1) (hq : ∀ x, qc (ix2 ρ x) = qT q t (ix3 0 i x)) (e : Fin 768) :
    po (k0_pay3 (woT wo t)) qc
      (k0_pay5 (ld5 kg (kvOff t cl 0) (inb 0)) (ld5 kg (kvOff t cl 1) (inb 1)) (ld5 kg (kvOff t cl 2) (inb 2)) (ld5 kg (kvOff t cl 3) (inb 3))
        (ld5 kg (kvOff t cl 4) (inb 4)) (ld5 kg (kvOff t cl 5) (inb 5)) (ld5 kg (kvOff t cl 6) (inb 6)) (ld5 kg (kvOff t cl 7) (inb 7)))
      (k0_pay5 (ld5 vg (kvOff t cl 0) (inb 0)) (ld5 vg (kvOff t cl 1) (inb 1)) (ld5 vg (kvOff t cl 2) (inb 2)) (ld5 vg (kvOff t cl 3) (inb 3))
        (ld5 vg (kvOff t cl 4) (inb 4)) (ld5 vg (kvOff t cl 5) (inb 5)) (ld5 vg (kvOff t cl 6) (inb 6)) (ld5 vg (kvOff t cl 7) (inb 7))) (ix2 ρ e)
      = headPart q wo kg vg (tb t) (th t) i e := by
  have hc : (⟨i.1 / 64 % 4, by omega⟩ : Fin 4) = cl := Fin.ext hi
  have hg := fun (g : GBuf Ideal) (k : Fin 8 × Fin 128) (d : Fin 64) =>
    (cat_at (fun s => ld5 g (kvOff t cl s) (inb s)) k.1 k.2 d).trans (ld5_at g t cl k.1 (inb k.1) k.2 d)
  rw [po_at]
  unfold headPart
  refine Finset.sum_congr rfl fun d _ => congrArg₂ (· * ·) ?_ (woT_at wo t d e)
  rw [hc, ← soft_equiv (finProdFinEquiv (m := 8) (n := 128))]
  refine congrArg₂ soft (funext fun k => Finset.sum_congr rfl fun x _ => congrArg₂ (· * ·) ((hq x).trans (qT_at q t i x)) (hg kg k x)) (funext fun k => hg vg k d)

theorem clA (q : QBuf Ideal) (wo : WoBuf Ideal) (kg vg : GBuf Ideal) (t : Fin k0_t1_loop.trips) (cl : Fin 4) (f : OBuf Ideal)
    (inb : ∀ s a, kvOff t cl s a + S1x1x1x1x128x64.size a ≤ S8x2x8x4x128x64.size a) (qc : FVec Ideal S128x64 .bf16) (n : Fin 8) (hn : n.1 = cl.1)
    (hq : ∀ (r : Fin 64) (x : Fin 64), qc (ix2 ⟨r.1, by omega⟩ x) = qT q t (ix3 0 ⟨64 * n.1 + r.1, by omega⟩ x))
    (h : ∀ a, outOff t n a + S1x64x768.size a ≤ S2x512x768.size a) :
    sto f (outOff t n) h (blkA (k0_pay3 (woT wo t)) qc
      (k0_pay5 (ld5 kg (kvOff t cl 0) (inb 0)) (ld5 kg (kvOff t cl 1) (inb 1)) (ld5 kg (kvOff t cl 2) (inb 2)) (ld5 kg (kvOff t cl 3) (inb 3))
        (ld5 kg (kvOff t cl 4) (inb 4)) (ld5 kg (kvOff t cl 5) (inb 5)) (ld5 kg (kvOff t cl 6) (inb 6)) (ld5 kg (kvOff t cl 7) (inb 7)))
      (k0_pay5 (ld5 vg (kvOff t cl 0) (inb 0)) (ld5 vg (kvOff t cl 1) (inb 1)) (ld5 vg (kvOff t cl 2) (inb 2)) (ld5 vg (kvOff t cl 3) (inb 3))
        (ld5 vg (kvOff t cl 4) (inb 4)) (ld5 vg (kvOff t cl 5) (inb 5)) (ld5 vg (kvOff t cl 6) (inb 6)) (ld5 vg (kvOff t cl 7) (inb 7))) (ldo f (outOff t n) h))
      = addBlk q wo kg vg t n f :=
  sto_addBlk q wo kg vg t n f _ h (outOff_eq t n) _ fun r e => by
    rw [blkA_at, ldo_at, po_head q wo kg vg t cl inb qc _ _ _ (hq r) e]
    show (64 * n.1 + r.1) / 64 % 4 = cl.1
    omega
theorem clB (q : QBuf Ideal) (wo : WoBuf Ideal) (kg vg : GBuf Ideal) (t : Fin k0_t1_loop.trips) (cl : Fin 4) (f : OBuf Ideal)
    (inb : ∀ s a, kvOff t cl s a + S1x1x1x1x128x64.size a ≤ S8x2x8x4x128x64.size a) (qc : FVec Ideal S128x64 .bf16) (n : Fin 8) (hn : n.1 = cl.1 + 4)
    (hq : ∀ (r : Fin 64) (x : Fin 64), qc (ix2 ⟨64 + r.1, by omega⟩ x) = qT q t (ix3 0 ⟨64 * n.1 + r.1, by omega⟩ x))
    (h : ∀ a, outOff t n a + S1x64x768.size a ≤ S2x512x768.size a) :
    sto f (outOff t n) h (blkB (k0_pay3 (woT wo t)) qc
      (k0_pay5 (ld5 kg (kvOff t cl 0) (inb 0)) (ld5 kg (kvOff t cl 1) (inb 1)) (ld5 kg (kvOff t cl 2) (inb 2)) (ld5 kg (kvOff t cl 3) (inb 3))
        (ld5 kg (kvOff t cl 4) (inb 4)) (ld5 kg (kvOff t cl 5) (inb 5)) (ld5 kg (kvOff t cl 6) (inb 6)) (ld5 kg (kvOff t cl 7) (inb 7)))
      (k0_pay5 (ld5 vg (kvOff t cl 0) (inb 0)) (ld5 vg (kvOff t cl 1) (inb 1)) (ld5 vg (kvOff t cl 2) (inb 2)) (ld5 vg (kvOff t cl 3) (inb 3))
        (ld5 vg (kvOff t cl 4) (inb 4)) (ld5 vg (kvOff t cl 5) (inb 5)) (ld5 vg (kvOff t cl 6) (inb 6)) (ld5 vg (kvOff t cl 7) (inb 7))) (ldo f (outOff t n) h))
      = addBlk q wo kg vg t n f :=
  sto_addBlk q wo kg vg t n f _ h (outOff_eq t n) _ fun r e => by
    rw [blkB_at, ldo_at, po_head q wo kg vg t cl inb qc _ _ _ (hq r) e]
    show (64 * n.1 + r.1) / 64 % 4 = cl.1
    omega

end Cert.Proof.Att
-- ==== Proof.Loop.lean ====
module

public import proofs.«01_k».proof.Proof.Step
public import proofs.«01_k».proof.Proof.Gather

/-! The loop at an index: each row takes the parts of the eight heads of its batch. -/

@[expose] public section
set_option maxRecDepth 16384
noncomputable section

namespace Cert.Proof.Att

open Idealize.ShloMosaic
open Cert.KernelIdeal Cert.KernelIdeal.Gen

theorem kvOff_inb (t : Fin k0_t1_loop.trips) (cl : Fin 4) (s : Fin 8) (a : Fin 6) : kvOff t cl s a + S1x1x1x1x128x64.size a ≤ S8x2x8x4x128x64.size a := by
  have := lt16 t
  rw [kvOff_eq]
  fin_cases a <;> simp <;> omega
theorem outOff_inb (t : Fin k0_t1_loop.trips) (n : Fin 8) (a : Fin 3) : outOff t n a + S1x64x768.size a ≤ S2x512x768.size a := by
  have := lt16 t
  rw [outOff_eq]
  fin_cases a <;> simp <;> omega

variable (q : QBuf Ideal) (wo : WoBuf Ideal) (kg vg : GBuf Ideal) (t : Fin k0_t1_loop.trips) (f : OBuf Ideal)

section
variable (v : Vec Ideal S1x512x64 .bf16) (r : Fin 64) (x : Fin 64)
theorem q0A : k0_pay4 v (ix2 ⟨r.1, by omega⟩ x) = v (ix3 0 ⟨0 + r.1, by omega⟩ x) := by
  pointwise [k0_pay4, k0_pay2]
theorem q0B : k0_pay4 v (ix2 ⟨64 + r.1, by omega⟩ x) = v (ix3 0 ⟨256 + r.1, by omega⟩ x) := by
  pointwise [k0_pay4, k0_pay2]
theorem q1A : k0_pay16 (k0_pay2 v) (ix2 ⟨r.1, by omega⟩ x) = v (ix3 0 ⟨64 + r.1, by omega⟩ x) := by
  pointwise [k0_pay16, k0_pay2]
theorem q1B : k0_pay16 (k0_pay2 v) (ix2 ⟨64 + r.1, by omega⟩ x) = v (ix3 0 ⟨320 + r.1, by omega⟩ x) := by
  pointwise [k0_pay16, k0_pay2]
theorem q2A : k0_pay28 (k0_pay2 v) (ix2 ⟨r.1, by omega⟩ x) = v (ix3 0 ⟨128 + r.1, by omega⟩ x) := by
  pointwise [k0_pay28, k0_pay2]
theorem q2B : k0_pay28 (k0_pay2 v) (ix2 ⟨64 + r.1, by omega⟩ x) = v (ix3 0 ⟨384 + r.1, by omega⟩ x) := by
  pointwise [k0_pay28, k0_pay2]
theorem q3A : k0_pay40 (k0_pay2 v) (ix2 ⟨r.1, by omega⟩ x) = v (ix3 0 ⟨192 + r.1, by omega⟩ x) := by
  pointwise [k0_pay40, k0_pay2]
theorem q3B : k0_pay40 (k0_pay2 v) (ix2 ⟨64 + r.1, by omega⟩ x) = v (ix3 0 ⟨448 + r.1, by omega⟩ x) := by
  pointwise [k0_pay40, k0_pay2]
end

theorem cl0A_eq : cl0A q wo kg vg t f = addBlk q wo kg vg t 0 f :=
  clA q wo kg vg t 0 f (kvOff_inb t 0) (k0_pay4 (qT q t)) 0 rfl (q0A (qT q t)) (outOff_inb t 0)
theorem cl0B_eq : cl0B q wo kg vg t f = addBlk q wo kg vg t 4 f :=
  clB q wo kg vg t 0 f (kvOff_inb t 0) (k0_pay4 (qT q t)) 4 rfl (q0B (qT q t)) (outOff_inb t 4)
theorem cl1A_eq : cl1A q wo kg vg t f = addBlk q wo kg vg t 1 f :=
  clA q wo kg vg t 1 f (kvOff_inb t 1) (k0_pay16 (k0_pay2 (qT q t))) 1 rfl (q1A (qT q t)) (outOff_inb t 1)
theorem cl1B_eq : cl1B q wo kg vg t f = addBlk q wo kg vg t 5 f :=
  clB q wo kg vg t 1 f (kvOff_inb t 1) (k0_pay16 (k0_pay2 (qT q t))) 5 rfl (q1B (qT q t)) (outOff_inb t 5)
theorem cl2A_eq : cl2A q wo kg vg t f = addBlk q wo kg vg t 2 f :=
  clA q wo kg vg t 2 f (kvOff_inb t 2) (k0_pay28 (k0_pay2 (qT q t))) 2 rfl (q2A (qT q t)) (outOff_inb t 2)
theorem cl2B_eq : cl2B q wo kg vg t f = addBlk q wo kg vg t 6 f :=
  clB q wo kg vg t 2 f (kvOff_inb t 2) (k0_pay28 (k0_pay2 (qT q t))) 6 rfl (q2B (qT q t)) (outOff_inb t 6)
theorem cl3A_eq : cl3A q wo kg vg t f = addBlk q wo kg vg t 3 f :=
  clA q wo kg vg t 3 f (kvOff_inb t 3) (k0_pay40 (k0_pay2 (qT q t))) 3 rfl (q3A (qT q t)) (outOff_inb t 3)
theorem cl3B_eq : cl3B q wo kg vg t f = addBlk q wo kg vg t 7 f :=
  clB q wo kg vg t 3 f (kvOff_inb t 3) (k0_pay40 (k0_pay2 (qT q t))) 7 rfl (q3B (qT q t)) (outOff_inb t 7)

/-- A trip adds its part to every row of its batch. -/
theorem oTrip_at (b : Fin 2) (i : Fin 512) (e : Fin 768) :
    oTrip q wo kg vg t f (ix3 b i e) = f (ix3 b i e) + if b = tb t then headPart q wo kg vg (tb t) (th t) i e else 0 := by
  unfold oTrip
  rw [cl0A_eq, cl0B_eq, cl1A_eq, cl1B_eq, cl2A_eq, cl2B_eq, cl3A_eq, cl3B_eq]
  have hb : b = tb t ↔ b.val = t.1 / 8 := Fin.ext_iff
  generalize hP : headPart q wo kg vg (tb t) (th t) i e = P
  have one : ∀ (n : Fin 8) (g : OBuf Ideal), addBlk q wo kg vg t n g (ix3 b i e) = if b.val = t.1 / 8 ∧ i.val / 64 = n.1 then g (ix3 b i e) + P else g (ix3 b i e) :=
    fun n g => hP ▸ rfl
  simp only [one, hb]
  by_cases h : b.val = t.1 / 8
  · simp only [h, true_and, if_true]
    have hi : i.val / 64 < 8 := by omega
    generalize i.val / 64 = k at hi
    interval_cases k <;> rfl
  · simp only [h, false_and, if_false, add_zero]

/-- After `n` trips a row has the parts of the trips of its batch. -/
theorem oLoop_at (b : Fin 2) (i : Fin 512) (e : Fin 768) (n : ℕ) (hn : n ≤ 16) :
    oLoop q wo kg vg f n (ix3 b i e) = f (ix3 b i e) + ∑ k : Fin n, if b.1 = k.1 / 8 then headPart q wo kg vg b ⟨k.1 % 8, by omega⟩ i e else 0 := by
  induction n with
  | zero => simp [oLoop]
  | succ n ih =>
    have h : n < k0_t1_loop.trips := by rw [trips_eq]; omega
    unfold oLoop
    rw [dif_pos h, oTrip_at, ih (by omega), Fin.sum_univ_castSucc, add_assoc]
    refine congrArg₂ (· + ·) rfl (congrArg₂ (· + ·) rfl ?_)
    by_cases hb : b.1 = n / 8
    · have e0 : b = tb ⟨n, h⟩ := Fin.ext hb
      rw [if_pos e0, if_pos (show b.1 = (Fin.last n).1 / 8 from hb), ← e0]; rfl
    · rw [if_neg (show ¬ b.1 = (Fin.last n).1 / 8 from hb), if_neg fun e0 => hb (congrArg Fin.val e0)]

/-- The loop from zero: the sum over the heads. -/
theorem oLoop_full (b : Fin 2) (i : Fin 512) (e : Fin 768) (hf : f (ix3 b i e) = 0) :
    oLoop q wo kg vg f k0_t1_loop.trips (ix3 b i e) = ∑ h : Fin 8, headPart q wo kg vg b h i e := by
  rw [trips_eq, oLoop_at q wo kg vg f b i e 16 le_rfl, hf, zero_add, ← Equiv.sum_comp (finProdFinEquiv (m := 2) (n := 8)), Fintype.sum_prod_type]
  have : ∀ (x : Fin 2) (y : Fin 8), ((finProdFinEquiv (m := 2) (n := 8)) (x, y)).1 = y.1 + 8 * x.1 := fun _ _ => rfl
  rw [Finset.sum_eq_single b]
  · refine Finset.sum_congr rfl fun y _ => ?_
    rw [if_pos (by rw [this]; omega)]
    exact congrArg (fun h => headPart q wo kg vg b h i e) (Fin.ext (by dsimp only; rw [this]; omega))
  · intro x _ hx
    refine Finset.sum_eq_zero fun y _ => if_neg fun h => hx ?_
    rw [this] at h
    exact Fin.ext (by omega)
  · exact fun h => absurd (Finset.mem_univ b) h

end Cert.Proof.Att
-- ==== Proof.Query.lean ====
module

public import proofs.«01_k».proof.Proof.Step
public import proofs.«01_k».proof.Proof.Fix

/-! The queries at an index, and the zero result the loop starts from. -/

@[expose] public section
set_option maxRecDepth 16384
noncomputable section

namespace Cert.Proof.Att

open Idealize.ShloMosaic
open Cert.KernelIdeal Cert.KernelIdeal.Gen

/-- The scratch of queries with one head slot replaced. -/
theorem stq_at (q : QBuf Ideal) (n : ℕ) (h : ∀ a, (![n, 0, 0] : Fin 3 → ℕ) a + S1x512x64.size a ≤ S16x512x64.size a) (w : Vec Ideal S1x512x64 .bf16)
    (N : Fin 16) (i : Fin 512) (d : Fin 64) : stq q ![n, 0, 0] h w (ix3 N i d) = if N.1 = n then w (ix3 0 i d) else q (ix3 N i d) := by
  split
  · next hN =>
    refine put_unit (s := S16x512x64) _ _ h q w (ix3 0 i d : S1x512x64.Idx) (ix3 N i d) fun a => ?_
    fin_cases a
    · simp [hN]
    · simp
    · simp
  · next hN =>
    refine put_unit_not (s := S16x512x64) _ _ h q w (ix3 N i d) 0 ?_
    show ¬ (n ≤ N.1 ∧ N.1 < n + 1)
    omega

/-- The scaled queries of a batch, heads side by side. -/
def qMat (x : XBuf Ideal) (wq : WqBuf Ideal) (b : Fin 2) (i j : Fin 512) : EReal :=
  (∑ e : Fin 768, (x (ix3 b i e) : EReal) * wq (ix2 e j)) * Ideal.ofBits .f32 0x3E000000#32

variable (x : XBuf Ideal) (wq : WqBuf Ideal)

theorem wqT_at (e : Fin 768) (j : Fin 512) : wqT wq (ix2 e j) = wq (ix2 e j) :=
  sub_unit (s := S768x512) _ _ _ _ _ rfl _ _ fun a => by fin_cases a <;> simp
theorem x0T_at (i : Fin 512) (e : Fin 768) : x0T x (ix3 0 i e : S1x512x768.Idx) = x (ix3 0 i e) :=
  sub_unit (s := S2x512x768) _ _ _ _ _ rfl _ _ fun a => by fin_cases a <;> simp
theorem x1T_at (i : Fin 512) (e : Fin 768) : x1T x (ix3 0 i e : S1x512x768.Idx) = x (ix3 1 i e) :=
  sub_unit (s := S2x512x768) _ _ _ _ _ rfl _ _ fun a => by fin_cases a <;> simp

theorem pay53_at (i j : Fin 512) : k0_pay53 (wqT wq) (x0T x) (ix2 i j) = qMat x wq 0 i j := by
  have hx := x0T_at x
  have hw := wqT_at wq
  generalize x0T x = u at hx ⊢
  generalize wqT wq = v at hw ⊢
  pointwise [k0_pay53, k0_pay52]
  exact congrArg (· * _) (Finset.sum_congr rfl fun e _ => congrArg₂ (· * ·) (hx i e) (hw e j))
theorem pay62_at (i j : Fin 512) : k0_pay62 (k0_pay52 (wqT wq)) (x1T x) (ix2 i j) = qMat x wq 1 i j := by
  have hx := x1T_at x
  have hw := wqT_at wq
  generalize x1T x = u at hx ⊢
  generalize wqT wq = v at hw ⊢
  pointwise [k0_pay62, k0_pay52]
  exact congrArg (· * _) (Finset.sum_congr rfl fun e _ => congrArg₂ (· * ·) (hx i e) (hw e j))

/-- The queries: slot `8 b + h` holds head `h` of batch `b`. -/
theorem qF_at (b : Fin 2) (h : Fin 8) (i : Fin 512) (d : Fin 64) :
    qF x wq (ix3 ⟨8 * b.1 + h.1, by omega⟩ i d) = qMat x wq b i ⟨64 * h.1 + d.1, by omega⟩ := by
  unfold qF qAll q28 q27 q26 q25
  iterate 16 rw [stq_at]
  have p0 := pay53_at x wq
  have p1 := pay62_at x wq
  have p54 : ∀ v w, k0_pay54 (F := Ideal) v w = k0_pay63 (k0_pay53 v w) := fun _ _ => rfl
  have p55 : ∀ v w, k0_pay55 (F := Ideal) v w = k0_pay64 (k0_pay53 v w) := fun _ _ => rfl
  rw [p54, p55]
  generalize k0_pay53 (wqT wq) (x0T x) = m0 at p0 ⊢
  generalize k0_pay62 (k0_pay52 (wqT wq)) (x1T x) = m1 at p1 ⊢
  fin_cases b <;> fin_cases h <;> simp only [Fin.zero_eta, Fin.mk_one, Fin.reduceFinMk, Fin.isValue, Fin.coe_ofNat_eq_mod, Nat.reduceMod, Nat.reduceMul, Nat.reduceAdd, Nat.reduceEqDiff, if_true, if_false] <;>
    (pointwise [k0_pay56, k0_pay57, k0_pay58, k0_pay59, k0_pay60, k0_pay61, k0_pay63, k0_pay64, k0_pay65, k0_pay66, k0_pay67, k0_pay68, k0_pay69, k0_pay70, k0_pay71]
     first | exact p0 _ _ | exact p1 _ _ | (refine Eq.trans ?_ (p0 _ _); congr) | (refine Eq.trans ?_ (p1 _ _); congr))

theorem oZ_at (b : Fin 2) (i : Fin 512) (e : Fin 768) : (oZ (F := Ideal)) (ix3 b i e) = 0 := by
  unfold oZ o0
  refine (put_unit (s := S2x512x768) _ _ _ _ _ (ix3 b i e : S2x512x768.Idx) (ix3 b i e) fun a => ?_).trans ?_
  · fin_cases a <;> simp
  · pointwise [k0_pay72]

end Cert.Proof.Att
-- ==== Proof.Operand.lean ====
module

public import proofs.«01_k».proof.Proof.Step
public import proofs.«01_k».proof.Proof.Region
public import Idealize.ShloMosaic.Lib.Claim

/-! The operands of the kernel at an index, in terms of the arguments. -/

@[expose] public section
set_option maxRecDepth 16384
noncomputable section

namespace Cert.Proof.Att

open Idealize.ShloMosaic Idealize.ShloMosaic.TcCoe
open Cert.KernelIdeal Cert.KernelIdeal.Gen

variable (m : (ℓ : Loc nD τ sig) → Buf (Elt Ideal) ℓ) (c : Dev nD)

theorem xOf_eq : xOf m c = m ((c : Thread nD τ).loc main_arg0) := by
  unfold xOf iblk
  entry_read
  funext i
  have e : ∀ j, m (c, Proc.tc.devRef (Pipeline.arrRef spec0 0)) j = m ((c : Thread nD τ).loc main_arg0) j := fun _ => rfl
  show m (c, Proc.tc.devRef (Pipeline.arrRef spec0 0)) (((cfg0.win 0).blk t0_0).view.emb i) = _
  exact (e _).trans (congrArg _ (funext fun a => Fin.ext (Pipeline.Window.rect_emb_val_of_index_zero (win0 0) t0_0 a (by revert a; decide +kernel) i)))
theorem wqOf_eq : wqOf m c = m ((c : Thread nD τ).loc main_arg1) := by
  unfold wqOf iblk
  entry_read
  funext i
  have e : ∀ j, m (c, Proc.tc.devRef (Pipeline.arrRef spec0 1)) j = m ((c : Thread nD τ).loc main_arg1) j := fun _ => rfl
  show m (c, Proc.tc.devRef (Pipeline.arrRef spec0 1)) (((cfg0.win 1).blk t0_0).view.emb i) = _
  exact (e _).trans (congrArg _ (funext fun a => Fin.ext (Pipeline.Window.rect_emb_val_of_index_zero (win0 1) t0_0 a (by revert a; decide +kernel) i)))
theorem woOf_eq : woOf m c = m ((c : Thread nD τ).loc main_arg4) := by
  unfold woOf iblk
  entry_read
  funext i
  have e : ∀ j, m (c, Proc.tc.devRef (Pipeline.arrRef spec0 2)) j = m ((c : Thread nD τ).loc main_arg4) j := fun _ => rfl
  show m (c, Proc.tc.devRef (Pipeline.arrRef spec0 2)) (((cfg0.win 2).blk t0_0).view.emb i) = _
  exact (e _).trans (congrArg _ (funext fun a => Fin.ext (Pipeline.Window.rect_emb_val_of_index_zero (win0 2) t0_0 a (by revert a; decide +kernel) i)))

theorem ktOf_at (b : Fin 2) (h : Fin 64) (cl : Fin 4) (r : Fin 128) (d : Fin 64) :
    ktOf m c (ix5 b h cl r d) = m ((c : Thread nD τ).loc main_arg2) (ix4 b ⟨r.1 / 64 * 256 + cl.1 * 64 + r.1 % 64, by omega⟩ h d) := by
  unfold ktOf
  entry_read
  pointwise
theorem vtOf_at (b : Fin 2) (h : Fin 64) (cl : Fin 4) (r : Fin 128) (d : Fin 64) :
    vtOf m c (ix5 b h cl r d) = m ((c : Thread nD τ).loc main_arg3) (ix4 b ⟨r.1 / 64 * 256 + cl.1 * 64 + r.1 % 64, by omega⟩ h d) := by
  unfold vtOf
  entry_read
  pointwise

/-- The keys (or values) gathered on a device are its heads of every device's. -/
theorem gath_at (k : Dev nD → HBuf Ideal) (s : Fin 8) (b : Fin 2) (h : Fin 8) (cl : Fin 4) (r : Fin 128) (d : Fin 64) :
    gath k c (ix6 s b h cl r d) = k s (ix5 b ⟨8 * c.1 + h.1, by have := c.2; unfold nD at this; omega⟩ cl r d) := by
  unfold gath
  refine congrArg (k s) (funext fun a => Fin.ext ((emb_val _ _ _ _ a).trans ?_))
  have h1 : ∀ a, k0_off3 c a = (![0, 8 * c.val, 0, 0, 0] : Fin 5 → ℕ) a := fun a => congrFun (off3_eq c) a
  refine (congrArg (· + _) (h1 a)).trans ?_
  fin_cases a
  · exact Nat.zero_add _
  · rfl
  · exact Nat.zero_add _
  · exact Nat.zero_add _
  · exact Nat.zero_add _

end Cert.Proof.Att
-- ==== Proof.Reduce.lean ====
module

public import proofs.«01_k».proof.Proof.Step
public import proofs.«01_k».proof.Proof.Blocks

/-! The exchange of the results: every device ends with the sum of all devices' parts. -/

@[expose] public section
set_option maxRecDepth 16384
noncomputable section

namespace Cert.Proof.Att

open Idealize.ShloMosaic
open Cert.KernelIdeal Cert.KernelIdeal.Gen

/-- The first rows kept in each halving. -/
def k0R (c : Dev nD) : ℕ := 256 * (c.1 % 2)
def k1R (c : Dev nD) : ℕ := k0R c + 128 * (c.1 / 2 % 2)
def k2R (c : Dev nD) : ℕ := k1R c + 64 * (c.1 / 4)

theorem off46_eq : ∀ c, k0_off46 (xr 0 c) = ![0, k0R c, 0] := by decide +kernel
theorem off47_eq : ∀ c, k0_off47 c = ![0, k0R c, 0] := by decide +kernel
theorem off48_eq : ∀ c, k0_off48 (xr 1 c) = ![0, k1R c, 0] := by decide +kernel
theorem off49_eq : ∀ c, k0_off49 c = ![0, k1R c, 0] := by decide +kernel
theorem off50_eq : ∀ c, k0_off50 (xr 2 c) = ![0, k2R c, 0] := by decide +kernel
theorem off51_eq : ∀ c, k0_off51 c = ![0, k2R c, 0] := by decide +kernel
theorem off52_eq : ∀ c, k0_off52 c = ![0, k2R (xr 2 c), 0] := by decide +kernel
theorem off53_eq : ∀ c, k0_off53 c = ![0, k1R c, 0] := by decide +kernel
theorem off54_eq : ∀ c, k0_off54 c = ![0, k1R (xr 1 c), 0] := by decide +kernel
theorem off55_eq : ∀ c, k0_off55 c = ![0, k0R c, 0] := by decide +kernel
theorem off56_eq : ∀ c, k0_off56 c = ![0, k0R (xr 0 c), 0] := by decide +kernel

/-- Rows `n` to `n + w` of a result replaced by those of another. -/
theorem put_rows (w n : ℕ) (o : Fin 3 → ℕ) (h : ∀ a, o a + (![2, w, 768] : Fin 3 → ℕ) a ≤ S2x512x768.size a) (ho : o = ![0, n, 0]) (f g : OBuf Ideal)
    (v : (⟨3, ![2, w, 768]⟩ : Shape).Idx → EReal) (hv : ∀ (b : Fin 2) (r : Fin w) (e : Fin 768) (hr : n + r.1 < 512), v (ix3 b r e) = g (ix3 b ⟨n + r.1, hr⟩ e))
    (b : Fin 2) (i : Fin 512) (e : Fin 768) :
    put (Rect.unit (s := S2x512x768) o ![2, w, 768] h) f v (ix3 b i e) = if n ≤ i.1 ∧ i.1 < n + w then g (ix3 b i e) else f (ix3 b i e) := by
  subst ho
  split
  · next hi =>
    have hlt : i.1 - n < w := by omega
    refine (put_unit (s := S2x512x768) _ _ h f v (ix3 b ⟨i.1 - n, hlt⟩ e : (⟨3, ![2, w, 768]⟩ : Shape).Idx) (ix3 b i e) ?_).trans ?_
    · intro a
      fin_cases a
      · simp
      · show n + (i.1 - n) = i.1
        omega
      · simp
    · have e1 : n + (i.1 - n) = i.1 := by omega
      rw [hv b ⟨i.1 - n, hlt⟩ e (by dsimp only; omega)]
      exact congrArg (fun k => g (ix3 b k e)) (Fin.ext e1)
  · next hi => exact put_unit_not (s := S2x512x768) _ _ h f v (ix3 b i e) 1 hi

/-- What rows `n` to `n + w` read. -/
theorem sub_rows (w n : ℕ) (o : Fin 3 → ℕ) (h : ∀ a, o a + (![2, w, 768] : Fin 3 → ℕ) a ≤ S2x512x768.size a) (ho : o = ![0, n, 0]) (f : OBuf Ideal)
    (b : Fin 2) (r : Fin w) (e : Fin 768) (hr : n + r.1 < 512) :
    sub (Rect.unit (s := S2x512x768) o ![2, w, 768] h) f (ix3 b r e : (⟨3, ![2, w, 768]⟩ : Shape).Idx) = f (ix3 b ⟨n + r.1, hr⟩ e) := by
  refine sub_unit (s := S2x512x768) _ _ _ _ _ ho _ _ fun a => ?_
  fin_cases a <;> simp

/-- Where `p` holds, a device adds its partner's value. -/
def addIf (p : Dev nD → Prop) [DecidablePred p] (t : Dev nD → Dev nD) (X : Dev nD → EReal) : Dev nD → EReal := fun c => if p c then X c + X (t c) else X c
/-- Where `p` holds of the partner, a device takes the partner's value. -/
def copyIf (p : Dev nD → Prop) [DecidablePred p] (t : Dev nD → Dev nD) (X : Dev nD → EReal) : Dev nD → EReal := fun c => if p (t c) then X (t c) else X c
/-- Three additions over the halves kept, then three copies back, leave the whole sum everywhere. -/
theorem exchanged (X : Dev nD → EReal) (c : Dev nD) (k : Fin 8) :
    copyIf (fun d => k.1 / 4 = d.1 % 2) (xr 0) (copyIf (fun d => k.1 / 2 = 2 * (d.1 % 2) + d.1 / 2 % 2) (xr 1)
      (copyIf (fun d => k.1 = 4 * (d.1 % 2) + 2 * (d.1 / 2 % 2) + d.1 / 4) (xr 2) (addIf (fun d => k.1 = 4 * (d.1 % 2) + 2 * (d.1 / 2 % 2) + d.1 / 4) (xr 2)
        (addIf (fun d => k.1 / 2 = 2 * (d.1 % 2) + d.1 / 2 % 2) (xr 1) (addIf (fun d => k.1 / 4 = d.1 % 2) (xr 0) X))))) c = ∑ d : Dev nD, X d := by
  rw [show (∑ d : Dev nD, X d) = X 0 + X 1 + X 2 + X 3 + X 4 + X 5 + X 6 + X 7 from Fin.sum_univ_eight X]
  simp only [addIf, copyIf]
  fin_cases c <;> fin_cases k <;> simp [xr, nD] <;> first | done | abel

variable (O : Dev nD → OBuf Ideal) (c : Dev nD) (b : Fin 2) (i : Fin 512) (e : Fin 768)

theorem stR0_at : stR0 O c (ix3 b i e) = if k0R c ≤ i.1 ∧ i.1 < k0R c + 256 then O c (ix3 b i e) + O (xr 0 c) (ix3 b i e) else O c (ix3 b i e) :=
  put_rows 256 _ _ (k0_off47_inb c) (off47_eq c) _ (fun j => O c j + O (xr 0 c) j) _ (fun b r e hr => by
    pointwise [k0_pay75, sR0, k0_pay74]
    exact congrArg₂ (· + ·) (sub_rows 256 _ _ _ (off47_eq c) _ b r e hr) (sub_rows 256 _ _ _ (off46_eq c) _ b r e hr)) b i e
theorem stR1_at : stR1 O c (ix3 b i e) = if k1R c ≤ i.1 ∧ i.1 < k1R c + 128 then O c (ix3 b i e) + O (xr 1 c) (ix3 b i e) else O c (ix3 b i e) :=
  put_rows 128 _ _ (k0_off49_inb c) (off49_eq c) _ (fun j => O c j + O (xr 1 c) j) _ (fun b r e hr => by
    pointwise [k0_pay77, sR1, k0_pay76]
    exact congrArg₂ (· + ·) (sub_rows 128 _ _ _ (off49_eq c) _ b r e hr) (sub_rows 128 _ _ _ (off48_eq c) _ b r e hr)) b i e
theorem stR2_at : stR2 O c (ix3 b i e) = if k2R c ≤ i.1 ∧ i.1 < k2R c + 64 then O c (ix3 b i e) + O (xr 2 c) (ix3 b i e) else O c (ix3 b i e) :=
  put_rows 64 _ _ (k0_off51_inb c) (off51_eq c) _ (fun j => O c j + O (xr 2 c) j) _ (fun b r e hr => by
    pointwise [k0_pay79, sR2, k0_pay78]
    exact congrArg₂ (· + ·) (sub_rows 64 _ _ _ (off51_eq c) _ b r e hr) (sub_rows 64 _ _ _ (off50_eq c) _ b r e hr)) b i e
theorem stA2_at : stA2 O c (ix3 b i e) = if k2R (xr 2 c) ≤ i.1 ∧ i.1 < k2R (xr 2 c) + 64 then O (xr 2 c) (ix3 b i e) else O c (ix3 b i e) :=
  put_rows 64 _ _ (k0_off52_inb c) (off52_eq c) _ (O (xr 2 c)) _ (fun b r e hr => by
    pointwise [k0_pay81, sA2, k0_pay80]
    exact sub_rows 64 _ _ _ (off51_eq _) _ b r e hr) b i e
theorem stA1_at : stA1 O c (ix3 b i e) = if k1R (xr 1 c) ≤ i.1 ∧ i.1 < k1R (xr 1 c) + 128 then O (xr 1 c) (ix3 b i e) else O c (ix3 b i e) :=
  put_rows 128 _ _ (k0_off54_inb c) (off54_eq c) _ (O (xr 1 c)) _ (fun b r e hr => by
    pointwise [k0_pay83, sA1, k0_pay82]
    exact sub_rows 128 _ _ _ (off53_eq _) _ b r e hr) b i e
theorem stA0_at : stA0 O c (ix3 b i e) = if k0R (xr 0 c) ≤ i.1 ∧ i.1 < k0R (xr 0 c) + 256 then O (xr 0 c) (ix3 b i e) else O c (ix3 b i e) :=
  put_rows 256 _ _ (k0_off56_inb c) (off56_eq c) _ (O (xr 0 c)) _ (fun b r e hr => by
    pointwise [k0_pay1, sA0, k0_pay84]
    exact sub_rows 256 _ _ _ (off55_eq _) _ b r e hr) b i e

/-- Every row of every device's result is the sum of the devices' rows. -/
theorem oA0_at : oA0 O c (ix3 b i e) = ∑ d : Dev nD, O d (ix3 b i e) := by
  have hi := i.isLt
  obtain ⟨k, hk⟩ : ∃ k : Fin 8, k.1 = i.1 / 64 := ⟨⟨i.1 / 64, by omega⟩, rfl⟩
  simp only [oA0, oA1, oA2, oR3, oR2, oR1, stA0_at, stA1_at, stA2_at, stR2_at, stR1_at, stR0_at]
  have r64 : ∀ d : Dev nD, (k2R d ≤ i.1 ∧ i.1 < k2R d + 64) ↔ k.1 = 4 * (d.1 % 2) + 2 * (d.1 / 2 % 2) + d.1 / 4 := fun d => by
    unfold k2R k1R k0R; omega
  have r128 : ∀ d : Dev nD, (k1R d ≤ i.1 ∧ i.1 < k1R d + 128) ↔ k.1 / 2 = 2 * (d.1 % 2) + d.1 / 2 % 2 := fun d => by
    unfold k1R k0R; omega
  have r256 : ∀ d : Dev nD, (k0R d ≤ i.1 ∧ i.1 < k0R d + 256) ↔ k.1 / 4 = d.1 % 2 := fun d => by
    unfold k0R; omega
  simp only [r64, r128, r256]
  obtain ⟨X, hX⟩ : ∃ X : Dev nD → EReal, ∀ d : Dev nD, O d (ix3 b i e) = X d := ⟨fun d => O d (ix3 b i e), fun _ => rfl⟩
  simp only [hX]
  exact exchanged X c k

end Cert.Proof.Att
-- ==== Proof.RefMask.lean ====
module

public import proofs.«01_k».proof.Proof.Gen.ReferenceIdeal.Run
public import Idealize.ShloMosaic.Lib.Pointwise
public import Idealize.ShloMosaic.Lib.Routing.OpsOrder

/-! The reference's mask: a query row meets the key columns whose block is of its own block's class. -/

@[expose] public section
set_option maxRecDepth 16384
noncomputable section

namespace Cert.Proof.Ref

open Idealize.ShloMosaic Idealize.ShloMosaic.TcCoe
open Cert.ReferenceIdeal Cert.ReferenceIdeal.Gen

/-- The block of a query row. -/
def qb := (select (andi (cmpi .ne (signi (iotaInDim S512 32 0)) (broadcastInDim S512 ![] bcast_S_S512 (signi (id (constantI S_ 32 64#32)))))
    (cmpi .ne (Host.remsi (iotaInDim S512 32 0) (broadcastInDim S512 ![] bcast_S_S512 (id (constantI S_ 32 64#32)))) (broadcastInDim S512 ![] bcast_S_S512 (constantI S_ 32 0#32))))
  (subi (Host.divsi (iotaInDim S512 32 0) (broadcastInDim S512 ![] bcast_S_S512 (id (constantI S_ 32 64#32)))) (broadcastInDim S512 ![] bcast_S_S512 (constantI S_ 32 1#32)))
  (Host.divsi (iotaInDim S512 32 0) (broadcastInDim S512 ![] bcast_S_S512 (id (constantI S_ 32 64#32)))))

theorem qb_at (i : Fin 512) : qb (ix1 i) = BitVec.ofNat 32 (i.1 / 64) := by
  pointwise [qb]
  revert i
  decide +kernel

/-- The block of a key column. -/
def kb := (select (andi (cmpi .ne (signi (iotaInDim S4096 32 0)) (broadcastInDim S4096 ![] bcast_S_S4096 (signi (id (constantI S_ 32 64#32)))))
    (cmpi .ne (Host.remsi (iotaInDim S4096 32 0) (broadcastInDim S4096 ![] bcast_S_S4096 (id (constantI S_ 32 64#32)))) (broadcastInDim S4096 ![] bcast_S_S4096 (constantI S_ 32 0#32))))
  (subi (Host.divsi (iotaInDim S4096 32 0) (broadcastInDim S4096 ![] bcast_S_S4096 (id (constantI S_ 32 64#32)))) (broadcastInDim S4096 ![] bcast_S_S4096 (constantI S_ 32 1#32)))
  (Host.divsi (iotaInDim S4096 32 0) (broadcastInDim S4096 ![] bcast_S_S4096 (id (constantI S_ 32 64#32)))))

theorem kb_at (j : Fin 4096) : kb (ix1 j) = BitVec.ofNat 32 (j.1 / 64) := by
  pointwise [kb]
  revert j
  decide +kernel

/-- Four, as the remainder's divisor is written. -/
def four := select (cmpi .eq (id (constantI S_ 32 4#32)) (constantI S_ 32 0#32)) (constantI S_ 32 1#32) (id (constantI S_ 32 4#32))

/-- The class of a query row's block. -/
def qr :=
  (select (andi (cmpi .ne (cmpi .slt (Host.remsi (broadcastInDim S512x1 ![0] bcast_S512_S512x1_0 qb) (broadcastInDim S512x1 ![] bcast_S_S512x1 four)) (broadcastInDim S512x1 ![] bcast_S_S512x1 (constantI S_ 32 0#32)))
      (broadcastInDim S512x1 ![] bcast_S_S512x1 (cmpi .slt four (constantI S_ 32 0#32))))
      (cmpi .ne (Host.remsi (broadcastInDim S512x1 ![0] bcast_S512_S512x1_0 qb) (broadcastInDim S512x1 ![] bcast_S_S512x1 four)) (broadcastInDim S512x1 ![] bcast_S_S512x1 (constantI S_ 32 0#32))))
    (addi (Host.remsi (broadcastInDim S512x1 ![0] bcast_S512_S512x1_0 qb) (broadcastInDim S512x1 ![] bcast_S_S512x1 four)) (broadcastInDim S512x1 ![] bcast_S_S512x1 four))
    (Host.remsi (broadcastInDim S512x1 ![0] bcast_S512_S512x1_0 qb) (broadcastInDim S512x1 ![] bcast_S_S512x1 four)))
/-- The class of a key column's block. -/
def kr :=
  (select (andi (cmpi .ne (cmpi .slt (Host.remsi (broadcastInDim S1x4096 ![1] bcast_S4096_S1x4096_1 kb) (broadcastInDim S1x4096 ![] bcast_S_S1x4096 four)) (broadcastInDim S1x4096 ![] bcast_S_S1x4096 (constantI S_ 32 0#32)))
      (broadcastInDim S1x4096 ![] bcast_S_S1x4096 (cmpi .slt four (constantI S_ 32 0#32))))
      (cmpi .ne (Host.remsi (broadcastInDim S1x4096 ![1] bcast_S4096_S1x4096_1 kb) (broadcastInDim S1x4096 ![] bcast_S_S1x4096 four)) (broadcastInDim S1x4096 ![] bcast_S_S1x4096 (constantI S_ 32 0#32))))
    (addi (Host.remsi (broadcastInDim S1x4096 ![1] bcast_S4096_S1x4096_1 kb) (broadcastInDim S1x4096 ![] bcast_S_S1x4096 four)) (broadcastInDim S1x4096 ![] bcast_S_S1x4096 four))
    (Host.remsi (broadcastInDim S1x4096 ![1] bcast_S4096_S1x4096_1 kb) (broadcastInDim S1x4096 ![] bcast_S_S1x4096 four)))

theorem four_at : four ix0 = 4#32 := by decide +kernel
theorem qr_at (i : Fin 512) (z : Fin 1) : qr (ix2 i z) = BitVec.ofNat 32 (i.1 / 64 % 4) := by
  pointwise [qr]
  simp only [qb_at, four_at]
  revert i
  decide +kernel
theorem kr_at (z : Fin 1) (j : Fin 4096) : kr (ix2 z j) = BitVec.ofNat 32 (j.1 / 64 % 4) := by
  pointwise [kr]
  simp only [kb_at, four_at]
  revert j
  decide +kernel

/-- The mask. -/
def msk := ori (cmpi .eq (broadcastInDim S512x4096 ![0, 1] bcast_S512x1_S512x4096_0_1 (broadcastInDim S512x1 ![0] bcast_S512_S512x1_0 qb))
    (broadcastInDim S512x4096 ![0, 1] bcast_S1x4096_S512x4096_0_1 (broadcastInDim S1x4096 ![1] bcast_S4096_S1x4096_1 kb)))
  (cmpi .eq (broadcastInDim S512x4096 ![0, 1] bcast_S1x4096_S512x4096_0_1 kr) (broadcastInDim S512x4096 ![0, 1] bcast_S512x1_S512x4096_0_1 qr))

theorem msk_word : ∀ (a : Fin 8) (b : Fin 64), IntOp.ori (IntOp.cmpi .eq (BitVec.ofNat 32 a.1) (BitVec.ofNat 32 b.1))
    (IntOp.cmpi .eq (BitVec.ofNat 32 (b.1 % 4)) (BitVec.ofNat 32 (a.1 % 4))) = if b.1 % 4 = a.1 % 4 then 1#1 else 0#1 := by decide +kernel

/-- The mask is set where the two blocks are of one class. -/
theorem msk_at (i : Fin 512) (j : Fin 4096) : msk (ix2 i j) = if j.1 / 64 % 4 = i.1 / 64 % 4 then 1#1 else 0#1 := by
  pointwise [msk]
  simp only [qb_at, kb_at, kr_at, qr_at]
  exact msk_word ⟨i.1 / 64, by omega⟩ ⟨j.1 / 64, by omega⟩

/-- Whether a row meets a column. -/
def keep := Host.reduce IntOp.ori msk (constantI S_ 1 0#1) reducesTo_S512x4096_S512_d1 h_S_

/-- Every row does. -/
theorem keep_at (i : Fin 512) : keep (ix1 i) = 1#1 := by
  pointwise [keep]
  exact (Routing.fold_ori _ _).2 ⟨⟨i.1, by omega⟩, Finset.mem_univ _, by rw [msk_at]; exact if_pos rfl⟩

end Cert.Proof.Ref
-- ==== Proof.RefTerm.lean ====
module

public import proofs.«01_k».proof.Proof.RefMask

/-! The reference's result in parts: the masked scores, their exponentials, the weights, the result. -/

@[expose] public section
set_option maxRecDepth 16384
noncomputable section

namespace Cert.Proof.Ref

open Idealize.ShloMosaic Idealize.ShloMosaic.TcCoe
open Cert.ReferenceIdeal Cert.ReferenceIdeal.Gen

/-- The scores, masked. -/
def sc (x : FVec Ideal S2x512x768 .bf16) (wq : FVec Ideal S768x4096 .bf16) (k : FVec Ideal S2x4096x64x64 .bf16) : FVec Ideal S2x64x512x4096 .f32 :=
  select (broadcastInDim S2x64x512x4096 ![0, 1, 2, 3] bcast_S1x1x512x4096_S2x64x512x4096_0_1_2_3 (broadcastInDim S1x1x512x4096 ![2, 3] bcast_S512x4096_S1x1x512x4096_2_3 msk))
    (mulf (Host.dotGeneral dot_S2x512x64x64_S2x4096x64x64_S2x64x512x4096_3_3_1_1_02_02 none
        (shapeCast _ (Host.dotGeneral dot_S2x512x768_S768x4096_S2x512x4096_2_0_01_1_n_n none (extf .f32 x bitsLt_bf16_f32) (extf .f32 wq bitsLt_bf16_f32)) shapeCasts_S2x512x4096_S2x512x64x64)
        (extf .f32 k bitsLt_bf16_f32))
      (broadcastInDim S2x64x512x4096 ![] bcast_S_S2x64x512x4096 (constant S_ .f32 0x3E000000#32)))
    (broadcastInDim S2x64x512x4096 ![] bcast_S_S2x64x512x4096 (id (constant S_ .f32 0xFF800000#32)))

/-- The exponentials of the scores less their row's largest. -/
def ex (s : FVec Ideal S2x64x512x4096 .f32) : FVec Ideal S2x64x512x4096 .f32 :=
  Host.exp (subf s (broadcastInDim S2x64x512x4096 ![0, 1, 2, 3] bcast_S2x64x512x1_S2x64x512x4096_0_1_2_3
    (broadcastInDim S2x64x512x1 ![0, 1, 2] bcast_S2x64x512_S2x64x512x1_0_1_2
      (Host.reduce FloatOps.maximumf s (constant S_ .f32 0xFF800000#32) reducesTo_S2x64x512x4096_S2x64x512_d3 h_S_))))

/-- The weights. -/
def wt (s : FVec Ideal S2x64x512x4096 .f32) : FVec Ideal S2x64x512x4096 .f32 :=
  select (broadcastInDim S2x64x512x4096 ![0, 1, 2, 3] bcast_S1x1x512x1_S2x64x512x4096_0_1_2_3 (broadcastInDim S1x1x512x1 ![2] bcast_S512_S1x1x512x1_2 keep))
    (Host.divf (ex s) (broadcastInDim S2x64x512x4096 ![0, 1, 2, 3] bcast_S2x64x512x1_S2x64x512x4096_0_1_2_3
      (select (broadcastInDim S2x64x512x1 ![0, 1, 2, 3] bcast_S1x1x512x1_S2x64x512x1_0_1_2_3 (broadcastInDim S1x1x512x1 ![2] bcast_S512_S1x1x512x1_2 keep))
        (broadcastInDim S2x64x512x1 ![0, 1, 2] bcast_S2x64x512_S2x64x512x1_0_1_2
          (Host.reduceAdd (ex s) (constant S_ .f32 0x00000000#32) reducesTo_S2x64x512x4096_S2x64x512_d3 h_S_))
        (broadcastInDim S2x64x512x1 ![] bcast_S_S2x64x512x1 (id (constant S_ .f32 0x3F800000#32))))))
    (broadcastInDim S2x64x512x4096 ![] bcast_S_S2x64x512x4096 (id (constant S_ .f32 0x00000000#32)))

/-- The result. -/
def res (w : FVec Ideal S2x64x512x4096 .f32) (v : FVec Ideal S2x4096x64x64 .bf16) (wo : FVec Ideal S4096x768 .bf16) : FVec Ideal S2x512x768 .f32 :=
  Host.dotGeneral dot_S2x512x4096_S4096x768_S2x512x768_2_0_01_1_n_n none
    (shapeCast _ (transpose S2x512x64x64 [0, 3, 1, 2] (Host.dotGeneral dot_S2x4096x64x64_S2x64x512x4096_S2x64x64x512_1_3_3_2_02_01 none (extf .f32 v bitsLt_bf16_f32) w)
      transposes_S2x64x64x512_S2x512x64x64_0_3_1_2) shapeCasts_S2x512x64x64_S2x512x4096) (extf .f32 wo bitsLt_bf16_f32)

theorem res_eq (m : (ℓ : Loc nD τ sig) → Buf (Elt Ideal) ℓ) (c : Dev nD) : Value.res_main_v44 m c =
    res (wt (sc (m ((c.tc : Thread nD τ).loc main_arg0)) (m ((c.tc : Thread nD τ).loc main_arg1)) (m ((c.tc : Thread nD τ).loc main_arg2))))
      (m ((c.tc : Thread nD τ).loc main_arg3)) (m ((c.tc : Thread nD τ).loc main_arg4)) := by
  unfold Value.res_main_v44 res wt ex sc keep msk kr qr four qb kb
  rfl

end Cert.Proof.Ref
-- ==== Proof.RefAt.lean ====
module

public import proofs.«01_k».proof.Proof.RefTerm
public import proofs.«01_k».proof.Proof.Blk

/-! The reference's result at an index: a masked softmax over all keys, through the output weight. -/

@[expose] public section
set_option maxRecDepth 16384
noncomputable section

namespace Cert.Proof.Ref

open Idealize.ShloMosaic Idealize.ShloMosaic.TcCoe
open Cert.ReferenceIdeal Cert.ReferenceIdeal.Gen
open Cert.Proof.Att (soft neg_inf)

variable (x : FVec Ideal S2x512x768 .bf16) (wq : FVec Ideal S768x4096 .bf16) (k v : FVec Ideal S2x4096x64x64 .bf16) (wo : FVec Ideal S4096x768 .bf16)

/-- A score: where the mask is not set it is −∞. -/
def score (b : Fin 2) (h : Fin 64) (i : Fin 512) (j : Fin 4096) : EReal :=
  if j.1 / 64 % 4 = i.1 / 64 % 4 then
    (∑ d : Fin 64, (∑ e : Fin 768, x (ix3 b i e) * wq (ix2 e ⟨h.1 * 64 + d.1, by omega⟩)) * k (ix4 b j h d)) * Ideal.ofBits .f32 0x3E000000#32
  else ⊥

theorem sel_one {X : Type} (u v : X) : Scalar.select (1#1) u v = u := rfl
theorem sel_zero {X : Type} (u v : X) : Scalar.select (0#1) u v = v := rfl

theorem sc_at (b : Fin 2) (h : Fin 64) (i : Fin 512) (j : Fin 4096) : sc x wq k (ix4 b h i j) = score x wq k b h i j := by
  pointwise [sc]
  rw [msk_at]
  unfold score
  split
  · rw [sel_one]
  · rw [sel_zero]
    exact neg_inf

theorem ex_at (s : FVec Ideal S2x64x512x4096 .f32) (b : Fin 2) (h : Fin 64) (i : Fin 512) (j : Fin 4096) :
    ex s (ix4 b h i j) = Ideal.exp (s (ix4 b h i j) - Finset.univ.fold max ⊥ fun j : Fin 4096 => s (ix4 b h i j)) := by
  pointwise [ex]
  rw [neg_inf]

theorem wt_at (s : FVec Ideal S2x64x512x4096 .f32) (b : Fin 2) (h : Fin 64) (i : Fin 512) (j : Fin 4096) :
    wt s (ix4 b h i j) = Ideal.div (ex s (ix4 b h i j)) (∑ j : Fin 4096, ex s (ix4 b h i j)) := by
  have hk := keep_at i
  unfold wt
  generalize keep = kp at hk ⊢
  generalize ex s = E
  pointwise
  rw [hk, sel_one, sel_one]

/-- The head and the feature of a column of the output weight's rows. -/
def hd (n : Fin 4096) : Fin 64 := ⟨n.1 / 64, by omega⟩
def ft (n : Fin 4096) : Fin 64 := ⟨n.1 % 64, by omega⟩

theorem res_at (w : FVec Ideal S2x64x512x4096 .f32) (b : Fin 2) (i : Fin 512) (e : Fin 768) :
    res w v wo (ix3 b i e) = ∑ n : Fin 4096, (∑ j : Fin 4096, w (ix4 b (hd n) i j) * v (ix4 b j (hd n) (ft n))) * wo (ix2 n e) := by
  pointwise [res]
  exact Finset.sum_congr rfl fun n _ => congrArg (· * _) (Finset.sum_congr rfl fun j _ => mul_comm _ _)

/-- The reference's result: for each head and feature, the softmax over all keys of the masked scores, against the
    values, through the output weight. -/
theorem out_at (b : Fin 2) (i : Fin 512) (e : Fin 768) :
    res (wt (sc x wq k)) v wo (ix3 b i e) = ∑ n : Fin 4096,
      soft (score x wq k b (hd n) i) (fun j => v (ix4 b j (hd n) (ft n))) * wo (ix2 n e) := by
  have hs : ∀ n : Fin 4096, (∑ j : Fin 4096, wt (sc x wq k) (ix4 b (hd n) i j) * v (ix4 b j (hd n) (ft n)))
      = soft (score x wq k b (hd n) i) (fun j => v (ix4 b j (hd n) (ft n))) := fun n => by
    simp only [wt_at, ex_at, sc_at]
    unfold soft
    with_reducible rfl
  rw [res_at]
  exact Finset.sum_congr rfl fun n _ => by rw [hs n]

end Cert.Proof.Ref
-- ==== Proof.Value.lean ====
module

public import proofs.«01_k».proof.Proof.Real
public import proofs.«01_k».proof.Proof.Loop
public import proofs.«01_k».proof.Proof.Query
public import proofs.«01_k».proof.Proof.Operand
public import proofs.«01_k».proof.Proof.Reduce
public import proofs.«01_k».proof.Proof.RefAt

/-! The equation: what every device holds in the end is the reference's result. -/

@[expose] public section
set_option maxRecDepth 16384
noncomputable section

namespace Cert.Proof.Att

open Idealize.ShloMosaic Idealize.ShloMosaic.TcCoe
open Cert.KernelIdeal Cert.KernelIdeal.Gen
open Cert.Proof.Ref (score hd ft)

variable (X : FVec Ideal ⟨3, ![2, 512, 768]⟩ .bf16) (WQ : FVec Ideal ⟨2, ![768, 4096]⟩ .bf16) (KK VV : FVec Ideal ⟨4, ![2, 4096, 64, 64]⟩ .bf16)
  (WO : FVec Ideal ⟨2, ![4096, 768]⟩ .bf16)

/-- The arguments are finite where the scores read them. -/
structure Fin3 : Prop where
  x : ∀ b i e, IsR (X (ix3 b i e))
  w : ∀ e n, IsR (WQ (ix2 e n))
  k : ∀ b j h d, IsR (KK (ix4 b j h d))

/-- The masked softmax over all columns is the softmax over the row's class, device by device. -/
theorem soft_class (hf : Fin3 X WQ KK) (b : Fin 2) (h : Fin 64) (i : Fin 512) (cl : Fin 4) (hcl : cl.1 = i.1 / 64 % 4) (v : Fin 4096 → EReal) :
    soft (score X WQ KK b h i) v
      = soft (fun k : Fin 8 × Fin 128 => ∑ d : Fin 64, ((∑ e : Fin 768, X (ix3 b i e) * WQ (ix2 e ⟨h.1 * 64 + d.1, by omega⟩)) * Ideal.ofBits .f32 0x3E000000#32)
          * KK (ix4 b (colOf cl k) h d)) (fun k => v (colOf cl k)) := by
  have hq : ∀ d : Fin 64, IsR (∑ e : Fin 768, X (ix3 b i e) * WQ (ix2 e ⟨h.1 * 64 + d.1, by omega⟩)) := fun d => IsR.sum fun e => (hf.x _ _ _).mul (hf.w _ _)
  have he : ∀ k, score X WQ KK b h i (colOf cl k) = (∑ d : Fin 64, (∑ e : Fin 768, X (ix3 b i e) * WQ (ix2 e ⟨h.1 * 64 + d.1, by omega⟩)) * KK (ix4 b (colOf cl k) h d))
      * Ideal.ofBits .f32 0x3E000000#32 := fun k => if_pos ((colOf_cls cl k).trans hcl)
  refine (soft_masked (colOf cl) (colOf_inj cl) _ v (fun k => ?_) fun j hj => ?_).trans ?_
  · rw [he]
    exact (IsR.sum fun d => (hq d).mul (hf.k _ _ _ _)).mul eighth
  · refine if_neg fun hc => ?_
    obtain ⟨k, hk⟩ := colOf_surj cl j (hc.trans hcl.symm)
    exact hj k hk
  · refine congrArg (fun s => soft s _) (funext fun k => ?_)
    rw [he]
    exact (scaled hq (fun d => hf.k _ _ _ _) eighth).symm

variable (m : (ℓ : Loc nD τ sig) → Buf (Elt Ideal) ℓ)

/-- The devices' arguments are the blocks of the whole arrays. -/
structure Cut : Prop where
  x : ∀ c : Dev nD, ∀ b i e, m ((c : Thread nD τ).loc main_arg0) (ix3 b i e) = X (ix3 b i e)
  w : ∀ c : Dev nD, ∀ (e : Fin 768) (j : Fin 512) (n : Fin 4096), n.1 = 512 * c.1 + j.1 → m ((c : Thread nD τ).loc main_arg1) (ix2 e j) = WQ (ix2 e n)
  k : ∀ c : Dev nD, ∀ (b : Fin 2) (j : Fin 512) (h d : Fin 64) (n : Fin 4096), n.1 = 512 * c.1 + j.1 → m ((c : Thread nD τ).loc main_arg2) (ix4 b j h d) = KK (ix4 b n h d)
  v : ∀ c : Dev nD, ∀ (b : Fin 2) (j : Fin 512) (h d : Fin 64) (n : Fin 4096), n.1 = 512 * c.1 + j.1 → m ((c : Thread nD τ).loc main_arg3) (ix4 b j h d) = VV (ix4 b n h d)
  o : ∀ c : Dev nD, ∀ (j : Fin 512) (e : Fin 768) (n : Fin 4096), n.1 = 512 * c.1 + j.1 → m ((c : Thread nD τ).loc main_arg4) (ix2 j e) = WO (ix2 n e)

/-- A head's part on a device, over the whole arrays. -/
theorem head_whole (hc : Cut X WQ KK VV WO m) (hf : Fin3 X WQ KK) (c h : Fin 8) (b : Fin 2) (i : Fin 512) (e : Fin 768) :
    headPart (qF (xOf m c) (wqOf m c)) (woOf m c) (gath (ktOf m) c) (gath (vtOf m) c) b h i e
      = ∑ d : Fin 64, soft (score X WQ KK b (hd (rowOf c h d)) i) (fun j => VV (ix4 b j (hd (rowOf c h d)) (ft (rowOf c h d)))) * WO (ix2 (rowOf c h d) e) := by
  have hH : ∀ d, hd (rowOf c h d) = ⟨8 * c.1 + h.1, by omega⟩ := fun d => Fin.ext (by simp only [hd, rowOf]; omega)
  have hF : ∀ d, ft (rowOf c h d) = d := fun d => Fin.ext (by simp only [ft, rowOf]; omega)
  unfold headPart
  refine Finset.sum_congr rfl fun d _ => ?_
  rw [hH, hF, soft_class X WQ KK hf b _ i ⟨i.1 / 64 % 4, by omega⟩ rfl]
  have hq : ∀ x : Fin 64, qF (xOf m c) (wqOf m c) (ix3 ⟨8 * b.1 + h.1, by omega⟩ i x)
      = (∑ e : Fin 768, X (ix3 b i e) * WQ (ix2 e ⟨(8 * c.1 + h.1) * 64 + x.1, by omega⟩)) * Ideal.ofBits .f32 0x3E000000#32 := fun x => by
    rw [qF_at, qMat, xOf_eq, wqOf_eq]
    refine congrArg (· * _) (Finset.sum_congr rfl fun e _ => ?_)
    rw [hc.x, hc.w c e _ ⟨(8 * c.1 + h.1) * 64 + x.1, by omega⟩ (by simp only; omega)]
  have hk : ∀ (k : Fin 8 × Fin 128) (x : Fin 64), gath (ktOf m) c (ix6 k.1 b h ⟨i.1 / 64 % 4, by omega⟩ k.2 x)
      = KK (ix4 b (colOf ⟨i.1 / 64 % 4, by omega⟩ k) ⟨8 * c.1 + h.1, by omega⟩ x) := fun k x => by
    rw [gath_at, ktOf_at]
    exact hc.k k.1 b _ _ x (colOf ⟨i.1 / 64 % 4, by omega⟩ k) rfl
  have hv : ∀ (k : Fin 8 × Fin 128) (x : Fin 64), gath (vtOf m) c (ix6 k.1 b h ⟨i.1 / 64 % 4, by omega⟩ k.2 x)
      = VV (ix4 b (colOf ⟨i.1 / 64 % 4, by omega⟩ k) ⟨8 * c.1 + h.1, by omega⟩ x) := fun k x => by
    rw [gath_at, vtOf_at]
    exact hc.v k.1 b _ _ x (colOf ⟨i.1 / 64 % 4, by omega⟩ k) rfl
  have ho : woOf m c (ix2 ⟨64 * h.1 + d.1, by omega⟩ e) = WO (ix2 (rowOf c h d) e) := by
    rw [woOf_eq]
    exact hc.o c _ e (rowOf c h d) (by simp only [rowOf]; omega)
  rw [ho]
  simp only [hq, hk, hv]

/-- Every device ends with the reference's result. -/
theorem out_whole (hc : Cut X WQ KK VV WO m) (hf : Fin3 X WQ KK) (c : Dev nD) : outOf m c = Ref.res (Ref.wt (Ref.sc X WQ KK)) VV WO := by
  funext j
  obtain ⟨b, i, e, rfl⟩ : ∃ (b : Fin 2) (i : Fin 512) (e : Fin 768), j = ix3 b i e := ⟨j 0, j 1, j 2, eq_ix3 j⟩
  rw [outOf_eq, oA0_at, Ref.out_at, sum_rows]
  refine Finset.sum_congr rfl fun c' _ => ?_
  unfold part
  rw [oLoop_full _ _ _ _ _ _ _ _ (oZ_at b i e)]
  exact Finset.sum_congr rfl fun h _ => head_whole X WQ KK VV WO m hc hf c' h b i e

end Cert.Proof.Att
-- ==== Proof.Finite.lean ====
module

public import proofs.«01_k».proof.Proof.Value
public import proofs.«01_k».proof.Defs

/-! The claim's premises, at an index. -/

@[expose] public section
set_option maxRecDepth 16384
noncomputable section

namespace Cert.Proof.Att

open Idealize.ShloMosaic Idealize.ShloMosaic.TcCoe

theorem pos_inf : Ideal.ofBits .f32 0x7F800000#32 = ⊤ := by simp [Ideal.ofBits, Ideal.ieee]

/-- A number below +∞ in magnitude is real. -/
theorem real_of_word (x : EReal) (h : BitVec.ofBool (decide (max x (-x) < Ideal.ofBits .f32 0x7F800000#32)) = 1#1) : IsR x := by
  have hlt : max x (-x) < ⊤ := by
    rw [← pos_inf]
    by_contra hn
    rw [decide_eq_false hn] at h
    exact absurd h (by decide)
  obtain ⟨h1, h2⟩ := max_lt_iff.mp hlt
  refine ⟨x.toReal, (EReal.coe_toReal h1.ne fun hb => ?_).symm⟩
  rw [hb] at h2
  exact absurd h2 (by simp)

section
open Cert.Pre_finite_scores_KernelIdeal
variable [Facts] (a0 : FVec Ideal S2x512x768 .bf16) (a1 : FVec Ideal S768x512 .bf16) (a2 a3 : FVec Ideal S2x512x64x64 .bf16) (a4 : FVec Ideal S512x768 .bf16)

/-- The precondition read at an index: the activations, the query weight and the keys are real. -/
theorem fin_x (h : (fn a0 a1 a2 a3 a4).1 = fun _ => 1#1) (b : Fin 2) (i : Fin 512) (e : Fin 768) : IsR (a0 (ix3 b i e)) := by
  refine real_of_word _ ((Eq.symm ?_).trans (congrFun h (ix3 b i e)))
  pointwise [fn]
  rfl
theorem fin_w (h : (fn a0 a1 a2 a3 a4).2.1 = fun _ => 1#1) (e : Fin 768) (n : Fin 512) : IsR (a1 (ix2 e n)) := by
  refine real_of_word _ ((Eq.symm ?_).trans (congrFun h (ix2 e n)))
  pointwise [fn]
  rfl
theorem fin_k (h : (fn a0 a1 a2 a3 a4).2.2 = fun _ => 1#1) (b : Fin 2) (j : Fin 512) (g d : Fin 64) : IsR (a2 (ix4 b j g d)) := by
  refine real_of_word _ ((Eq.symm ?_).trans (congrFun h (ix4 b j g d)))
  pointwise [fn]
  rfl
end

/-- A device's block of columns of the query weight, of rows of the keys or values, of rows of the output weight. -/
theorem cut_w (v : (⟨2, ![768, 4096]⟩ : Shape).Idx → EReal) (c : Fin 8) (e : Fin 768) (j : Fin 512) (n : Fin 4096) (hn : n.1 = 512 * c.1 + j.1) :
    Layout.block ⟨2, ![768, 512]⟩ ⟨2, ![768, 4096]⟩ 1 8 c v (by decide) (ix2 e j) = v (ix2 e n) := by
  rw [Layout.block_apply]
  refine congrArg v (funext fun a => Fin.ext ((Layout.Tiles.idx_val _ _ _ _).trans ?_))
  fin_cases a
  · rfl
  · simp [hn]; omega
theorem cut_k (v : (⟨4, ![2, 4096, 64, 64]⟩ : Shape).Idx → EReal) (c : Fin 8) (b : Fin 2) (j : Fin 512) (h d : Fin 64) (n : Fin 4096) (hn : n.1 = 512 * c.1 + j.1) :
    Layout.block ⟨4, ![2, 512, 64, 64]⟩ ⟨4, ![2, 4096, 64, 64]⟩ 1 8 c v (by decide) (ix4 b j h d) = v (ix4 b n h d) := by
  rw [Layout.block_apply]
  refine congrArg v (funext fun a => Fin.ext ((Layout.Tiles.idx_val _ _ _ _).trans ?_))
  fin_cases a
  · rfl
  · simp [hn]; omega
  · rfl
  · rfl
theorem cut_o (v : (⟨2, ![4096, 768]⟩ : Shape).Idx → EReal) (c : Fin 8) (j : Fin 512) (e : Fin 768) (n : Fin 4096) (hn : n.1 = 512 * c.1 + j.1) :
    Layout.block ⟨2, ![512, 768]⟩ ⟨2, ![4096, 768]⟩ 0 8 c v (by decide) (ix2 j e) = v (ix2 n e) := by
  rw [Layout.block_apply]
  refine congrArg v (funext fun a => Fin.ext ((Layout.Tiles.idx_val _ _ _ _).trans ?_))
  fin_cases a
  · simp [hn]; omega
  · rfl

end Cert.Proof.Att
-- ==== Proof.lean ====
/- The frames, the preservation and the equation of the sparse attention on eight devices. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Finite
public import Idealize.ShloMosaic.Lib.Quiescent

@[expose] public section

noncomputable section

namespace Cert.Proof

open Idealize.ShloMosaic Idealize.SL.Sem

attribute [local instance] Cert.Kernel.Gen.facts Cert.KernelIdeal.Gen.facts Cert.ReferenceIdeal.Gen.facts

/-- The two printings of the kernel have the same body. -/
theorem body_same : Cert.Kernel.defs₀ (F := Bits) = Cert.KernelIdeal.defs₀ (F := Bits) := by
  unfold Cert.Kernel.defs₀ Cert.KernelIdeal.defs₀
  refine congrArg (fun x => Defs.onTc x) (funext fun l => funext fun a => ?_)
  match l, a with
  | 0, (t, s) => rfl
  | ⟨_ + 1, h⟩, _ => exact absurd h (Nat.not_lt.2 (Nat.le_add_left _ _))
theorem defs_same : Cert.Kernel.defs (F := Bits) = Cert.KernelIdeal.defs (F := Bits) :=
  congrArg (Pipeline.defs (Cert.Kernel.pcfgs (F := Bits))) body_same

/-- The kernel at bf16 and f32 ends, keeps its arguments and leaves every semaphore at zero. -/
theorem frame_kernel : Cert.quiescent_Kernel := fun m ρ _ => by
  rw [defs_same]
  exact (θ_run (Cert.KernelIdeal.defs (F := Bits)) _ _).mono
    (fun _ h => ⟨fun c => ⟨(h.1 c).1, (h.1 c).2.1, (h.1 c).2.2.1, (h.1 c).2.2.2.1, (h.1 c).2.2.2.2.1⟩, h.2⟩) (Att.run_main (F := Bits) m ρ)

/-- So does the kernel over the reals. -/
theorem frame_ideal : Cert.quiescent_KernelIdeal := fun m ρ _ =>
  (θ_run Cert.KernelIdeal.defs _ _).mono (fun _ h => ⟨fun c => ⟨(h.1 c).1, (h.1 c).2.1, (h.1 c).2.2.1, (h.1 c).2.2.2.1, (h.1 c).2.2.2.2.1⟩, h.2⟩)
    (Att.run_main (F := Ideal) m ρ)

/-- So does the reference over the reals, which has no semaphore. -/
theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run m ρ)

theorem pre_kernel : Cert.Pre_finite_scores_KernelIdeal.Facts := ⟨by decide, by decide, by decide, by decide⟩
theorem pre_reference : Cert.Pre_finite_scores_ReferenceIdeal.Facts := ⟨by decide, by decide, by decide, by decide⟩
attribute [local instance] pre_kernel pre_reference

/-- Over the reals, from blocks of the same arrays, finite activations, query weight and keys: every device ends with the
    reference's result. -/
theorem equation : Cert.algebraic_KernelIdeal_ReferenceIdeal_pre_finite_scores_KernelIdeal := fun m ρ m' ρ' hp h => by
  have hc : Att.Cut (m' (((0 : Dev Cert.ReferenceIdeal.nD).tc : Thread _ _).loc Cert.ReferenceIdeal.main_arg0))
      (m' (((0 : Dev Cert.ReferenceIdeal.nD).tc : Thread _ _).loc Cert.ReferenceIdeal.main_arg1))
      (m' (((0 : Dev Cert.ReferenceIdeal.nD).tc : Thread _ _).loc Cert.ReferenceIdeal.main_arg2))
      (m' (((0 : Dev Cert.ReferenceIdeal.nD).tc : Thread _ _).loc Cert.ReferenceIdeal.main_arg3))
      (m' (((0 : Dev Cert.ReferenceIdeal.nD).tc : Thread _ _).loc Cert.ReferenceIdeal.main_arg4)) m :=
    { x := fun c b i e => congrFun (h c).1 (ix3 b i e)
      w := fun c e j n hn => (congrFun (h c).2.1 (ix2 e j)).trans (Att.cut_w _ c e j n hn)
      k := fun c b j g d n hn => (congrFun (h c).2.2.1 (ix4 b j g d)).trans (Att.cut_k _ c b j g d n hn)
      v := fun c b j g d n hn => (congrFun (h c).2.2.2.1 (ix4 b j g d)).trans (Att.cut_k _ c b j g d n hn)
      o := fun c j e n hn => (congrFun (h c).2.2.2.2 (ix2 j e)).trans (Att.cut_o _ c j e n hn) }
  have hf : Att.Fin3 (m' (((0 : Dev Cert.ReferenceIdeal.nD).tc : Thread _ _).loc Cert.ReferenceIdeal.main_arg0))
      (m' (((0 : Dev Cert.ReferenceIdeal.nD).tc : Thread _ _).loc Cert.ReferenceIdeal.main_arg1))
      (m' (((0 : Dev Cert.ReferenceIdeal.nD).tc : Thread _ _).loc Cert.ReferenceIdeal.main_arg2)) :=
    { x := fun b i e => hc.x 0 b i e ▸ Att.fin_x _ _ _ _ _ (hp 0).1 b i e
      w := fun e n => hc.w ⟨n.1 / 512, by unfold Cert.KernelIdeal.nD; omega⟩ e ⟨n.1 % 512, by omega⟩ n (by dsimp only; omega) ▸ Att.fin_w _ _ _ _ _ (hp _).2.1 e _
      k := fun b n g d => hc.k ⟨n.1 / 512, by unfold Cert.KernelIdeal.nD; omega⟩ b ⟨n.1 % 512, by omega⟩ g d n (by dsimp only; omega) ▸ Att.fin_k _ _ _ _ _ (hp _).2.2 b _ g d }
  refine ⟨Cert.ReferenceIdeal.Value.res_main_v44 m' 0, (θ_run Cert.KernelIdeal.defs _ _).mono (fun _ r c => ?_) (Att.run_main (F := Ideal) m ρ),
    (θ_run Cert.ReferenceIdeal.defs _ _).mono (fun _ r => r 0) (Cert.ReferenceIdeal.Value.run m' ρ')⟩
  obtain ⟨r0, r1, r2, r3, r4, r5⟩ := r.1 c
  exact ⟨r5.trans ((Att.out_whole _ _ _ _ _ m hc hf c).trans (Ref.res_eq m' 0).symm), r0, r1, r2, r3, r4⟩

theorem claim : Cert.Claim := ⟨Cert.Kernel.Gen.facts, Cert.KernelIdeal.Gen.facts, Cert.ReferenceIdeal.Gen.facts, pre_kernel, pre_reference, frame_kernel, frame_ideal,
  fun m ρ _ => frame_ideal m ρ trivial, frame_reference, fun m ρ _ => frame_reference m ρ trivial, trivial, equation⟩

end Cert.Proof

end
